-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tree_inputs [hPre_tree_inputs : Cert.Pre_tree_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_tree_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tree_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_tree_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tree_inputs [hPre_tree_inputs : Cert.Pre_tree_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tree_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tree_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_tree_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tree_inputs [hKernelIdeal : Cert.KernelIdeal.Facts] [hPre_tree_inputs : Cert.Pre_tree_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tree_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tree_inputs [hReferenceIdeal : Cert.ReferenceIdeal.Facts] [hPre_tree_inputs : Cert.Pre_tree_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tree_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tree_inputs [hKernelIdeal : Cert.KernelIdeal.Facts] [hReferenceIdeal : Cert.ReferenceIdeal.Facts] [hPre_tree_inputs : Cert.Pre_tree_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tree_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tree_inputs : Cert.Pre_tree_inputs.Facts),
    quiescent_Kernel (hKernel := hKernel)
    ∧ quiescent_KernelIdeal (hKernelIdeal := hKernelIdeal)
    ∧ quiescent_KernelIdeal_pre_tree_inputs (hKernelIdeal := hKernelIdeal) (hPre_tree_inputs := hPre_tree_inputs)
    ∧ quiescent_ReferenceIdeal (hReferenceIdeal := hReferenceIdeal)
    ∧ quiescent_ReferenceIdeal_pre_tree_inputs (hReferenceIdeal := hReferenceIdeal) (hPre_tree_inputs := hPre_tree_inputs)
    ∧ preserves_Kernel_KernelIdeal
    ∧ algebraic_KernelIdeal_ReferenceIdeal_pre_tree_inputs (hKernelIdeal := hKernelIdeal) (hReferenceIdeal := hReferenceIdeal) (hPre_tree_inputs := hPre_tree_inputs)
-- ==== Pre_tree_inputs.lean ====
abbrev S69905x256 : Shape := ⟨2, ![69905, 256]⟩
abbrev S2x69904 : Shape := ⟨2, ![2, 69904]⟩
abbrev S256x512 : Shape := ⟨2, ![256, 512]⟩
abbrev S512 : Shape := ⟨1, ![512]⟩
abbrev S256x256 : Shape := ⟨2, ![256, 256]⟩
abbrev S1x69904 : Shape := ⟨2, ![1, 69904]⟩
abbrev S69904 : Shape := ⟨1, ![69904]⟩
abbrev S_ : Shape := ⟨0, ![]⟩

class Facts : Prop where
  slices_S2x69904_S1x69904_0_0 : S2x69904.Slices ![0, 0] S1x69904
  shapeCasts_S1x69904_S69904 : S1x69904.ShapeCasts S69904
  bcast_S_S69904 : S_.BroadcastsInDim S69904 (![] : Fin 0 → Fin S69904.rank)
  reducesTo_S69904_S_d0 : S69904.ReducesTo [0] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S69905x256 .f32) (main_arg1 : IVec S2x69904 32) (main_arg2 : FVec F S256x512 .f32) (main_arg3 : FVec F S512 .f32) (main_arg4 : FVec F S256x256 .f32) (main_arg5 : FVec F S256x256 .f32) : IVec S_ 1 × IVec S_ 1 × IVec S_ 1 :=
  let main_v0 : IVec S1x69904 32 := (extractStridedSlice S1x69904 ![0, 0] · slices_S2x69904_S1x69904_0_0) main_arg1
  let main_v1 : IVec S69904 32 := shapeCast S69904 main_v0 shapeCasts_S1x69904_S69904
  let main_v2 : IVec S69904 32 := iotaInDim S69904 32 0
  let main_c : IVec S_ 32 := constantI S_ 32 1#32
  let main_v3 : IVec S69904 32 := broadcastInDim S69904 ![] bcast_S_S69904 main_c
  let main_v4 : IVec S69904 32 := addi main_v3 main_v2
  let main_v5 : IVec S69904 1 := cmpi .eq main_v1 main_v4
  let main_c_0 : IVec S_ 1 := constantI S_ 1 1#1
  let main_v6 : IVec S_ 1 := (fun x v => Host.reduce IntOp.andi x v reducesTo_S69904_S_d0 h_S_) main_v5 main_c_0
  let main_v7 : FVec F S256x256 .f32 := Host.absf main_arg4
  let main_cst : FVec F S_ .f32 := constant S_ .f32 0x7F800000#32
  let main_v8 : FVec F S256x256 .f32 := broadcastInDim S256x256 ![] bcast_S_S256x256 main_cst
  let main_v9 : IVec S256x256 1 := cmpf .olt main_v7 main_v8
  let main_c_1 : IVec S_ 1 := constantI S_ 1 1#1
  let main_v10 : IVec S_ 1 := (fun x v => Host.reduce IntOp.andi x v reducesTo_S256x256_S_d0_1 h_S_) main_v9 main_c_1
  let main_v11 : FVec F S256x256 .f32 := Host.absf main_arg5
  let main_cst_2 : FVec F S_ .f32 := constant S_ .f32 0x7F800000#32
  let main_v12 : FVec F S256x256 .f32 := broadcastInDim S256x256 ![] bcast_S_S256x256 main_cst_2
  let main_v13 : IVec S256x256 1 := cmpf .olt main_v11 main_v12
  let main_c_3 : IVec S_ 1 := constantI S_ 1 1#1
  let main_v14 : IVec S_ 1 := (fun x v => Host.reduce IntOp.andi x v reducesTo_S256x256_S_d0_1 h_S_) main_v13 main_c_3
  (main_v6, main_v10, main_v14)
-- ==== Kernel.lean ====
abbrev S69905x256 : Shape := ⟨2, ![69905, 256]⟩
abbrev S2x69904 : Shape := ⟨2, ![2, 69904]⟩
abbrev S256x512 : Shape := ⟨2, ![256, 512]⟩
abbrev S512 : Shape := ⟨1, ![512]⟩
abbrev S256x256 : Shape := ⟨2, ![256, 256]⟩
abbrev S1x512 : Shape := ⟨2, ![1, 512]⟩
abbrev S2x4112x256 : Shape := ⟨3, ![2, 4112, 256]⟩
abbrev S2x264x256 : Shape := ⟨3, ![2, 264, 256]⟩
abbrev S2x4096x256 : Shape := ⟨3, ![2, 4096, 256]⟩
abbrev S4096x256 : Shape := ⟨2, ![4096, 256]⟩
abbrev S280x256 : Shape := ⟨2, ![280, 256]⟩
abbrev S2x2 : Shape := ⟨2, ![2, 2]⟩
abbrev S_ : Shape := ⟨0, ![]⟩
abbrev S2 : Shape := ⟨1, ![2]⟩
abbrev S4 : Shape := ⟨1, ![4]⟩
abbrev S1x1 : Shape := ⟨2, ![1, 1]⟩
abbrev S1x2056x256 : Shape := ⟨3, ![1, 2056, 256]⟩
abbrev S2056x256 : Shape := ⟨2, ![2056, 256]⟩
abbrev S1 : Shape := ⟨1, ![1]⟩
abbrev S1x264x256 : Shape := ⟨3, ![1, 264, 256]⟩
abbrev S264x256 : Shape := ⟨2, ![264, 256]⟩
abbrev S1x2040x256 : Shape := ⟨3, ![1, 2040, 256]⟩
abbrev S2040x256 : Shape := ⟨2, ![2040, 256]⟩
abbrev S1x1x256 : Shape := ⟨3, ![1, 1, 256]⟩
abbrev S1x256 : Shape := ⟨2, ![1, 256]⟩
abbrev S2048x256 : Shape := ⟨2, ![2048, 256]⟩
abbrev S1x2048x256 : Shape := ⟨3, ![1, 2048, 256]⟩
abbrev S15x256 : Shape := ⟨2, ![15, 256]⟩
abbrev S1x15x256 : Shape := ⟨3, ![1, 15, 256]⟩
abbrev S1x4112x256 : Shape := ⟨3, ![1, 4112, 256]⟩
abbrev S4112x256 : Shape := ⟨2, ![4112, 256]⟩
abbrev S1x256x256 : Shape := ⟨3, ![1, 256, 256]⟩
abbrev S2064x256 : Shape := ⟨2, ![2064, 256]⟩
abbrev S128x512 : Shape := ⟨2, ![128, 512]⟩
abbrev S2064x512 : Shape := ⟨2, ![2064, 512]⟩
abbrev S128x16x256 : Shape := ⟨3, ![128, 16, 256]⟩
abbrev S128x256 : Shape := ⟨2, ![128, 256]⟩
abbrev S128x1x256 : Shape := ⟨3, ![128, 1, 256]⟩
abbrev S7x256 : Shape := ⟨2, ![7, 256]⟩
abbrev S280x512 : Shape := ⟨2, ![280, 512]⟩
abbrev S256x16x256 : Shape := ⟨3, ![256, 16, 256]⟩
abbrev S256x1x256 : Shape := ⟨3, ![256, 1, 256]⟩
abbrev S16x16x256 : Shape := ⟨3, ![16, 16, 256]⟩
abbrev S16x256 : Shape := ⟨2, ![16, 256]⟩
abbrev S16x1x256 : Shape := ⟨3, ![16, 1, 256]⟩
abbrev S1x16x256 : Shape := ⟨3, ![1, 16, 256]⟩
abbrev S4089x256 : Shape := ⟨2, ![4089, 256]⟩
abbrev S4088x256 : Shape := ⟨2, ![4088, 256]⟩
abbrev S1x4088x256 : Shape := ⟨3, ![1, 4088, 256]⟩

abbrev nBuf : Space → Nat
  | .hbm => 8
  | .vmem => 11
  | .smem => 0
  | _ => 0

abbrev bufTy : (tb : Table) → Fin (tcTables nBuf tb) → BufTy
  | .hbm, ⟨0, _⟩ => ⟨S69905x256, .f32⟩
  | .hbm, ⟨1, _⟩ => ⟨S2x69904, .i32⟩
  | .hbm, ⟨2, _⟩ => ⟨S256x512, .f32⟩
  | .hbm, ⟨3, _⟩ => ⟨S512, .f32⟩
  | .hbm, ⟨4, _⟩ => ⟨S256x256, .f32⟩
  | .hbm, ⟨5, _⟩ => ⟨S256x256, .f32⟩
  | .hbm, ⟨6, _⟩ => ⟨S1x512, .f32⟩
  | .hbm, ⟨7, _⟩ => ⟨S69905x256, .f32⟩
  | .local _ .vmem, ⟨0, _⟩ => ⟨S256x512, .f32⟩
  | .local _ .vmem, ⟨1, _⟩ => ⟨S1x512, .f32⟩
  | .local _ .vmem, ⟨2, _⟩ => ⟨S256x256, .f32⟩
  | .local _ .vmem, ⟨3, _⟩ => ⟨S256x256, .f32⟩
  | .local _ .vmem, ⟨4, _⟩ => ⟨S2x4112x256, .f32⟩
  | .local _ .vmem, ⟨5, _⟩ => ⟨S2x264x256, .f32⟩
  | .local _ .vmem, ⟨6, _⟩ => ⟨S2x4096x256, .f32⟩
  | .local _ .vmem, ⟨7, _⟩ => ⟨S4096x256, .f32⟩
  | .local _ .vmem, ⟨8, _⟩ => ⟨S4096x256, .f32⟩
  | .local _ .vmem, ⟨9, _⟩ => ⟨S280x256, .f32⟩
  | .local _ .vmem, ⟨10, _⟩ => ⟨S280x256, .f32⟩
  | _, _ => ⟨S69905x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c1_i32 : BitVec 32 := 1#32
  let v4 : BitVec 32 := Scalar.addi arg0 c1_i32
  let c16_i32 : BitVec 32 := 16#32
  let v5 : BitVec 1 := Scalar.cmpi .slt v4 c16_i32
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c1_i32_59 : BitVec 32 := 1#32
  let v155 : BitVec 32 := Scalar.addi arg0 c1_i32_59
  let c15_i32_62 : BitVec 32 := 15#32
  let v158 : BitVec 1 := Scalar.cmpi .slt v155 c15_i32_62
  let v159 : BitVec 32 := Scalar.extui v158
  let c0_i32_63 : BitVec 32 := 0#32
  let v160 : BitVec 1 := Scalar.cmpi .ne v159 c0_i32_63
  v160

def k0_off1 (i : grid0.Coords) : Fin 2 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  let c0_i32_73 : BitVec 32 := 0#32
  ![v157.toNat, 0]
def k0_off2 (i : grid0.Coords) : Fin 3 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  let c0_i32_74 : BitVec 32 := 0#32
  let c0_i32_75 : BitVec 32 := 0#32
  ![v157.toNat, 0, 0]
def k0_off3 (i : grid0.Coords) : Fin 2 → Nat :=
  let c4368_i32 : BitVec 32 := 4368#32
  let arg0 : BitVec 32 := BitVec.ofNat 32 (i 0).val
  let c1_i32_59 : BitVec 32 := 1#32
  let v155 : BitVec 32 := Scalar.addi arg0 c1_i32_59
  let c4096_i32 : BitVec 32 := 4096#32
  let v171 : BitVec 32 := Scalar.muli v155 c4096_i32
  let v172 : BitVec 32 := Scalar.addi c4368_i32 v171
  let c0_i32_76 : BitVec 32 := 0#32
  ![v172.toNat, 0]
def k0_off4 (i : grid0.Coords) : Fin 2 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  let c1_i32_77 : BitVec 32 := 1#32
  ![v157.toNat, 1]
def k0_off5 (i : grid0.Coords) : Fin 3 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  let c2056_i32_78 : BitVec 32 := 2056#32
  let c0_i32_79 : BitVec 32 := 0#32
  ![v157.toNat, 2056, 0]
def k0_off6 (i : grid0.Coords) : Fin 2 → Nat :=
  let c4368_i32_72 : BitVec 32 := 4368#32
  let arg0 : BitVec 32 := BitVec.ofNat 32 (i 0).val
  let c1_i32_59 : BitVec 32 := 1#32
  let v155 : BitVec 32 := Scalar.addi arg0 c1_i32_59
  let c4096_i32_71 : BitVec 32 := 4096#32
  let v173 : BitVec 32 := Scalar.muli v155 c4096_i32_71
  let v174 : BitVec 32 := Scalar.addi c4368_i32_72 v173
  let c2056_i32 : BitVec 32 := 2056#32
  let v175 : BitVec 32 := Scalar.addi v174 c2056_i32
  let c0_i32_80 : BitVec 32 := 0#32
  ![v175.toNat, 0]
def k0_cond4 (i : grid0.Coords) : BitVec 1 :=
  let arg0 : BitVec 32 := BitVec.ofNat 32 (i 0).val
  let c1_i32_59 : BitVec 32 := 1#32
  let v155 : BitVec 32 := Scalar.addi arg0 c1_i32_59
  let c15_i32_64 : BitVec 32 := 15#32
  let v161 : BitVec 1 := Scalar.cmpi .eq v155 c15_i32_64
  let v162 : BitVec 32 := Scalar.extui v161
  let c0_i32_65 : BitVec 32 := 0#32
  let v163 : BitVec 1 := Scalar.cmpi .ne v162 c0_i32_65
  v163

def k0_off7 (i : grid0.Coords) : Fin 2 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  let c0_i32_71 : BitVec 32 := 0#32
  ![v157.toNat, 0]
def k0_off8 (i : grid0.Coords) : Fin 3 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  let c0_i32_72 : BitVec 32 := 0#32
  let c0_i32_73 : BitVec 32 := 0#32
  ![v157.toNat, 0, 0]
def k0_off9 (i : grid0.Coords) : Fin 2 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  let c1_i32_75 : BitVec 32 := 1#32
  ![v157.toNat, 1]
def k0_off10 (i : grid0.Coords) : Fin 3 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  let c2056_i32 : BitVec 32 := 2056#32
  let c0_i32_76 : BitVec 32 := 0#32
  ![v157.toNat, 2056, 0]
def k0_off11 (i : grid0.Coords) : Fin 3 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  let c4096_i32 : BitVec 32 := 4096#32
  let c0_i32_78 : BitVec 32 := 0#32
  ![v157.toNat, 4096, 0]
def k0_off12 (i : grid0.Coords) : Fin 1 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  ![v157.toNat]
def k0_off13 (i : grid0.Coords) : Fin 3 → Nat :=
  let arg0 : BitVec 32 := BitVec.ofNat 32 (i 0).val
  let c1_i32_60 : BitVec 32 := 1#32
  let v156 : BitVec 32 := Scalar.addi arg0 c1_i32_60
  let c2_i32_61 : BitVec 32 := 2#32
  let v157 : BitVec 32 := Scalar.remsi v156 c2_i32_61
  let c0_i32_68 : BitVec 32 := 0#32
  let c0_i32_69 : BitVec 32 := 0#32
  ![v157.toNat, 0, 0]
def k0_off14 (i : grid0.Coords) : Fin 2 → Nat :=
  let c272_i32_67 : BitVec 32 := 272#32
  let arg0 : BitVec 32 := BitVec.ofNat 32 (i 0).val
  let c1_i32_59 : BitVec 32 := 1#32
  let v155 : BitVec 32 := Scalar.addi arg0 c1_i32_59
  let c256_i32_66 : BitVec 32 := 256#32
  let v164 : BitVec 32 := Scalar.muli v155 c256_i32_66
  let v165 : BitVec 32 := Scalar.addi c272_i32_67 v164
  let c0_i32_70 : BitVec 32 := 0#32
  ![v165.toNat, 0]
def k0_cond5 (i : grid0.Coords) : BitVec 1 :=
  let arg0 : BitVec 32 := BitVec.ofNat 32 (i 0).val
  let c15_i32 : BitVec 32 := 15#32
  let v8 : BitVec 1 := Scalar.cmpi .slt arg0 c15_i32
  let v9 : BitVec 32 := Scalar.extui v8
  let c0_i32_2 : BitVec 32 := 0#32
  let v10 : BitVec 1 := Scalar.cmpi .ne v9 c0_i32_2
  v10

def k0_off15 (i : grid0.Coords) : Fin 2 → Nat :=
  let arg0 : BitVec 32 := BitVec.ofNat 32 (i 0).val
  let c2_i32 : BitVec 32 := 2#32
  let v0 : BitVec 32 := Scalar.remsi arg0 c2_i32
  let c0_i32_61 : BitVec 32 := 0#32
  ![v0.toNat, 0]
def k0_off16 (i : grid0.Coords) : Fin 3 → Nat :=
  let arg0 : BitVec 32 := BitVec.ofNat 32 (i 0).val
  let c2_i32 : BitVec 32 := 2#32
  let v0 : BitVec 32 := Scalar.remsi arg0 c2_i32
  let c0_i32_62 : BitVec 32 := 0#32
  let c0_i32_63 : BitVec 32 := 0#32
  ![v0.toNat, 0, 0]
def k0_off17 (i : grid0.Coords) : Fin 2 → Nat :=
  let c4368_i32 : BitVec 32 := 4368#32
  let arg0 : BitVec 32 := BitVec.ofNat 32 (i 0).val
  let c4096_i32 : BitVec 32 := 4096#32
  let v155 : BitVec 32 := Scalar.muli arg0 c4096_i32
  let v156 : BitVec 32 := Scalar.addi c4368_i32 v155
  let c0_i32_64 : BitVec 32 := 0#32
  ![v156.toNat, 0]
def k0_off18 (i : grid0.Coords) : Fin 2 → Nat :=
  let arg0 : BitVec 32 := BitVec.ofNat 32 (i 0).val
  let c2_i32 : BitVec 32 := 2#32
  let v0 : BitVec 32 := Scalar.remsi arg0 c2_i32
  let c1_i32_65 : BitVec 32 := 1#32
  ![v0.toNat, 1]
def k0_off19 (i : grid0.Coords) : Fin 3 → Nat :=
  let arg0 : BitVec 32 := BitVec.ofNat 32 (i 0).val
  let c2_i32 : BitVec 32 := 2#32
  let v0 : BitVec 32 := Scalar.remsi arg0 c2_i32
  let c2056_i32_66 : BitVec 32 := 2056#32
  let c0_i32_67 : BitVec 32 := 0#32
  ![v0.toNat, 2056, 0]
def k0_off20 (i : grid0.Coords) : Fin 2 → Nat :=
  let c4368_i32_60 : BitVec 32 := 4368#32
  let arg0 : BitVec 32 := BitVec.ofNat 32 (i 0).val
  let c4096_i32_59 : BitVec 32 := 4096#32
  let v157 : BitVec 32 := Scalar.muli arg0 c4096_i32_59
  let v158 : BitVec 32 := Scalar.addi c4368_i32_60 v157
  let c2056_i32 : BitVec 32 := 2056#32
  let v159 : BitVec 32 := Scalar.addi v158 c2056_i32
  let c0_i32_68 : BitVec 32 := 0#32
  ![v159.toNat, 0]
def k0_cond6 (i : grid0.Coords) : BitVec 1 :=
  let arg0 : BitVec 32 := BitVec.ofNat 32 (i 0).val
  let c15_i32_3 : BitVec 32 := 15#32
  let v11 : BitVec 1 := Scalar.cmpi .eq arg0 c15_i32_3
  let v12 : BitVec 32 := Scalar.extui v11
  let c0_i32_4 : BitVec 32 := 0#32
  let v13 : BitVec 1 := Scalar.cmpi .ne v12 c0_i32_4
  v13

def k0_off21 (i : grid0.Coords) : Fin 2 → Nat :=
  let arg0 : BitVec 32 := BitVec.ofNat 32 (i 0).val
  let c2_i32 : BitVec 32 := 2#32
  let v0 : BitVec 32 := Scalar.remsi arg0 c2_i32
  let c0_i32_59 : BitVec 32 := 0#32
  ![v0.toNat, 0]
def k0_off22 (i : grid0.Coords) : Fin 3 → Nat :=
  let arg0 : BitVec 32 := BitVec.ofNat 32 (i 0).val
  let c2_i32 : BitVec 32 := 2#32
  let v0 : BitVec 32 := Scalar.remsi arg0 c2_i32
  let c0_i32_60 : BitVec 32 := 0#32
  let c0_i32_61 : BitVec 32 := 0#32
  ![v0.toNat, 0, 0]
def k0_off23 (i : grid0.Coords) : Fin 2 → Nat :=
  let arg0 : BitVec 32 := BitVec.ofNat 32 (i 0).val
  let c2_i32 : BitVec 32 := 2#32
  let v0 : BitVec 32 := Scalar.remsi arg0 c2_i32
  let c1_i32_63 : BitVec 32 := 1#32
  ![v0.toNat, 1]
def k0_off24 (i : grid0.Coords) : Fin 3 → Nat :=
  let arg0 : BitVec 32 := BitVec.ofNat 32 (i 0).val
  let c2_i32 : BitVec 32 := 2#32
  let v0 : BitVec 32 := Scalar.remsi arg0 c2_i32
  let c2056_i32 : BitVec 32 := 2056#32
  let c0_i32_64 : BitVec 32 := 0#32
  ![v0.toNat, 2056, 0]
def k0_off25 (i : grid0.Coords) : Fin 3 → Nat :=
  let arg0 : BitVec 32 := BitVec.ofNat 32 (i 0).val
  let c2_i32 : BitVec 32 := 2#32
  let v0 : BitVec 32 := Scalar.remsi arg0 c2_i32
  let c4096_i32 : BitVec 32 := 4096#32
  let c0_i32_66 : BitVec 32 := 0#32
  ![v0.toNat, 4096, 0]
def k0_off26 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off27 (i : grid0.Coords) : Fin 3 → Nat :=
  let arg0 : BitVec 32 := BitVec.ofNat 32 (i 0).val
  let c2_i32 : BitVec 32 := 2#32
  let v0 : BitVec 32 := Scalar.remsi arg0 c2_i32
  let c0_i32_5 : BitVec 32 := 0#32
  let c0_i32_6 : BitVec 32 := 0#32
  ![v0.toNat, 0, 0]
def k0_off28 (i : grid0.Coords) : Fin 2 → Nat :=
  let c272_i32 : BitVec 32 := 272#32
  let arg0 : BitVec 32 := BitVec.ofNat 32 (i 0).val
  let c256_i32 : BitVec 32 := 256#32
  let v14 : BitVec 32 := Scalar.muli arg0 c256_i32
  let v15 : BitVec 32 := Scalar.addi c272_i32 v14
  let c0_i32_7 : BitVec 32 := 0#32
  ![v15.toNat, 0]
def k0_cond7 (i : grid0.Coords) : BitVec 1 :=
  let arg0 : BitVec 32 := BitVec.ofNat 32 (i 0).val
  let c2_i32_8 : BitVec 32 := 2#32
  let v21 : BitVec 1 := Scalar.cmpi .sge arg0 c2_i32_8
  let v22 : BitVec 32 := Scalar.extui v21
  let c0_i32_9 : BitVec 32 := 0#32
  let v23 : BitVec 1 := Scalar.cmpi .ne v22 c0_i32_9
  v23

def k0_off29 (i : grid0.Coords) : Fin 2 → Nat :=
  let arg0 : BitVec 32 := BitVec.ofNat 32 (i 0).val
  let c2_i32 : BitVec 32 := 2#32
  let v0 : BitVec 32 := Scalar.remsi arg0 c2_i32
  let c0_i32_62 : BitVec 32 := 0#32
  ![v0.toNat, 0]
def k0_off30 (i : grid0.Coords) : Fin 2 → Nat :=
  let c4376_i32 : BitVec 32 := 4376#32
  let arg0 : BitVec 32 := BitVec.ofNat 32 (i 0).val
  let c2_i32_59 : BitVec 32 := 2#32
  let v155 : BitVec 32 := Scalar.subi arg0 c2_i32_59
  let c4096_i32 : BitVec 32 := 4096#32
  let v156 : BitVec 32 := Scalar.muli v155 c4096_i32
  let v157 : BitVec 32 := Scalar.addi c4376_i32 v156
  let c0_i32_63 : BitVec 32 := 0#32
  ![v157.toNat, 0]
def k0_off31 (i : grid0.Coords) : Fin 3 → Nat :=
  let arg0 : BitVec 32 := BitVec.ofNat 32 (i 0).val
  let c2_i32 : BitVec 32 := 2#32
  let v0 : BitVec 32 := Scalar.remsi arg0 c2_i32
  let c0_i32_64 : BitVec 32 := 0#32
  let c0_i32_65 : BitVec 32 := 0#32
  ![v0.toNat, 0, 0]
def k0_off32 (i : grid0.Coords) : Fin 2 → Nat :=
  let arg0 : BitVec 32 := BitVec.ofNat 32 (i 0).val
  let c2_i32 : BitVec 32 := 2#32
  let v0 : BitVec 32 := Scalar.remsi arg0 c2_i32
  let c1_i32_66 : BitVec 32 := 1#32
  ![v0.toNat, 1]
def k0_off33 (i : grid0.Coords) : Fin 2 → Nat :=
  let c4376_i32_61 : BitVec 32 := 4376#32
  let arg0 : BitVec 32 := BitVec.ofNat 32 (i 0).val
  let c2_i32_59 : BitVec 32 := 2#32
  let v155 : BitVec 32 := Scalar.subi arg0 c2_i32_59
  let c4096_i32_60 : BitVec 32 := 4096#32
  let v158 : BitVec 32 := Scalar.muli v155 c4096_i32_60
  let v159 : BitVec 32 := Scalar.addi c4376_i32_61 v158
  let c2048_i32 : BitVec 32 := 2048#32
  let v160 : BitVec 32 := Scalar.addi v159 c2048_i32
  let c0_i32_67 : BitVec 32 := 0#32
  ![v160.toNat, 0]
def k0_off34 (i : grid0.Coords) : Fin 3 → Nat :=
  let arg0 : BitVec 32 := BitVec.ofNat 32 (i 0).val
  let c2_i32 : BitVec 32 := 2#32
  let v0 : BitVec 32 := Scalar.remsi arg0 c2_i32
  let c2048_i32_68 : BitVec 32 := 2048#32
  let c0_i32_69 : BitVec 32 := 0#32
  ![v0.toNat, 2048, 0]
def k0_cond8 (i : grid0.Coords) : BitVec 1 :=
  let arg0 : BitVec 32 := BitVec.ofNat 32 (i 0).val
  let c15_i32_13 : BitVec 32 := 15#32
  let v27 : BitVec 1 := Scalar.cmpi .eq arg0 c15_i32_13
  let v28 : BitVec 32 := Scalar.extui v27
  let c0_i32_14 : BitVec 32 := 0#32
  let v29 : BitVec 1 := Scalar.cmpi .ne v28 c0_i32_14
  v29

def k0_off35 (i : grid0.Coords) : Fin 3 → Nat :=
  let arg0 : BitVec 32 := BitVec.ofNat 32 (i 0).val
  let c2_i32 : BitVec 32 := 2#32
  let v0 : BitVec 32 := Scalar.remsi arg0 c2_i32
  let v156 : Index := Scalar.indexCast v0
  let c4097 : Index := 4097#32
  let c0_60 : Index := 0#32
  ![v156.toNat, 4097, 0]
def k0_off36 (i : grid0.Coords) : Fin 3 → Nat :=
  let arg0 : BitVec 32 := BitVec.ofNat 32 (i 0).val
  let c2_i32 : BitVec 32 := 2#32
  let v0 : BitVec 32 := Scalar.remsi arg0 c2_i32
  let v30 : Index := Scalar.indexCast v0
  let c0_15 : Index := 0#32
  let c0_16 : Index := 0#32
  ![v30.toNat, 0, 0]
def k0_off37 (i : grid0.Coords) : Fin 3 → Nat :=
  let arg0 : BitVec 32 := BitVec.ofNat 32 (i 0).val
  let c2_i32 : BitVec 32 := 2#32
  let v0 : BitVec 32 := Scalar.remsi arg0 c2_i32
  let v35 : Index := Scalar.indexCast v0
  let c1 : Index := 1#32
  let c0_21 : Index := 0#32
  ![v35.toNat, 1, 0]
def k0_off38 (i : grid0.Coords) : Fin 3 → Nat :=
  let arg0 : BitVec 32 := BitVec.ofNat 32 (i 0).val
  let c2_i32 : BitVec 32 := 2#32
  let v0 : BitVec 32 := Scalar.remsi arg0 c2_i32
  let v126 : Index := Scalar.indexCast v0
  let c0_46 : Index := 0#32
  let c0_47 : Index := 0#32
  ![v126.toNat, 0, 0]
def k0_off39 (i : grid0.Coords) : Fin 3 → Nat :=
  let arg0 : BitVec 32 := BitVec.ofNat 32 (i 0).val
  let c2_i32 : BitVec 32 := 2#32
  let v0 : BitVec 32 := Scalar.remsi arg0 c2_i32
  let v131 : Index := Scalar.indexCast v0
  let c2048 : Index := 2048#32
  let c0_48 : Index := 0#32
  ![v131.toNat, 2048, 0]
def k0_off40 (i : grid0.Coords) : Fin 2 → Nat :=
  let arg0 : BitVec 32 := BitVec.ofNat 32 (i 0).val
  let c256_i32_49 : BitVec 32 := 256#32
  let v135 : BitVec 32 := Scalar.muli arg0 c256_i32_49
  let v136 : Index := Scalar.indexCast v135
  let c0_50 : Index := 0#32
  ![v136.toNat, 0]
def k0_off41 (i : grid0.Coords) : Fin 2 → Nat :=
  let arg0 : BitVec 32 := BitVec.ofNat 32 (i 0).val
  let c256_i32_51 : BitVec 32 := 256#32
  let v140 : BitVec 32 := Scalar.muli arg0 c256_i32_51
  let c128_i32 : BitVec 32 := 128#32
  let v141 : BitVec 32 := Scalar.addi v140 c128_i32
  let v142 : Index := Scalar.indexCast v141
  let c0_52 : Index := 0#32
  ![v142.toNat, 0]
def k0_cond10 (i : grid0.Coords) : BitVec 1 :=
  let arg0 : BitVec 32 := BitVec.ofNat 32 (i 0).val
  let c15_i32_55 : BitVec 32 := 15#32
  let v149 : BitVec 1 := Scalar.cmpi .slt arg0 c15_i32_55
  let v150 : BitVec 32 := Scalar.extui v149
  let c0_i32_56 : BitVec 32 := 0#32
  let v151 : BitVec 1 := Scalar.cmpi .ne v150 c0_i32_56
  v151

def k0_off42 (i : grid0.Coords) : Fin 2 → Nat :=
  let arg0 : BitVec 32 := BitVec.ofNat 32 (i 0).val
  let c2_i32 : BitVec 32 := 2#32
  let v0 : BitVec 32 := Scalar.remsi arg0 c2_i32
  let c0_i32_61 : BitVec 32 := 0#32
  ![v0.toNat, 0]
def k0_off43 (i : grid0.Coords) : Fin 2 → Nat :=
  let c4376_i32 : BitVec 32 := 4376#32
  let arg0 : BitVec 32 := BitVec.ofNat 32 (i 0).val
  let c4096_i32 : BitVec 32 := 4096#32
  let v155 : BitVec 32 := Scalar.muli arg0 c4096_i32
  let v156 : BitVec 32 := Scalar.addi c4376_i32 v155
  let c0_i32_62 : BitVec 32 := 0#32
  ![v156.toNat, 0]
def k0_off44 (i : grid0.Coords) : Fin 3 → Nat :=
  let arg0 : BitVec 32 := BitVec.ofNat 32 (i 0).val
  let c2_i32 : BitVec 32 := 2#32
  let v0 : BitVec 32 := Scalar.remsi arg0 c2_i32
  let c0_i32_63 : BitVec 32 := 0#32
  let c0_i32_64 : BitVec 32 := 0#32
  ![v0.toNat, 0, 0]
def k0_off45 (i : grid0.Coords) : Fin 2 → Nat :=
  let arg0 : BitVec 32 := BitVec.ofNat 32 (i 0).val
  let c2_i32 : BitVec 32 := 2#32
  let v0 : BitVec 32 := Scalar.remsi arg0 c2_i32
  let c1_i32_65 : BitVec 32 := 1#32
  ![v0.toNat, 1]
def k0_off46 (i : grid0.Coords) : Fin 2 → Nat :=
  let c4376_i32_60 : BitVec 32 := 4376#32
  let arg0 : BitVec 32 := BitVec.ofNat 32 (i 0).val
  let c4096_i32_59 : BitVec 32 := 4096#32
  let v157 : BitVec 32 := Scalar.muli arg0 c4096_i32_59
  let v158 : BitVec 32 := Scalar.addi c4376_i32_60 v157
  let c2048_i32 : BitVec 32 := 2048#32
  let v159 : BitVec 32 := Scalar.addi v158 c2048_i32
  let c0_i32_66 : BitVec 32 := 0#32
  ![v159.toNat, 0]
def k0_off47 (i : grid0.Coords) : Fin 3 → Nat :=
  let arg0 : BitVec 32 := BitVec.ofNat 32 (i 0).val
  let c2_i32 : BitVec 32 := 2#32
  let v0 : BitVec 32 := Scalar.remsi arg0 c2_i32
  let c2048_i32_67 : BitVec 32 := 2048#32
  let c0_i32_68 : BitVec 32 := 0#32
  ![v0.toNat, 2048, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S69905x256 : Shape := ⟨2, ![69905, 256]⟩
abbrev S2x69904 : Shape := ⟨2, ![2, 69904]⟩
abbrev S256x512 : Shape := ⟨2, ![256, 512]⟩
abbrev S512 : Shape := ⟨1, ![512]⟩
abbrev S256x256 : Shape := ⟨2, ![256, 256]⟩
abbrev S69905x512 : Shape := ⟨2, ![69905, 512]⟩
abbrev S1x512 : Shape := ⟨2, ![1, 512]⟩
abbrev S_ : Shape := ⟨0, ![]⟩
abbrev S1x69904 : Shape := ⟨2, ![1, 69904]⟩
abbrev S69904 : Shape := ⟨1, ![69904]⟩
abbrev S4369x16 : Shape := ⟨2, ![4369, 16]⟩
abbrev S65536x1x256 : Shape := ⟨3, ![65536, 1, 256]⟩
abbrev S65536x512 : Shape := ⟨2, ![65536, 512]⟩
abbrev S65536x256 : Shape := ⟨2, ![65536, 256]⟩
abbrev S1 : Shape := ⟨1, ![1]⟩
abbrev S4096x16 : Shape := ⟨2, ![4096, 16]⟩
abbrev S4096x16x1 : Shape := ⟨3, ![4096, 16, 1]⟩
abbrev S4096x16x256 : Shape := ⟨3, ![4096, 16, 256]⟩
abbrev S4096x256 : Shape := ⟨2, ![4096, 256]⟩
abbrev S4096x512 : Shape := ⟨2, ![4096, 512]⟩
abbrev S4096x1x256 : Shape := ⟨3, ![4096, 1, 256]⟩
abbrev S256x16 : Shape := ⟨2, ![256, 16]⟩
abbrev S256x16x1 : Shape := ⟨3, ![256, 16, 1]⟩
abbrev S256x16x256 : Shape := ⟨3, ![256, 16, 256]⟩
abbrev S256x1x256 : Shape := ⟨3, ![256, 1, 256]⟩
abbrev S16x16 : Shape := ⟨2, ![16, 16]⟩
abbrev S16x16x1 : Shape := ⟨3, ![16, 16, 1]⟩
abbrev S16x16x256 : Shape := ⟨3, ![16, 16, 256]⟩
abbrev S16x256 : Shape := ⟨2, ![16, 256]⟩
abbrev S16x512 : Shape := ⟨2, ![16, 512]⟩
abbrev S16x1x256 : Shape := ⟨3, ![16, 1, 256]⟩
abbrev S1x16 : Shape := ⟨2, ![1, 16]⟩
abbrev S1x16x1 : Shape := ⟨3, ![1, 16, 1]⟩
abbrev S1x16x256 : Shape := ⟨3, ![1, 16, 256]⟩
abbrev S1x256 : Shape := ⟨2, ![1, 256]⟩
abbrev S1x1x256 : Shape := ⟨3, ![1, 1, 256]⟩

abbrev nBuf : Space → Nat
  | .hbm => 227
  | .vmem => 0
  | .smem => 0
  | _ => 0

abbrev hbmTy0_0 (i : Nat) : BufTy := match i % 128 with
  | 0 => ⟨S69905x256, .f32⟩
  | 1 => ⟨S2x69904, .i32⟩
  | 2 => ⟨S256x512, .f32⟩
  | 3 => ⟨S512, .f32⟩
  | 4 => ⟨S256x256, .f32⟩
  | 5 => ⟨S256x256, .f32⟩
  | 6 => ⟨S69905x512, .f32⟩
  | 7 => ⟨S1x512, .f32⟩
  | 8 => ⟨S69905x512, .f32⟩
  | 9 => ⟨S69905x512, .f32⟩
  | 10 => ⟨S_, .f32⟩
  | 11 => ⟨S69905x256, .f32⟩
  | 12 => ⟨S1x69904, .i32⟩
  | 13 => ⟨S69904, .i32⟩
  | 14 => ⟨S4369x16, .i32⟩
  | 15 => ⟨S_, .f32⟩
  | 16 => ⟨S65536x1x256, .f32⟩
  | 17 => ⟨S65536x512, .f32⟩
  | 18 => ⟨S_, .f32⟩
  | 19 => ⟨S65536x256, .f32⟩
  | 20 => ⟨S65536x256, .f32⟩
  | 21 => ⟨S65536x256, .f32⟩
  | 22 => ⟨S65536x1x256, .f32⟩
  | 23 => ⟨S65536x1x256, .f32⟩
  | 24 => ⟨S65536x1x256, .f32⟩
  | 25 => ⟨S65536x1x256, .f32⟩
  | 26 => ⟨S_, .f32⟩
  | 27 => ⟨S65536x1x256, .f32⟩
  | 28 => ⟨S65536x1x256, .f32⟩
  | 29 => ⟨S_, .f32⟩
  | 30 => ⟨S65536x1x256, .f32⟩
  | 31 => ⟨S65536x1x256, .f32⟩
  | 32 => ⟨S65536x256, .f32⟩
  | 33 => ⟨S_, .f32⟩
  | 34 => ⟨S65536x256, .f32⟩
  | 35 => ⟨S_, .f32⟩
  | 36 => ⟨S65536x256, .f32⟩
  | 37 => ⟨S65536x256, .f32⟩
  | 38 => ⟨S65536x256, .f32⟩
  | 39 => ⟨S65536x256, .f32⟩
  | 40 => ⟨S_, .i32⟩
  | 41 => ⟨S1, .i32⟩
  | 42 => ⟨S69905x256, .f32⟩
  | 43 => ⟨S4096x16, .i32⟩
  | 44 => ⟨S_, .i32⟩
  | 45 => ⟨S4096x16, .i32⟩
  | 46 => ⟨S4096x16, .i1⟩
  | 47 => ⟨S_, .i32⟩
  | 48 => ⟨S4096x16, .i32⟩
  | 49 => ⟨S4096x16, .i32⟩
  | 50 => ⟨S4096x16, .i32⟩
  | 51 => ⟨S4096x16x1, .i32⟩
  | 52 => ⟨S4096x16x256, .f32⟩
  | 53 => ⟨S4096x16x256, .f32⟩
  | 54 => ⟨S4096x16x256, .f32⟩
  | 55 => ⟨S4096x16x256, .f32⟩
  | 56 => ⟨S_, .f32⟩
  | 57 => ⟨S4096x256, .f32⟩
  | 58 => ⟨S4096x512, .f32⟩
  | 59 => ⟨S_, .i32⟩
  | 60 => ⟨S1, .i32⟩
  | 61 => ⟨S4096x512, .f32⟩
  | 62 => ⟨S4096x16x256, .f32⟩
  | 63 => ⟨S_, .f32⟩
  | 64 => ⟨S4096x256, .f32⟩
  | 65 => ⟨S4096x256, .f32⟩
  | 66 => ⟨S4096x256, .f32⟩
  | 67 => ⟨S4096x1x256, .f32⟩
  | 68 => ⟨S4096x16x256, .f32⟩
  | 69 => ⟨S4096x16x256, .f32⟩
  | 70 => ⟨S4096x16x256, .f32⟩
  | 71 => ⟨S4096x16x256, .f32⟩
  | 72 => ⟨S_, .f32⟩
  | 73 => ⟨S4096x16x256, .f32⟩
  | 74 => ⟨S4096x16x256, .f32⟩
  | 75 => ⟨S_, .f32⟩
  | 76 => ⟨S4096x16x256, .f32⟩
  | 77 => ⟨S4096x16x256, .f32⟩
  | 78 => ⟨S4096x256, .f32⟩
  | 79 => ⟨S_, .f32⟩
  | 80 => ⟨S4096x256, .f32⟩
  | 81 => ⟨S_, .f32⟩
  | 82 => ⟨S4096x256, .f32⟩
  | 83 => ⟨S4096x256, .f32⟩
  | 84 => ⟨S4096x256, .f32⟩
  | 85 => ⟨S4096x256, .f32⟩
  | 86 => ⟨S_, .i32⟩
  | 87 => ⟨S1, .i32⟩
  | 88 => ⟨S69905x256, .f32⟩
  | 89 => ⟨S256x16, .i32⟩
  | 90 => ⟨S_, .i32⟩
  | 91 => ⟨S256x16, .i32⟩
  | 92 => ⟨S256x16, .i1⟩
  | 93 => ⟨S_, .i32⟩
  | 94 => ⟨S256x16, .i32⟩
  | 95 => ⟨S256x16, .i32⟩
  | 96 => ⟨S256x16, .i32⟩
  | 97 => ⟨S256x16x1, .i32⟩
  | 98 => ⟨S256x16x256, .f32⟩
  | 99 => ⟨S256x16x256, .f32⟩
  | 100 => ⟨S256x16x256, .f32⟩
  | 101 => ⟨S256x16x256, .f32⟩
  | 102 => ⟨S_, .f32⟩
  | 103 => ⟨S256x256, .f32⟩
  | 104 => ⟨S256x512, .f32⟩
  | 105 => ⟨S_, .i32⟩
  | 106 => ⟨S1, .i32⟩
  | 107 => ⟨S256x512, .f32⟩
  | 108 => ⟨S256x16x256, .f32⟩
  | 109 => ⟨S_, .f32⟩
  | 110 => ⟨S256x256, .f32⟩
  | 111 => ⟨S256x256, .f32⟩
  | 112 => ⟨S256x256, .f32⟩
  | 113 => ⟨S256x1x256, .f32⟩
  | 114 => ⟨S256x16x256, .f32⟩
  | 115 => ⟨S256x16x256, .f32⟩
  | 116 => ⟨S256x16x256, .f32⟩
  | 117 => ⟨S256x16x256, .f32⟩
  | 118 => ⟨S_, .f32⟩
  | 119 => ⟨S256x16x256, .f32⟩
  | 120 => ⟨S256x16x256, .f32⟩
  | 121 => ⟨S_, .f32⟩
  | 122 => ⟨S256x16x256, .f32⟩
  | 123 => ⟨S256x16x256, .f32⟩
  | 124 => ⟨S256x256, .f32⟩
  | 125 => ⟨S_, .f32⟩
  | 126 => ⟨S256x256, .f32⟩
  | 127 => ⟨S_, .f32⟩
  | _ => ⟨S69905x256, .f32⟩

abbrev hbmTy0_1 (i : Nat) : BufTy := match i % 128 with
  | 0 => ⟨S256x256, .f32⟩
  | 1 => ⟨S256x256, .f32⟩
  | 2 => ⟨S256x256, .f32⟩
  | 3 => ⟨S256x256, .f32⟩
  | 4 => ⟨S_, .i32⟩
  | 5 => ⟨S1, .i32⟩
  | 6 => ⟨S69905x256, .f32⟩
  | 7 => ⟨S16x16, .i32⟩
  | 8 => ⟨S_, .i32⟩
  | 9 => ⟨S16x16, .i32⟩
  | 10 => ⟨S16x16, .i1⟩
  | 11 => ⟨S_, .i32⟩
  | 12 => ⟨S16x16, .i32⟩
  | 13 => ⟨S16x16, .i32⟩
  | 14 => ⟨S16x16, .i32⟩
  | 15 => ⟨S16x16x1, .i32⟩
  | 16 => ⟨S16x16x256, .f32⟩
  | 17 => ⟨S16x16x256, .f32⟩
  | 18 => ⟨S16x16x256, .f32⟩
  | 19 => ⟨S16x16x256, .f32⟩
  | 20 => ⟨S_, .f32⟩
  | 21 => ⟨S16x256, .f32⟩
  | 22 => ⟨S16x512, .f32⟩
  | 23 => ⟨S_, .i32⟩
  | 24 => ⟨S1, .i32⟩
  | 25 => ⟨S16x512, .f32⟩
  | 26 => ⟨S16x16x256, .f32⟩
  | 27 => ⟨S_, .f32⟩
  | 28 => ⟨S16x256, .f32⟩
  | 29 => ⟨S16x256, .f32⟩
  | 30 => ⟨S16x256, .f32⟩
  | 31 => ⟨S16x1x256, .f32⟩
  | 32 => ⟨S16x16x256, .f32⟩
  | 33 => ⟨S16x16x256, .f32⟩
  | 34 => ⟨S16x16x256, .f32⟩
  | 35 => ⟨S16x16x256, .f32⟩
  | 36 => ⟨S_, .f32⟩
  | 37 => ⟨S16x16x256, .f32⟩
  | 38 => ⟨S16x16x256, .f32⟩
  | 39 => ⟨S_, .f32⟩
  | 40 => ⟨S16x16x256, .f32⟩
  | 41 => ⟨S16x16x256, .f32⟩
  | 42 => ⟨S16x256, .f32⟩
  | 43 => ⟨S_, .f32⟩
  | 44 => ⟨S16x256, .f32⟩
  | 45 => ⟨S_, .f32⟩
  | 46 => ⟨S16x256, .f32⟩
  | 47 => ⟨S16x256, .f32⟩
  | 48 => ⟨S16x256, .f32⟩
  | 49 => ⟨S16x256, .f32⟩
  | 50 => ⟨S_, .i32⟩
  | 51 => ⟨S1, .i32⟩
  | 52 => ⟨S69905x256, .f32⟩
  | 53 => ⟨S1x16, .i32⟩
  | 54 => ⟨S_, .i32⟩
  | 55 => ⟨S1x16, .i32⟩
  | 56 => ⟨S1x16, .i1⟩
  | 57 => ⟨S_, .i32⟩
  | 58 => ⟨S1x16, .i32⟩
  | 59 => ⟨S1x16, .i32⟩
  | 60 => ⟨S1x16, .i32⟩
  | 61 => ⟨S1x16x1, .i32⟩
  | 62 => ⟨S1x16x256, .f32⟩
  | 63 => ⟨S1x16x256, .f32⟩
  | 64 => ⟨S1x16x256, .f32⟩
  | 65 => ⟨S1x16x256, .f32⟩
  | 66 => ⟨S_, .f32⟩
  | 67 => ⟨S1x256, .f32⟩
  | 68 => ⟨S1x512, .f32⟩
  | 69 => ⟨S_, .i32⟩
  | 70 => ⟨S1, .i32⟩
  | 71 => ⟨S1x512, .f32⟩
  | 72 => ⟨S1x16x256, .f32⟩
  | 73 => ⟨S_, .f32⟩
  | 74 => ⟨S1x256, .f32⟩
  | 75 => ⟨S1x256, .f32⟩
  | 76 => ⟨S1x256, .f32⟩
  | 77 => ⟨S1x1x256, .f32⟩
  | 78 => ⟨S1x16x256, .f32⟩
  | 79 => ⟨S1x16x256, .f32⟩
  | 80 => ⟨S1x16x256, .f32⟩
  | 81 => ⟨S1x16x256, .f32⟩
  | 82 => ⟨S_, .f32⟩
  | 83 => ⟨S1x16x256, .f32⟩
  | 84 => ⟨S1x16x256, .f32⟩
  | 85 => ⟨S_, .f32⟩
  | 86 => ⟨S1x16x256, .f32⟩
  | 87 => ⟨S1x16x256, .f32⟩
  | 88 => ⟨S1x256, .f32⟩
  | 89 => ⟨S_, .f32⟩
  | 90 => ⟨S1x256, .f32⟩
  | 91 => ⟨S_, .f32⟩
  | 92 => ⟨S1x256, .f32⟩
  | 93 => ⟨S1x256, .f32⟩
  | 94 => ⟨S1x256, .f32⟩
  | 95 => ⟨S1x256, .f32⟩
  | 96 => ⟨S_, .i32⟩
  | 97 => ⟨S1, .i32⟩
  | 98 => ⟨S69905x256, .f32⟩
  | _ => ⟨S69905x256, .f32⟩

abbrev hbmTy (i : Nat) : BufTy := match i / 128 with
  | 0 => hbmTy0_0 i
  | 1 => hbmTy0_1 i
  | _ => ⟨S69905x256, .f32⟩

abbrev bufTy : (tb : Table) → Fin (tcTables nBuf tb) → BufTy
  | .hbm, ⟨i, _⟩ => hbmTy i
  | _, _ => ⟨S69905x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_cst_12 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_cst_14 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c_15 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_16 : Ref sig .tc := ⟨.hbm, 90, rfl⟩
abbrev main_v66 : Ref sig .tc := ⟨.hbm, 91, rfl⟩
abbrev main_v67 : Ref sig .tc := ⟨.hbm, 92, rfl⟩
abbrev main_c_17 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_18 : Ref sig .tc := ⟨.hbm, 102, rfl⟩
abbrev main_v76 : Ref sig .tc := ⟨.hbm, 103, rfl⟩
abbrev main_v77 : Ref sig .tc := ⟨.hbm, 104, rfl⟩
abbrev main_c_19 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_20 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_21 : Ref sig .tc := ⟨.hbm, 118, rfl⟩
abbrev main_v89 : Ref sig .tc := ⟨.hbm, 119, rfl⟩
abbrev main_v90 : Ref sig .tc := ⟨.hbm, 120, rfl⟩
abbrev main_cst_22 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_23 : Ref sig .tc := ⟨.hbm, 125, rfl⟩
abbrev main_v94 : Ref sig .tc := ⟨.hbm, 126, rfl⟩
abbrev main_cst_24 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_25 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_26 : Ref sig .tc := ⟨.hbm, 136, rfl⟩
abbrev main_v102 : Ref sig .tc := ⟨.hbm, 137, rfl⟩
abbrev main_v103 : Ref sig .tc := ⟨.hbm, 138, rfl⟩
abbrev main_c_27 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_cst_28 : Ref sig .tc := ⟨.hbm, 148, rfl⟩
abbrev main_v112 : Ref sig .tc := ⟨.hbm, 149, rfl⟩
abbrev main_v113 : Ref sig .tc := ⟨.hbm, 150, rfl⟩
abbrev main_c_29 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_30 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_31 : Ref sig .tc := ⟨.hbm, 164, rfl⟩
abbrev main_v125 : Ref sig .tc := ⟨.hbm, 165, rfl⟩
abbrev main_v126 : Ref sig .tc := ⟨.hbm, 166, rfl⟩
abbrev main_cst_32 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_cst_33 : Ref sig .tc := ⟨.hbm, 171, rfl⟩
abbrev main_v130 : Ref sig .tc := ⟨.hbm, 172, rfl⟩
abbrev main_cst_34 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_c_35 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_c_36 : Ref sig .tc := ⟨.hbm, 182, rfl⟩
abbrev main_v138 : Ref sig .tc := ⟨.hbm, 183, rfl⟩
abbrev main_v139 : Ref sig .tc := ⟨.hbm, 184, rfl⟩
abbrev main_c_37 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_38 : Ref sig .tc := ⟨.hbm, 194, rfl⟩
abbrev main_v148 : Ref sig .tc := ⟨.hbm, 195, rfl⟩
abbrev main_v149 : Ref sig .tc := ⟨.hbm, 196, rfl⟩
abbrev main_c_39 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_40 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_cst_41 : Ref sig .tc := ⟨.hbm, 210, rfl⟩
abbrev main_v161 : Ref sig .tc := ⟨.hbm, 211, rfl⟩
abbrev main_v162 : Ref sig .tc := ⟨.hbm, 212, rfl⟩
abbrev main_cst_42 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_43 : Ref sig .tc := ⟨.hbm, 217, rfl⟩
abbrev main_v166 : Ref sig .tc := ⟨.hbm, 218, rfl⟩
abbrev main_cst_44 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_c_45 : Ref sig .tc := ⟨.hbm, 224, rfl⟩
abbrev main_v171 : Ref sig .tc := ⟨.hbm, 225, rfl⟩
abbrev main_v172 : Ref sig .tc := ⟨.hbm, 226, rfl⟩

abbrev nD : Nat := 1
abbrev τ : Topo := Topo.v7x

variable {F : FTy → Type} [FloatOps F]
-- ==== Proof.Rules.lean ====
/-
  The steps of the kernel's body as triples, and the row sets its transfers move.

  A buffer of `n` rows is held by row ranges (`rows`), a two-slot ring by row ranges of one slot (`slab`); a range splits at
  any row inside it. A transfer's issue gives a `Flight` that promises the destination's rows at a stated target; the wait
  redeems it. Loads and stores come as triples over the same ranges.
-/
module

public import proofs.«01_k».proof.Proof.Gen.KernelIdeal.Skeleton
public import proofs.«01_k».proof.Proof.Gen.KernelIdeal.Frame
public import Idealize.ShloMosaic.Lib.Pipeline.FrameValue
public import Idealize.ShloMosaic.Lib.Transfers
public import Idealize.ShloMosaic.Lib.Tactic
public import Idealize.ShloMosaic.Lib.ValueLayout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

/-! ## Row ranges -/

/-- Rows `a ≤ · < b` of an array of `n` rows and 256 columns. -/
def rows (n a b : ℕ) : Finset (Shape.Idx ⟨2, ![n, 256]⟩) := Finset.univ.filter fun i => a ≤ (i 0).val ∧ (i 0).val < b
/-- Rows `a ≤ · < b` of slot `s` of a two-slot ring of `n` rows and 256 columns. -/
def slab (n s a b : ℕ) : Finset (Shape.Idx ⟨3, ![2, n, 256]⟩) :=
  Finset.univ.filter fun i => (i 0).val = s ∧ a ≤ (i 1).val ∧ (i 1).val < b

theorem mem_rows {n a b : ℕ} {i : Shape.Idx ⟨2, ![n, 256]⟩} : i ∈ rows n a b ↔ a ≤ (i 0).val ∧ (i 0).val < b := by
  simp [rows]
theorem mem_slab {n s a b : ℕ} {i : Shape.Idx ⟨3, ![2, n, 256]⟩} :
    i ∈ slab n s a b ↔ (i 0).val = s ∧ a ≤ (i 1).val ∧ (i 1).val < b := by
  simp [slab]

/-- Every row. -/
theorem rows_all (n : ℕ) : rows n 0 n = Finset.univ := by
  ext i; simp only [mem_rows, Finset.mem_univ, iff_true]; exact ⟨Nat.zero_le _, (i 0).isLt⟩

/-- A unit-stride rectangle of whole rows is a row range. -/
theorem rect_rows {n a k b : ℕ} {off : Fin 2 → ℕ} (h : off = ![a, 0]) (hb : b = a + k) (inb : ∀ x, off x + (![k, 256] : Fin 2 → ℕ) x ≤ (![n, 256] : Fin 2 → ℕ) x) :
    (Rect.unit (s := ⟨2, ![n, 256]⟩) off ![k, 256] inb).set = rows n a b := by
  subst h hb
  ext i
  rw [Rect.mem_set_unit, mem_rows]
  constructor
  · intro hi; exact hi 0
  · intro hi x
    match x with
    | 0 => exact hi
    | 1 => exact ⟨Nat.zero_le _, by have := (i 1).isLt; simpa using this⟩

/-- A unit-stride rectangle of whole rows of one slot is a row range of it. -/
theorem rect_slab {n s a k b : ℕ} {off : Fin 3 → ℕ} (h : off = ![s, a, 0]) (hb : b = a + k) (inb : ∀ x, off x + (![1, k, 256] : Fin 3 → ℕ) x ≤ (![2, n, 256] : Fin 3 → ℕ) x) :
    (Rect.unit (s := ⟨3, ![2, n, 256]⟩) off ![1, k, 256] inb).set = slab n s a b := by
  subst h hb
  ext i
  rw [Rect.mem_set_unit, mem_slab]
  constructor
  · intro hi
    have h0 := hi 0; have h1 := hi 1
    simp at h0 h1
    omega
  · intro hi x
    match x with
    | 0 => simp; omega
    | 1 => simp; omega
    | 2 => exact ⟨Nat.zero_le _, by have := (i 2).isLt; simpa using this⟩

variable {F : FTy → Type} [FloatOps F]

/-- The proof's user algebra: the pipeline library's beside the transfers' counters. -/
local notation "𝕄" => MT nD τ sig Unit (Elt F) ℕ (Pipeline.UD sig nD τ) ℕ

section PointsTo

variable {ℓ : Loc nD τ sig} {q : PosShare TreeShare} {f g h : Buf (Elt F) ℓ} {P Q R : Finset (Idx ℓ)}

/-- A held set splits into two parts. -/
theorem part_split (hm : ∀ i, i ∈ P ↔ i ∈ Q ∨ i ∈ R) (hd : ∀ i, i ∈ Q → i ∈ R → False) :
    (ℓ ↦[P]{q} f : sProp 𝕄) ⊢ iprop((ℓ ↦[Q]{q} f) ∗ ℓ ↦[R]{q} f) := by
  have e : P = Q ∪ R := by ext i; rw [Finset.mem_union]; exact hm i
  rw [e]
  exact (pointsTo_union (Finset.disjoint_left.mpr fun i hi hj => hd i hi hj)).1

/-- Two disjoint parts held at two contents join at any contents that agree with both. -/
theorem part_join (hm : ∀ i, i ∈ P ↔ i ∈ Q ∨ i ∈ R) (hd : ∀ i, i ∈ Q → i ∈ R → False)
    (hf : ∀ i ∈ Q, f i = h i) (hg : ∀ i ∈ R, g i = h i) :
    iprop((ℓ ↦[Q]{q} f) ∗ ℓ ↦[R]{q} g) ⊢ (ℓ ↦[P]{q} h : sProp 𝕄) := by
  have e : P = Q ∪ R := by ext i; rw [Finset.mem_union]; exact hm i
  rw [e, pointsTo_congr hf, pointsTo_congr hg]
  exact (pointsTo_union (Finset.disjoint_left.mpr fun i hi hj => hd i hi hj)).2

/-- The same with both parts at the same contents. -/
theorem part_join' (hm : ∀ i, i ∈ P ↔ i ∈ Q ∨ i ∈ R) (hd : ∀ i, i ∈ Q → i ∈ R → False) :
    iprop((ℓ ↦[Q]{q} f) ∗ ℓ ↦[R]{q} f) ⊢ (ℓ ↦[P]{q} f : sProp 𝕄) :=
  part_join hm hd (fun _ _ => rfl) (fun _ _ => rfl)

/-- Two disjoint parts held at any contents join at some contents, which agree with the first on its part and with the
    second on its own. -/
theorem part_merge (hm : ∀ i, i ∈ P ↔ i ∈ Q ∨ i ∈ R) (hd : ∀ i, i ∈ Q → i ∈ R → False) :
    iprop((ℓ ↦[Q]{q} f) ∗ ℓ ↦[R]{q} g) ⊢ (iprop(∃ h, ⌜(∀ i ∈ Q, h i = f i) ∧ ∀ i ∈ R, h i = g i⌝ ∗ ℓ ↦[P]{q} h) : sProp 𝕄) := by
  classical
  iintro H
  iexists (fun i => if i ∈ Q then f i else g i)
  isplitr
  · ipureintro
    refine ⟨fun i hi => if_pos hi, fun i hi => if_neg fun hq => hd i hq hi⟩
  · iapply (part_join hm hd (fun i hi => (if_pos hi).symm) (fun i hi => (if_neg fun hq => hd i hq hi).symm)) $$ H

end PointsTo

/-! ## Steps -/

/-- The weakest precondition of a body program on core `c`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

variable {c : Dev nD}

/-- A program, then its continuation, with what the first does not touch kept aside. -/
theorem seq {α β : Type} {p : Prog (TpuEff nD τ sig (Elt F) Λ₀ .tc) β} {k : β → Prog (TpuEff nD τ sig (Elt F) Λ₀ .tc) α}
    {P R : sProp 𝕄} {M : β → sProp 𝕄} {Q : α → sProp 𝕄} (h : P ⊢ WP c p M) (hk : ∀ x, iprop(M x ∗ R) ⊢ WP c (k x) Q) :
    iprop(P ∗ R) ⊢ WP c (p >>= k) Q := by
  rw [WP, wp_bind]
  iintro ⟨HP, HR⟩
  iapply (wp_mono _ _ _ (fun x => hk x))
  iapply wp_frame_r
  isplitl [HP]
  · iapply h $$ HP
  · iexact HR

/-- A unit program, then its continuation under a wand. -/
theorem step {α β : Type} {p : Prog (TpuEff nD τ sig (Elt F) Λ₀ .tc) β} {k : β → Prog (TpuEff nD τ sig (Elt F) Λ₀ .tc) α}
    {P : sProp 𝕄} {M : β → sProp 𝕄} {Q : α → sProp 𝕄} (h : P ⊢ WP c p M) :
    P ⊢ iprop((∀ x, M x -∗ WP c (k x) Q) -∗ WP c (p >>= k) Q) := by
  iintro HP Hk
  rw [WP, wp_bind]
  iapply (wp_wand_r)
  isplitl [HP]
  · iapply h $$ HP
  · iintro %x HM
    iapply Hk $$ HM

/-- A transfer in flight on the DMA cell `s`, promising `D`. -/
abbrev Fl (c : Dev nD) (s : DmaSem sig) (N : ℕ) (D : sProp 𝕄) : sProp 𝕄 :=
  Transfers.Flight (countersEmb (U := Pipeline.UD sig nD τ)) (c : Thread nD τ) (.dma s) () N D

/-- A DMA cell at zero. -/
abbrev Z (c : Dev nD) (s : DmaSem sig) : sProp 𝕄 := semVal ((c : Thread nD τ), SemLoc.dma s) 0

/-- What the core has waited for, no matter what. -/
abbrev Ow (c : Dev nD) : sProp 𝕄 := iprop(∃ W : Waits sig Unit, owes (c : Thread nD τ) 0 W)

/-- Issuing a transfer: the source's rows are lent and the destination's rows promised at the target `T`, which reads
    through the destination's window as the source does through its own. -/
theorem issue {sp sp' : Space} {s : Shape} {e : EltTy} {src : Memref sig .tc sp s e} {dst : Memref sig .tc sp' s e} {sem : DmaSem sig}
    {h1 : src.view.WordExact} {h2 : dst.view.WordExact} {h3 : (DmaTarget.here (p := Proc.tc) dst : DmaTarget nD τ sig .tc sp' s e).Typed sp (.dma sem)}
    {q : PosShare TreeShare} {S : Finset (Idx (src.view.loc (c : Thread nD τ)))} {D : Finset (Idx (dst.view.loc (c : Thread nD τ)))}
    {fs : Buf (Elt F) (src.view.loc (c : Thread nD τ))} {fd T : Buf (Elt F) (dst.view.loc (c : Thread nD τ))} {sm : DmaSem sig} {N : ℕ}
    (hS : src.view.set = S) (hD : dst.view.set = D) (hsm : sem = sm) (hN : dst.view.dmaCredit = N) (hs : 0 < s.numel)
    (hT : ∀ y, src.view.read (Elt F) fs y = dst.view.read (Elt F) T y) :
    iprop((src.view.loc (c : Thread nD τ) ↦[S]{q} fs) ∗ (dst.view.loc (c : Thread nD τ) ↦[D]{fullShare} fd) ∗ Z c sm)
      ⊢ WP c (Prog.lift (.enqueueDma src (.here dst) (.dma sem) h1 h2 h3))
          (fun _ => Fl c sm N iprop((dst.view.loc (c : Thread nD τ) ↦[D]{fullShare} T) ∗ (src.view.loc (c : Thread nD τ) ↦[S]{q} fs))) := by
  subst hS hD hsm
  iintro H
  iapply (Transfers.wp_dmaLocal (countersEmb (U := Pipeline.UD sig nD τ)) Variants.none (c : Thread nD τ) none () N
    (show dst.view.amount (.dma sem) = N from hN) (hN ▸ View.dmaCredit_pos _ hs) (Finset.Subset.refl _)) $$ H
  iintro HF
  rw [wp_ret]
  imodintro
  iapply (Transfers.Flight_mono (D := _) (D' := _) ?_) $$ HF
  refine sep_mono ?_ .rfl
  refine (pointsTo_congr fun i hi => ?_).le
  obtain ⟨y, -, rfl⟩ := Finset.mem_map.mp hi
  have hr : dst.view.read (Elt F) (dst.view.write (Elt F) fd (src.view.read (Elt F) fs) Finset.univ) = dst.view.read (Elt F) T := by
    rw [View.read_write_univ]; exact funext hT
  have := congrFun hr y
  rw [View.read_apply, View.read_apply] at this
  exact (cast_inj _).mp this

/-- Waiting for a transfer: what it promised, and its cell at zero. -/
theorem await {sp sp' : Space} {s s' : Shape} {e e' : EltTy} {src : Memref sig .tc sp s e} {dst : Memref sig .tc sp' s' e'} {sem : DmaSem sig}
    {h1 : src.view.WordExact} {h2 : dst.view.WordExact} {sm : DmaSem sig} {N : ℕ} {D : sProp 𝕄}
    (hsm : sem = sm) (hN : dst.view.dmaCredit = N) :
    iprop(Fl c sm N D ∗ Ow c) ⊢ WP c (Prog.lift (.waitDma2 sem src dst h1 h2)) (fun _ => iprop(D ∗ Z c sm ∗ Ow c)) := by
  subst hsm
  iintro ⟨HF, ⟨%W, HW⟩⟩
  iapply (Transfers.wp_waitLocal (countersEmb (U := Pipeline.UD sig nD τ)) Variants.none (c : Thread nD τ) none () hN) $$ [HF HW]
  · isplitl [HF]
    · iexact HF
    · iexact HW
  iintro ⟨HD, HZ, HW⟩
  rw [wp_ret]
  imodintro
  isplitl [HD]
  · iexact HD
  isplitl [HZ]
  · iexact HZ
  iexists _
  iexact HW

/-- A load out of held rows. -/
theorem load {cs : CoreSpace} {s : Shape} {e : EltTy} {m : Memref sig .tc cs s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) :
    (m.view.loc (c : Thread nD τ) ↦[S]{q} f)
      ⊢ WP c (Prog.lift (.load m r hl)) (fun x => iprop(⌜x = m.view.readAt (Elt F) r f⌝ ∗ (m.view.loc (c : Thread nD τ) ↦[S]{q} f))) := by
  iintro H
  iapply (wp_load Variants.none (c : Thread nD τ) none Set.univ hS) $$ H
  iintro H
  rw [wp_ret]
  imodintro
  isplitr
  · ipureintro; rfl
  · iexact H

/-- A store into held rows, which then hold any contents `T` that the stored window agrees with and that the old contents
    agree with elsewhere. -/
theorem store {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1}
    {S : Finset (Idx ((m.access r).loc (c : Thread nD τ)))} {f T : Buf (Elt F) ((m.access r).loc (c : Thread nD τ))}
    (hS : (m.access r).set ⊆ S) (hw : ∀ y, w y = (m.access r).read (Elt F) T y) (hf : ∀ i ∈ S, i ∉ (m.access r).set → f i = T i) :
    ((m.access r).loc (c : Thread nD τ) ↦[S]{fullShare} f)
      ⊢ WP c (Prog.lift (.store m r w Finset.univ hx hm)) (fun _ => (m.access r).loc (c : Thread nD τ) ↦[S]{fullShare} T) := by
  iintro H
  iapply (wp_store Variants.none (c : Thread nD τ) none Set.univ hS) $$ H
  iintro H
  rw [wp_ret]
  imodintro
  have e : ∀ i ∈ S, (m.access r).write (Elt F) f w Finset.univ i = T i := by
    intro i hi
    by_cases h : i ∈ (m.access r).set
    · obtain ⟨y, -, rfl⟩ := Finset.mem_map.mp h
      have hr : (m.access r).read (Elt F) ((m.access r).write (Elt F) f w Finset.univ) = (m.access r).read (Elt F) T := by
        rw [View.read_write_univ]; exact funext hw
      have := congrFun hr y
      rw [View.read_apply, View.read_apply] at this
      exact (cast_inj _).mp this
    · rw [View.write_of_not_mem _ _ _ (by rw [View.setOn_univ]; exact h)]
      exact hf i hi h
  rw [← pointsTo_congr e]
  iexact H

/-! ## What windows read -/

/-- A row window reads the memref's rows from its first row on. -/
theorem read_rows {sp : Space} {n k a : ℕ} (m : Memref sig .tc sp ⟨2, ![n, 256]⟩ .f32) {off : Fin 2 → ℕ} (h : off = ![a, 0])
    (inb : ∀ x, off x + (![k, 256] : Fin 2 → ℕ) x ≤ (![n, 256] : Fin 2 → ℕ) x) (hr) (f : m.view.ty.Contents (Elt F)) (i : Fin k) (j : Fin 256)
    (hi : a + i.val < n) :
    (m.slice (Rect.unit (s := ⟨2, ![n, 256]⟩) off ![k, 256] inb) hr).view.read (Elt F) f (ix2 i j) = m.view.read (Elt F) f (ix2 ⟨a + i.val, hi⟩ j) := by
  subst h
  refine congrArg (m.view.read (Elt F) f) (funext fun x => Fin.ext ?_)
  match x with
  | 0 => show a + 1 * i.val = a + i.val; omega
  | 1 => show 0 + 1 * j.val = j.val; omega

/-- A row window of one slot, seen without the slot axis, reads the slot's rows from its first row on. -/
theorem read_slab {sp : Space} {n k a s : ℕ} (m : Memref sig .tc sp ⟨3, ![2, n, 256]⟩ .f32) {off : Fin 3 → ℕ} (h : off = ![s, a, 0])
    (inb : ∀ x, off x + (![1, k, 256] : Fin 3 → ℕ) x ≤ (![2, n, 256] : Fin 3 → ℕ) x) (hr)
    (hq : (⟨3, ![1, k, 256]⟩ : Shape).Squeezes ⟨2, ![k, 256]⟩) (f : m.view.ty.Contents (Elt F)) (i : Fin k) (j : Fin 256)
    (hs : s < 2) (hi : a + i.val < n) :
    ((m.slice (Rect.unit (s := ⟨3, ![2, n, 256]⟩) off ![1, k, 256] inb) hr).squeeze ⟨2, ![k, 256]⟩ hq).view.read (Elt F) f (ix2 i j)
      = m.view.read (Elt F) f (ix3 ⟨s, hs⟩ ⟨a + i.val, hi⟩ j) := by
  subst h
  have e : ((m.slice (Rect.unit (s := ⟨3, ![2, n, 256]⟩) ![s, a, 0] ![1, k, 256] inb) hr).squeeze ⟨2, ![k, 256]⟩ hq).view.read (Elt F) f (ix2 i j)
      = m.view.read (Elt F) f ((Rect.unit (s := ⟨3, ![2, n, 256]⟩) ![s, a, 0] ![1, k, 256] inb).emb (Shape.reshapeEquiv hq.numel_eq (ix2 i j))) := rfl
  rw [e, reshapeEquiv_ix2_1ab]
  refine congrArg (m.view.read (Elt F) f) (funext fun x => Fin.ext ?_)
  match x with
  | 0 => show s + 1 * 0 = s; omega
  | 1 => show a + 1 * i.val = a + i.val; omega
  | 2 => show 0 + 1 * j.val = j.val; omega

end Cert.KernelIdeal.Hand
-- ==== Proof.Values.lean ====
/-
  What every buffer of the run holds, as functions of the arguments.

  `Ins` are the arrays the body reads: the node features `X`, the gate weights and bias, and the two recurrent matrices. Point
  `g` handles block `g`: the 4096 leaves below 256 third-level nodes. From these come the leaf rows (`OL`), the third-level rows
  (`H3`), the three top levels (`OT`), the row buffer carried over by seven rows (`H3W`), and the whole result (`G`).
-/
module

public import proofs.«01_k».proof.Proof.Rules

@[expose] public section

noncomputable section

namespace Cert.KernelIdeal.Hand

open Cert.KernelIdeal Cert.KernelIdeal.Gen
open Idealize.ShloMosaic
open Idealize.ShloMosaic.ValueIdx

variable {F : FTy → Type} [FloatOps F]

/-- The arrays the body reads: features, gate weights, gate bias, and the matrices of the forget and of the other gates. -/
structure Ins (F : FTy → Type) where
  X : Vec F S69905x256 .f32
  W : Vec F S256x512 .f32
  wb : Vec F S1x512 .f32
  Uf : Vec F S256x256 .f32
  Uh : Vec F S256x256 .f32

/-- The word the kernel pads with. -/
def zf : F .f32 := Scalar.ofBits .f32 0x00000000#32

variable (I : Ins F)

/-- Feature row `r`, or the padding word past the last row. -/
def xrow (r : ℕ) (j : Fin 256) : F .f32 := if h : r < 69905 then I.X (ix2 ⟨r, h⟩ j) else zf

/-- Block `b`'s window of leaf features, in either slot. -/
def XL (b : ℕ) : Vec F S2x4112x256 .f32 := fun i => xrow I (4368 + 4096 * b + (i 1).val) (i 2)
/-- Block `b`'s window of third-level features, in either slot. -/
def X3 (b : ℕ) : Vec F S2x264x256 .f32 := fun i => xrow I (272 + 256 * b + (i 1).val) (i 2)
/-- The top rows' features. -/
def XT : Vec F S280x256 .f32 := fun i => xrow I (i 0).val (i 1)

/-- What the body loads of block `b`'s leaf window. -/
def A7 (b : ℕ) : Vec F S1x4112x256 .f32 := fun y => xrow I (4368 + 4096 * b + (y 1).val) (y 2)
/-- What the body loads of block `b`'s third-level window. -/
def A8 (b : ℕ) : Vec F S1x256x256 .f32 := fun y => xrow I (272 + 256 * b + (1 + (y 1).val)) (y 2)

/-- The bias as the body uses it. -/
def bias : FVec F S1x512 .f32 := k0_pay13 I.wb
/-- The first half of block `b`'s leaf rows, with the rows before and after that the tile holds. -/
def leafA (b : ℕ) : FVec F S2064x256 .f32 := k0_pay18 I.W (bias I) (A7 I b)
/-- The second half. -/
def leafB (b : ℕ) : FVec F S2064x256 .f32 := k0_pay25 I.W (bias I) (k0_pay15 (A7 I b))
/-- Block `b`'s leaf rows, in either slot. -/
def OL (b : ℕ) : Vec F S2x4096x256 .f32 := fun i =>
  if h : (i 1).val < 2048 then k0_pay30 (leafA I b) (ix3 (0 : Fin 1) ⟨(i 1).val, h⟩ (i 2))
  else k0_pay31 (leafB I b) (ix3 (0 : Fin 1) ⟨(i 1).val - 2048, by have h4 : (i 1).val < 4096 := (i 1).isLt; omega⟩ (i 2))

/-- The first half of block `b`'s third-level rows. -/
def h3A (b : ℕ) : FVec F S128x256 .f32 :=
  k0_pay32 (k0_pay23 I.Uh (k0_pay17 I.W (bias I) (A8 I b)) (k0_pay21 I.W (bias I) (A7 I b) I.Uf) (k0_pay22 I.W (bias I) (A7 I b) I.Uf (A8 I b)))
/-- The second half. -/
def h3B (b : ℕ) : FVec F S128x256 .f32 :=
  k0_pay33 I.Uh (k0_pay24 (k0_pay16 I.W (bias I) (A8 I b))) (k0_pay28 I.W (bias I) (k0_pay15 (A7 I b)) I.Uf)
    (k0_pay29 I.W (bias I) (k0_pay15 (A7 I b)) I.Uf (k0_pay16 I.W (bias I) (A8 I b))) (Scalar.ofBits .f32 0xC0E00000#32)
/-- The 4096 third-level rows. -/
def H3 : Vec F S4096x256 .f32 := fun i =>
  if h : (i 0).val % 256 < 128 then h3A I ((i 0).val / 256) (ix2 ⟨(i 0).val % 256, h⟩ (i 1))
  else h3B I ((i 0).val / 256) (ix2 ⟨(i 0).val % 256 - 128, by omega⟩ (i 1))

/-- What the last point computes of the top levels. -/
def topPre : FVec F S280x512 .f32 := k0_pay1 I.W (bias I) (XT I)
def topH2 : FVec F S256x256 .f32 := k0_pay2 I.W (bias I) I.Uf I.Uh (XT I) (H3 I)
def topH1 : FVec F S16x256 .f32 :=
  k0_pay6 I.Uh (topPre I) (k0_pay4 I.W (bias I) I.Uf I.Uh (XT I) (H3 I)) (k0_pay5 I.W (bias I) I.Uf I.Uh (XT I) (H3 I))
def topH0 : FVec F S1x256 .f32 :=
  k0_pay7 I.Uf I.Uh (topPre I) (k0_pay4 I.W (bias I) I.Uf I.Uh (XT I) (H3 I)) (k0_pay5 I.W (bias I) I.Uf I.Uh (XT I) (H3 I))

/-- The first seven third-level rows, and the other 4089. -/
def H3a : Vec F S7x256 .f32 := fun y => H3 I (ix2 ⟨(y 0).val, by have h7 : (y 0).val < 7 := (y 0).isLt; omega⟩ (y 1))
def H3b : Vec F S4089x256 .f32 := fun y => H3 I (ix2 ⟨7 + (y 0).val, by have h7 : (y 0).val < 4089 := (y 0).isLt; omega⟩ (y 1))

/-- The result's first 280 rows: levels 0, 1, 2 and the first seven third-level rows. -/
def OT : Vec F S280x256 .f32 := fun i =>
  if h0 : (i 0).val < 1 then k0_pay8 (topH0 I) (ix2 ⟨(i 0).val, h0⟩ (i 1))
  else if h1 : (i 0).val < 17 then k0_pay9 (topH1 I) (ix2 ⟨(i 0).val - 1, by omega⟩ (i 1))
  else if h2 : (i 0).val < 273 then k0_pay10 (topH2 I) (ix2 ⟨(i 0).val - 17, by omega⟩ (i 1))
  else k0_pay11 (H3a I) (ix2 ⟨(i 0).val - 273, by have h3 : (i 0).val < 280 := (i 0).isLt; omega⟩ (i 1))

/-- The next 4096 rows of the result: the other third-level rows and the first seven leaves. -/
def H3W : Vec F S4096x256 .f32 := fun i =>
  if h : (i 0).val < 4089 then k0_pay12 (H3b I) (ix2 ⟨(i 0).val, h⟩ (i 1))
  else k0_pay34 (leafA I 0) (ix2 ⟨(i 0).val - 4089, by have h3 : (i 0).val < 4096 := (i 0).isLt; omega⟩ (i 1))

/-- The whole result. -/
def G : Vec F S69905x256 .f32 := fun i =>
  if h0 : (i 0).val < 280 then OT I (ix2 ⟨(i 0).val, h0⟩ (i 1))
  else if h1 : (i 0).val < 4376 then H3W I (ix2 ⟨(i 0).val - 280, by omega⟩ (i 1))
  else OL I (((i 0).val - 4376) / 4096) (ix3 (0 : Fin 2) ⟨((i 0).val - 4376) % 4096, Nat.mod_lt _ (by decide)⟩ (i 1))

/-! ## Reading them -/

theorem X_apply (i : S69905x256.Idx) : I.X i = xrow I (i 0).val (i 1) := by
  have h : (i 0).val < 69905 := (i 0).isLt
  refine Eq.trans ?_ (dif_pos h).symm
  exact congrArg I.X (funext fun x => by match x with | 0 => rfl | 1 => rfl)

/-- The leaf rows do not depend on the slot. -/
theorem OL_slot (b : ℕ) (s s' : Fin 2) (r : Fin 4096) (j : Fin 256) : OL I b (ix3 s r j) = OL I b (ix3 s' r j) := rfl

theorem G_top (r : Fin 280) (j : Fin 256) : G I (ix2 ⟨r.val, by omega⟩ j) = OT I (ix2 r j) := by
  rw [G]; exact dif_pos r.isLt

theorem G_mid (r : Fin 4096) (j : Fin 256) : G I (ix2 ⟨280 + r.val, by omega⟩ j) = H3W I (ix2 r j) := by
  have h0 : ¬ 280 + r.val < 280 := by omega
  have h1 : 280 + r.val < 4376 := by omega
  rw [G]
  refine (dif_neg h0).trans ((dif_pos h1).trans ?_)
  exact congrArg (fun x : Fin 4096 => H3W I (ix2 x j)) (Fin.ext (by show 280 + r.val - 280 = r.val; omega))

theorem G_leaf (b : ℕ) (s : Fin 2) (r : Fin 4096) (j : Fin 256) (h : 4376 + 4096 * b + r.val < 69905) :
    G I (ix2 ⟨4376 + 4096 * b + r.val, h⟩ j) = OL I b (ix3 s r j) := by
  have h0 : ¬ 4376 + 4096 * b + r.val < 280 := by omega
  have h1 : ¬ 4376 + 4096 * b + r.val < 4376 := by omega
  rw [G]
  refine (dif_neg h0).trans ((dif_neg h1).trans ?_)
  have e1 : (4376 + 4096 * b + r.val - 4376) / 4096 = b := by omega
  have e2 : (4376 + 4096 * b + r.val - 4376) % 4096 = r.val := by omega
  show OL I ((4376 + 4096 * b + r.val - 4376) / 4096) (ix3 (0 : Fin 2) ⟨(4376 + 4096 * b + r.val - 4376) % 4096, _⟩ j) = _
  rw [e1, OL_slot I b s 0]
  exact congrArg (fun x : Fin 4096 => OL I b (ix3 (0 : Fin 2) x j)) (Fin.ext e2)

end Cert.KernelIdeal.Hand
-- ==== Proof.Moves.lean ====
/-
  The kernel's transfers, each as one triple: which rows it lends, which it promises, on which cell it completes.
-/
module

public import proofs.«01_k».proof.Proof.Values
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-! ## The buffers -/

abbrev bX : Memref sig .tc .hbm S69905x256 .f32 := Memref.whole main_arg0
abbrev bO : Memref sig .tc .hbm S69905x256 .f32 := Memref.whole main_v1
abbrev bXL : Memref sig .tc .vmem S2x4112x256 .f32 := Memref.whole cc0_scratch0
abbrev bX3 : Memref sig .tc .vmem S2x264x256 .f32 := Memref.whole cc0_scratch1
abbrev bOL : Memref sig .tc .vmem S2x4096x256 .f32 := Memref.whole cc0_scratch2
abbrev bH3 : Memref sig .tc .vmem S4096x256 .f32 := Memref.whole cc0_scratch3
abbrev bHW : Memref sig .tc .vmem S4096x256 .f32 := Memref.whole cc0_scratch4
abbrev bXT : Memref sig .tc .vmem S280x256 .f32 := Memref.whole cc0_scratch5
abbrev bOT : Memref sig .tc .vmem S280x256 .f32 := Memref.whole cc0_scratch6

/-- Rows of the features, at a share. -/
abbrev xAt (c : Dev nD) (I : Ins F) (q : PosShare TreeShare) (a b : ℕ) : sProp 𝕄 :=
  bX.view.loc (c : Thread nD τ) ↦[rows 69905 a b]{q} I.X
/-- Rows of the result. -/
abbrev oAt (c : Dev nD) (a b : ℕ) (f : Vec F S69905x256 .f32) : sProp 𝕄 :=
  bO.view.loc (c : Thread nD τ) ↦[rows 69905 a b]{fullShare} f
/-- Rows of a slot of the leaf window's ring, of the third-level window's, of the leaf results'. -/
abbrev xlAt (c : Dev nD) (s a b : ℕ) (f : Vec F S2x4112x256 .f32) : sProp 𝕄 :=
  bXL.view.loc (c : Thread nD τ) ↦[slab 4112 s a b]{fullShare} f
abbrev x3At (c : Dev nD) (s a b : ℕ) (f : Vec F S2x264x256 .f32) : sProp 𝕄 :=
  bX3.view.loc (c : Thread nD τ) ↦[slab 264 s a b]{fullShare} f
abbrev olAt (c : Dev nD) (s a b : ℕ) (f : Vec F S2x4096x256 .f32) : sProp 𝕄 :=
  bOL.view.loc (c : Thread nD τ) ↦[slab 4096 s a b]{fullShare} f
/-- The single buffers, whole. -/
abbrev h3At (c : Dev nD) (f : Vec F S4096x256 .f32) : sProp 𝕄 := bH3.view.loc (c : Thread nD τ) ↦{fullShare} f
abbrev hwAt (c : Dev nD) (f : Vec F S4096x256 .f32) : sProp 𝕄 := bHW.view.loc (c : Thread nD τ) ↦{fullShare} f
abbrev xtAt (c : Dev nD) (f : Vec F S280x256 .f32) : sProp 𝕄 := bXT.view.loc (c : Thread nD τ) ↦{fullShare} f
abbrev otAt (c : Dev nD) (f : Vec F S280x256 .f32) : sProp 𝕄 := bOT.view.loc (c : Thread nD τ) ↦{fullShare} f

/-! ## Cells and amounts -/

/-- The cell of half `h` of slot `s` of the leaf window, the odd row's, the third-level window's, the top rows', and of the
    leaf results and of the last point's four. -/
def semXL (s h : ℕ) : DmaSem sig := ⟨(4 + 2 * s + h) % 20, Nat.mod_lt _ (by decide)⟩
def semRow : DmaSem sig := ⟨8, by decide⟩
def semX3 (s : ℕ) : DmaSem sig := ⟨(9 + s) % 20, Nat.mod_lt _ (by decide)⟩
def semXT : DmaSem sig := ⟨11, by decide⟩
def semOL (s h : ℕ) : DmaSem sig := ⟨(12 + 2 * s + h) % 20, Nat.mod_lt _ (by decide)⟩
def semTop (k : ℕ) : DmaSem sig := ⟨(16 + k) % 20, Nat.mod_lt _ (by decide)⟩

theorem sem_xl {off : Fin 2 → ℕ} {s h : ℕ} (ho : off = ![s, h]) (inb : ∀ a, off a + S1x1.size a ≤ S2x2.size a) :
    ((cc0_scratch7.slice (Rect.unit (s := S2x2) off S1x1.size inb)).squeeze S_ squeezes_S1x1_S_).sem = semXL s h := by
  subst ho
  have h0 : s + 1 ≤ 2 := inb 0
  have h1 : h + 1 ≤ 2 := inb 1
  obtain rfl | rfl : s = 0 ∨ s = 1 := by omega
  all_goals obtain rfl | rfl : h = 0 ∨ h = 1 := by omega
  all_goals clear h0 h1; revert inb; decide +kernel

theorem sem_ol {off : Fin 2 → ℕ} {s h : ℕ} (ho : off = ![s, h]) (inb : ∀ a, off a + S1x1.size a ≤ S2x2.size a) :
    ((cc0_scratch11.slice (Rect.unit (s := S2x2) off S1x1.size inb)).squeeze S_ squeezes_S1x1_S_).sem = semOL s h := by
  subst ho
  have h0 : s + 1 ≤ 2 := inb 0
  have h1 : h + 1 ≤ 2 := inb 1
  obtain rfl | rfl : s = 0 ∨ s = 1 := by omega
  all_goals obtain rfl | rfl : h = 0 ∨ h = 1 := by omega
  all_goals clear h0 h1; revert inb; decide +kernel

theorem sem_x3 {off : Fin 1 → ℕ} {s : ℕ} (ho : off = ![s]) (inb : ∀ a, off a + S1.size a ≤ S2.size a) :
    ((cc0_scratch9.slice (Rect.unit (s := S2) off S1.size inb)).squeeze S_ squeezes_S1_S_).sem = semX3 s := by
  subst ho
  have h0 : s + 1 ≤ 2 := inb 0
  obtain rfl | rfl : s = 0 ∨ s = 1 := by omega
  all_goals clear h0; revert inb; decide +kernel

/-- The amount a transfer of `k` rows completes with, by the buffer it fills. -/
abbrev amXL (k : ℕ) : ℕ := Ref.dmaCredit cc0_scratch0 ⟨2, ![k, 256]⟩ .f32
abbrev amX3 : ℕ := Ref.dmaCredit cc0_scratch1 S264x256 .f32
abbrev amXT : ℕ := Ref.dmaCredit cc0_scratch5 S280x256 .f32
abbrev amO (k : ℕ) : ℕ := Ref.dmaCredit main_v1 ⟨2, ![k, 256]⟩ .f32

theorem numel_pos {k : ℕ} (h : 0 < k) : 0 < (⟨2, ![k, 256]⟩ : Shape).numel := by
  simp [Shape.numel, Fin.prod_univ_two]; exact h

variable {c : Dev nD} {I : Ins F}

/-! ## Running one operation, the rest of what is held kept aside -/

/-- One operation that takes two conjuncts. -/
theorem step2 {α β : Type} {p : Prog (TpuEff nD τ sig (Elt F) Λ₀ .tc) β} {k : β → Prog (TpuEff nD τ sig (Elt F) Λ₀ .tc) α}
    {A B : sProp 𝕄} {M : β → sProp 𝕄} {Q : α → sProp 𝕄} (h : iprop(A ∗ B) ⊢ WP c p M) :
    A ⊢ iprop(B -∗ (∀ x, M x -∗ WP c (k x) Q) -∗ WP c (p >>= k) Q) := by
  iintro HA HB
  iapply (step h) $$ [HA HB]
  isplitl [HA]
  · iexact HA
  · iexact HB

/-- The end of a part: its answer, and what is held regrouped. -/
theorem done {α : Type} {P : sProp 𝕄} {x : α} {Q : α → sProp 𝕄} (h : P ⊢ Q x) :
    P ⊢ WP c (pure x : Prog (TpuEff nD τ sig (Elt F) Λ₀ .tc) α) Q := by
  refine h.trans ?_
  show Q x ⊢ wp frame (wpE (defs₀ (F := F)) Variants.none (c : Thread nD τ) none) Set.univ (Prog.ret x) Q
  rw [wp_ret]
  iintro H
  imodintro
  iexact H

/-- A weaker postcondition. -/
theorem weaken {α : Type} {p : Prog (TpuEff nD τ sig (Elt F) Λ₀ .tc) α} {M M' : α → sProp 𝕄} (h : ∀ x, M x ⊢ M' x) :
    WP c p M ⊢ WP c p M' :=
  wp_mono frame (wpE (defs₀ (F := F)) Variants.none (c : Thread nD τ) none) Set.univ h

/-- A branch whose two arms go on with the same rest, from the same assertion. -/
theorem fork {α : Type} {C : Prop} [Decidable C] {p : C → Prog (TpuEff nD τ sig (Elt F) Λ₀ .tc) α} {K : Prog (TpuEff nD τ sig (Elt F) Λ₀ .tc) α}
    {P : sProp 𝕄} {Q : α → sProp 𝕄} (mid : sProp 𝕄) (h1 : ∀ h : C, (mid ⊢ WP c K Q) → (P ⊢ WP c (p h) Q)) (h2 : ¬ C → (P ⊢ mid))
    (hK : mid ⊢ WP c K Q) : P ⊢ WP c (dite C p fun _ => K) Q := by
  by_cases h : C
  · rw [dif_pos h]; exact h1 h hK
  · rw [dif_neg h]; exact (h2 h).trans hK

/-- An operation run beside what it does not touch. -/
theorem keepT {α : Type} {p : Prog (TpuEff nD τ sig (Elt F) Λ₀ .tc) α} {P R : sProp 𝕄} {M M' : α → sProp 𝕄} (h : P ⊢ WP c p M)
    (hM : ∀ x, iprop(M x ∗ R) ⊢ M' x) : P ⊢ iprop(R -∗ WP c p M') := by
  iintro HP HR
  iapply (wp_wand frame (wpE (defs₀ (F := F)) Variants.none (c : Thread nD τ) none) Set.univ) $$ [HP]
  · iapply h $$ HP
  iintro %x HM
  iapply (hM x)
  isplitl [HM]
  · iexact HM
  · iexact HR

theorem keep {α : Type} {p : Prog (TpuEff nD τ sig (Elt F) Λ₀ .tc) α} {P R : sProp 𝕄} {M : α → sProp 𝕄} (h : P ⊢ WP c p M) :
    P ⊢ iprop(R -∗ WP c p (fun x => iprop(M x ∗ R))) := keepT h fun _ => .rfl

/-! ## Loads and stores -/

theorem setOn_whole (b : Ref sig .tc) (M : Finset b.ty.shape.Idx) : (View.whole b : View sig .tc _ _ _).setOn M = M := by
  ext i; simp [View.setOn, View.whole]

/-- A load whose answer is not used. -/
theorem load0 {cs : CoreSpace} {s : Shape} {e : EltTy} {m : Memref sig .tc cs s e} {r : LoadRect s} {hl : m.view.LoadsAt r}
    {S : Finset (Idx (m.view.loc (c : Thread nD τ)))} {q : PosShare TreeShare} {f : Buf (Elt F) (m.view.loc (c : Thread nD τ))}
    (hS : m.view.setOn r.set ⊆ S) :
    (m.view.loc (c : Thread nD τ) ↦[S]{q} f) ⊢ WP c (Prog.lift (.load m r hl)) (fun _ => m.view.loc (c : Thread nD τ) ↦[S]{q} f) := by
  refine (load hS).trans (weaken fun x => ?_)
  iintro ⟨-, H⟩
  iexact H

/-- A load of a whole memref. -/
theorem load_full {cs : CoreSpace} {s : Shape} {e : EltTy} {m : Memref sig .tc cs s e} {off : Fin s.rank → ℕ} {inb : ∀ a, off a + s.size a ≤ s.size a}
    {hl : m.view.LoadsAt (Rect.unit off s.size inb).toLoadRect} {q : PosShare TreeShare} {d : s.Idx → Elt F e} :
    owns (c : Thread nD τ) m q d ⊢ WP c (Prog.lift (.load m (Rect.unit off s.size inb).toLoadRect hl)) (fun x => iprop(⌜x = d⌝ ∗ owns (c : Thread nD τ) m q d)) := by
  unfold owns
  iintro ⟨%f, %hf, H⟩
  have h0 := load (c := c) (hl := hl) (q := q) (f := f) (S := m.view.set) (View.setOn_subset_set _ _)
  iapply (h0.trans (weaken (M' := fun x => iprop(⌜x = d⌝ ∗ ∃ f, ⌜m.view.read (Elt F) f = d⌝ ∗ (m.view.loc (c : Thread nD τ) ↦[m.view.set]{q} f))) fun x => ?_)) $$ H
  iintro ⟨%hx, H⟩
  isplitr
  · ipureintro; rw [hx, View.readAt_full, hf]
  iexists f
  isplitr
  · ipureintro; exact hf
  · iexact H

/-- A load of some rows of a whole memref. -/
theorem load_own {cs : CoreSpace} {s : Shape} {e : EltTy} {m : Memref sig .tc cs s e} {r : LoadRect s}
    {hl : m.view.LoadsAt r} {q : PosShare TreeShare} {d : s.Idx → Elt F e} :
    owns (c : Thread nD τ) m q d ⊢ WP c (Prog.lift (.load m r hl)) (fun x => iprop(⌜x = fun y => d (r.idx y)⌝ ∗ owns (c : Thread nD τ) m q d)) := by
  unfold owns
  iintro ⟨%f, %hf, H⟩
  have h0 := load (c := c) (hl := hl) (q := q) (f := f) (S := m.view.set) (View.setOn_subset_set _ _)
  iapply (h0.trans (weaken (M' := fun x => iprop(⌜x = fun y => d (r.idx y)⌝ ∗ ∃ f, ⌜m.view.read (Elt F) f = d⌝ ∗ (m.view.loc (c : Thread nD τ) ↦[m.view.set]{q} f))) fun x => ?_)) $$ H
  iintro ⟨%hx, H⟩
  isplitr
  · ipureintro; rw [hx, ← hf]; rfl
  iexists f
  isplitr
  · ipureintro; exact hf
  · iexact H

/-- A store into a whole memref, which then reads any contents `d'` that has the stored window in its place and is the old one
    elsewhere. -/
theorem store_own {cs : CoreSpace} {s : Shape} {e : EltTy} {m : Memref sig .tc cs s e} {r : Rect s} {w : r.shape.Idx → Elt F e}
    {hx : (m.access r).Stores Finset.univ} {hm : Finset.univ = Finset.univ ∨ ∀ a, r.stride a = 1} {d d' : s.Idx → Elt F e}
    (hw : ∀ y, w y = d' (r.emb y)) (hd : ∀ i, i ∉ r.set → d i = d' i) :
    owns (c : Thread nD τ) m fullShare d ⊢ WP c (Prog.lift (.store m r w Finset.univ hx hm)) (fun _ => owns (c : Thread nD τ) m fullShare d') := by
  unfold owns
  iintro ⟨%f, %hf, H⟩
  have h0 := store (c := c) (m := m) (r := r) (w := w) (hx := hx) (hm := hm) (S := m.view.set) (f := f) (T := m.view.write (Elt F) f d' Finset.univ) ?_ ?_ ?_
  iapply (h0.trans (weaken (M' := fun _ => iprop(∃ f, ⌜m.view.read (Elt F) f = d'⌝ ∗ (m.view.loc (c : Thread nD τ) ↦[m.view.set]{fullShare} f))) fun x => ?_)) $$ H
  iintro H
  iexists (m.view.write (Elt F) f d' Finset.univ)
  isplitr
  · ipureintro; rw [View.read_write_univ]
  · iexact H
  · exact View.set_slice_subset _ _
  · intro y
    have := congrFun (m.view.read_write_univ (Val := Elt F) f d') (r.emb y)
    rw [hw]; exact this.symm
  · intro i hi hn
    obtain ⟨y, -, rfl⟩ := Finset.mem_map.mp hi
    have h1 := congrFun (m.view.read_write_univ (Val := Elt F) f d') y
    have h2 := congrFun hf y
    have h3 : d y = d' y := hd y fun hy => hn (by
      obtain ⟨z, rfl⟩ := LoadRect.exists_idx_of_mem _ hy
      exact Finset.mem_map.mpr ⟨z, Finset.mem_univ _, rfl⟩)
    rw [View.read_apply] at h1 h2
    have h4 := h2.trans (h3.trans h1.symm)
    exact (cast_inj _).mp h4

/-- Contents `d` with rows `a ≤ · < b` replaced by those of `T`. -/
def patch {n : ℕ} (a b : ℕ) (T d : Vec F ⟨2, ![n, 256]⟩ .f32) : Vec F ⟨2, ![n, 256]⟩ .f32 :=
  fun i => if a ≤ (i 0).val ∧ (i 0).val < b then T i else d i

theorem store_rows {cs : CoreSpace} {n k a : ℕ} {m : Memref sig .tc cs ⟨2, ![n, 256]⟩ .f32} {off : Fin 2 → ℕ}
    {inb : ∀ x, off x + (⟨2, ![k, 256]⟩ : Shape).size x ≤ (⟨2, ![n, 256]⟩ : Shape).size x} {w : (⟨2, ![k, 256]⟩ : Shape).Idx → Elt F .f32}
    {hx : (m.access (Rect.unit off (⟨2, ![k, 256]⟩ : Shape).size inb)).Stores Finset.univ}
    {hm : Finset.univ = Finset.univ ∨ ∀ a, (Rect.unit (s := ⟨2, ![n, 256]⟩) off (⟨2, ![k, 256]⟩ : Shape).size inb).stride a = 1} {d : Vec F ⟨2, ![n, 256]⟩ .f32}
    (T : Vec F ⟨2, ![n, 256]⟩ .f32) (ho : off = ![a, 0]) (hw : ∀ (i : Fin k) (j : Fin 256) (h : a + i.val < n), w (ix2 i j) = T (ix2 ⟨a + i.val, h⟩ j)) :
    owns (c : Thread nD τ) m fullShare d
      ⊢ WP c (Prog.lift (.store m (Rect.unit off (⟨2, ![k, 256]⟩ : Shape).size inb) w Finset.univ hx hm)) (fun _ => owns (c : Thread nD τ) m fullShare (patch a (a + k) T d)) := by
  subst ho
  have ha : a + k ≤ n := inb 0
  refine store_own ?_ ?_
  · intro y
    obtain ⟨i, j, rfl⟩ : ∃ (i : Fin k) (j : Fin 256), y = ix2 i j := ⟨y 0, y 1, funext fun x => by match x with | 0 => rfl | 1 => rfl⟩
    have hi : a + i.val < n := by omega
    have e : (Rect.unit (s := ⟨2, ![n, 256]⟩) ![a, 0] (⟨2, ![k, 256]⟩ : Shape).size inb).emb (ix2 i j) = ix2 ⟨a + i.val, hi⟩ j := by
      funext x; apply Fin.ext
      match x with
      | 0 => show a + 1 * i.val = a + i.val; omega
      | 1 => show 0 + 1 * j.val = j.val; omega
    rw [e, hw i j hi]
    exact (if_pos ⟨Nat.le_add_right _ _, Nat.add_lt_add_left i.isLt _⟩).symm
  · intro i hi
    refine (if_neg fun h => hi ?_).symm
    rw [rect_rows rfl rfl inb]
    exact mem_rows.mpr h

end Cert.KernelIdeal.Hand
-- ==== Proof.Pieces.lean ====
/-
  The pieces a run is made of. Each buffer window that a transfer fills or reads is in one of three states: at rest (its cell at
  zero, what it lends and what it fills both held), in flight (the promise of the transfer, and the rows not lent), or here (at
  rest again, with the contents the transfer brought). One triple takes a piece from rest to flight, one from flight to here.
-/
module

public import proofs.«01_k».proof.Proof.Moves

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

/-! ## Cutting rows -/

theorem rows_cut {n a b : ℕ} (m : ℕ) (h1 : a ≤ m) (h2 : m ≤ b) (i : Shape.Idx ⟨2, ![n, 256]⟩) :
    i ∈ rows n a b ↔ i ∈ rows n a m ∨ i ∈ rows n m b := by
  rw [mem_rows, mem_rows, mem_rows]; omega
theorem rows_off {n a b : ℕ} (m : ℕ) (i : Shape.Idx ⟨2, ![n, 256]⟩) : i ∈ rows n a m → i ∈ rows n m b → False := by
  rw [mem_rows, mem_rows]; omega
theorem slab_cut {n s a b : ℕ} (m : ℕ) (h1 : a ≤ m) (h2 : m ≤ b) (i : Shape.Idx ⟨3, ![2, n, 256]⟩) :
    i ∈ slab n s a b ↔ i ∈ slab n s a m ∨ i ∈ slab n s m b := by
  rw [mem_slab, mem_slab, mem_slab]; omega
theorem slab_off {n s a b : ℕ} (m : ℕ) (i : Shape.Idx ⟨3, ![2, n, 256]⟩) : i ∈ slab n s a m → i ∈ slab n s m b → False := by
  rw [mem_slab, mem_slab]; omega
/-- The two slots make the buffer. -/
theorem slab_two {n : ℕ} (i : Shape.Idx ⟨3, ![2, n, 256]⟩) : i ∈ (Finset.univ : Finset (Shape.Idx ⟨3, ![2, n, 256]⟩)) ↔ i ∈ slab n 0 0 n ∨ i ∈ slab n 1 0 n := by
  have h0 : (i 0).val < 2 := (i 0).isLt
  have h1 : (i 1).val < n := (i 1).isLt
  rw [mem_slab, mem_slab]
  simp only [Finset.mem_univ, true_iff]
  omega
theorem slab_two_off {n a b a' b' : ℕ} (i : Shape.Idx ⟨3, ![2, n, 256]⟩) : i ∈ slab n 0 a b → i ∈ slab n 1 a' b' → False := by
  rw [mem_slab, mem_slab]; omega

variable (c : Dev nD) (I : Ins F)

/-- The share of the features that reader `k` lends: four leaf windows, the odd row, two third-level windows, the top rows. -/
abbrev sh (k : ℕ) : PosShare TreeShare := Transfers.shareTokN fullShare k

/-- Rows of the features cut out of all of them, and put back. -/
theorem x_cut {q : PosShare TreeShare} {r n : ℕ} (h : r + n ≤ 69905) :
    xAt c I q 0 69905 ⊢ iprop(xAt c I q r (r + n) ∗ xAt c I q 0 r ∗ xAt c I q (r + n) 69905) := by
  have h1 : xAt c I q 0 69905 ⊢ iprop(xAt c I q 0 (r + n) ∗ xAt c I q (r + n) 69905) :=
    part_split (rows_cut _ (by omega) (by omega)) (rows_off _)
  have h2 : xAt c I q 0 (r + n) ⊢ iprop(xAt c I q 0 r ∗ xAt c I q r (r + n)) :=
    part_split (rows_cut _ (by omega) (by omega)) (rows_off _)
  iintro H
  ihave ⟨H, H3⟩ := h1 $$ H
  ihave ⟨H1, H2⟩ := h2 $$ H
  iframe

theorem x_paste {q : PosShare TreeShare} {r n : ℕ} (h : r + n ≤ 69905) :
    iprop(xAt c I q r (r + n) ∗ xAt c I q 0 r ∗ xAt c I q (r + n) 69905) ⊢ xAt c I q 0 69905 := by
  have h1 : iprop(xAt c I q 0 (r + n) ∗ xAt c I q (r + n) 69905) ⊢ xAt c I q 0 69905 :=
    part_join' (rows_cut _ (by omega) (by omega)) (rows_off _)
  have h2 : iprop(xAt c I q 0 r ∗ xAt c I q r (r + n)) ⊢ xAt c I q 0 (r + n) :=
    part_join' (rows_cut _ (by omega) (by omega)) (rows_off _)
  iintro ⟨H2, H1, H3⟩
  iapply h1
  isplitl [H1 H2]
  · iapply h2; iframe
  · iexact H3

/-! ## Windows of the leaf features -/

/-- Rows `a ≤ · < a + n` of slot `s` of the leaf window: at rest, -/
def xlI (k : ℕ) (sm : DmaSem sig) (s a n : ℕ) : sProp 𝕄 :=
  iprop(Z c sm ∗ (∃ f : Vec F S2x4112x256 .f32, xlAt c s a (a + n) f) ∗ xAt c I (sh k) 0 69905)
/-- in flight with block `b`, -/
def xlF (k : ℕ) (sm : DmaSem sig) (s a n b : ℕ) : sProp 𝕄 :=
  iprop(Fl c sm (amXL n) iprop(xlAt c s a (a + n) (XL I b) ∗ xAt c I (sh k) (4368 + 4096 * b + a) (4368 + 4096 * b + a + n))
    ∗ xAt c I (sh k) 0 (4368 + 4096 * b + a) ∗ xAt c I (sh k) (4368 + 4096 * b + a + n) 69905)
/-- here. -/
def xlH (k : ℕ) (sm : DmaSem sig) (s a n b : ℕ) : sProp 𝕄 :=
  iprop(Z c sm ∗ xlAt c s a (a + n) (XL I b) ∗ xAt c I (sh k) 0 69905)

variable {c I}

/-- The transfer into such rows, from rest. -/
theorem xl_send {k n s a r b : ℕ} {sm sem : DmaSem sig} {offs : Fin 2 → ℕ} {offd : Fin 3 → ℕ}
    {inbs : ∀ x, offs x + (⟨2, ![n, 256]⟩ : Shape).size x ≤ S69905x256.size x} {inbd : ∀ x, offd x + (⟨3, ![1, n, 256]⟩ : Shape).size x ≤ S2x4112x256.size x}
    {hrs hrd} {hq : (⟨3, ![1, n, 256]⟩ : Shape).Squeezes ⟨2, ![n, 256]⟩} {h1 h2 h3}
    (hsm : sem = sm) (hos : offs = ![r, 0]) (hod : offd = ![s, a, 0]) (hn : 0 < n) (hr : r = 4368 + 4096 * b + a) :
    xlI c I k sm s a n
      ⊢ WP c (Prog.lift (.enqueueDma (bX.slice (Rect.unit (s := S69905x256) offs (⟨2, ![n, 256]⟩ : Shape).size inbs) hrs)
          (.here ((bXL.slice (Rect.unit (s := S2x4112x256) offd (⟨3, ![1, n, 256]⟩ : Shape).size inbd) hrd).squeeze ⟨2, ![n, 256]⟩ hq))
          (.dma sem) h1 h2 h3))
        (fun _ => xlF c I k sm s a n b) := by
  have hs : s < 2 := by subst hod; have := inbd 0; simp at this; omega
  have ha : a + n ≤ 4112 := by subst hod; exact inbd 1
  have hrn : r + n ≤ 69905 := by subst hos; exact inbs 0
  subst hr
  unfold xlI xlF
  iintro ⟨HZ, ⟨%f, Hf⟩, Hx⟩
  ihave ⟨Hx, H0, H1⟩ := (x_cut c I hrn) $$ Hx
  have h0 := issue (c := c) (src := bX.slice (Rect.unit (s := S69905x256) offs (⟨2, ![n, 256]⟩ : Shape).size inbs) hrs)
    (dst := (bXL.slice (Rect.unit (s := S2x4112x256) offd (⟨3, ![1, n, 256]⟩ : Shape).size inbd) hrd).squeeze ⟨2, ![n, 256]⟩ hq)
    (h1 := h1) (h2 := h2) (h3 := h3) (q := sh k) (fs := I.X) (fd := f) (T := XL I b)
    ((View.set_slice_whole _ _).trans (rect_rows hos rfl inbs)) ((View.set_reshape _ _).trans ((View.set_slice_whole _ _).trans (rect_slab hod rfl inbd)))
    hsm rfl (numel_pos hn) ?_
  iapply (keep h0) $$ [HZ Hf Hx] [H0 H1]
  · isplitl [Hx]
    · iexact Hx
    isplitl [Hf]
    · iexact Hf
    · iexact HZ
  · iframe
  intro y
  obtain ⟨i, j, rfl⟩ : ∃ (i : Fin n) (j : Fin 256), y = ix2 i j := ⟨y 0, y 1, funext fun x => by match x with | 0 => rfl | 1 => rfl⟩
  rw [read_rows bX hos inbs hrs _ i j (by omega), read_slab bXL hod inbd hrd hq _ i j hs (by omega)]
  show I.X (ix2 _ j) = xrow I (4368 + 4096 * b + (a + i.val)) j
  rw [X_apply]
  show xrow I (4368 + 4096 * b + a + i.val) j = _
  rw [show 4368 + 4096 * b + a + i.val = 4368 + 4096 * b + (a + i.val) by omega]

/-- The wait for it. -/
theorem xl_recv {k n s a b : ℕ} {sm sem : DmaSem sig} {sp sp' : Space} {s1 s2 : Shape} {e1 e2 : EltTy} {src : Memref sig .tc sp s1 e1}
    {dst : Memref sig .tc sp' s2 e2} {h1 h2} (hsm : sem = sm) (hN : dst.view.dmaCredit = amXL n) (hb : 4368 + 4096 * b + a + n ≤ 69905) :
    iprop(xlF c I k sm s a n b ∗ Ow c) ⊢ WP c (Prog.lift (.waitDma2 sem src dst h1 h2)) (fun _ => iprop(xlH c I k sm s a n b ∗ Ow c)) := by
  unfold xlF xlH
  iintro ⟨⟨HF, H0, H1⟩, HW⟩
  have h0 := await (c := c) (src := src) (dst := dst) (h1 := h1) (h2 := h2) hsm hN
    (D := iprop(xlAt c s a (a + n) (XL I b) ∗ xAt c I (sh k) (4368 + 4096 * b + a) (4368 + 4096 * b + a + n)))
  iapply (keepT h0 (R := iprop(xAt c I (sh k) 0 (4368 + 4096 * b + a) ∗ xAt c I (sh k) (4368 + 4096 * b + a + n) 69905))
    (M' := fun _ => iprop((Z c sm ∗ xlAt c s a (a + n) (XL I b) ∗ xAt c I (sh k) 0 69905) ∗ Ow c)) fun _ => ?_) $$ [HF HW] [H0 H1]
  · iintro ⟨⟨⟨Hl, Hx⟩, HZ, HW⟩, H0, H1⟩
    iframe
    iapply (x_paste c I hb)
    iframe
  · iframe
  · iframe

/-! ## Windows of the third-level features -/

/-- Slot `s` of the third-level window: at rest, -/
def x3I (c : Dev nD) (I : Ins F) (s : ℕ) : sProp 𝕄 :=
  iprop(Z c (semX3 s) ∗ (∃ f : Vec F S2x264x256 .f32, x3At c s 0 264 f) ∗ xAt c I (sh (5 + s)) 0 69905)
/-- in flight with block `b`, -/
def x3F (c : Dev nD) (I : Ins F) (s b : ℕ) : sProp 𝕄 :=
  iprop(Fl c (semX3 s) amX3 iprop(x3At c s 0 264 (X3 I b) ∗ xAt c I (sh (5 + s)) (272 + 256 * b) (272 + 256 * b + 264))
    ∗ xAt c I (sh (5 + s)) 0 (272 + 256 * b) ∗ xAt c I (sh (5 + s)) (272 + 256 * b + 264) 69905)
/-- here. -/
def x3H (c : Dev nD) (I : Ins F) (s b : ℕ) : sProp 𝕄 :=
  iprop(Z c (semX3 s) ∗ x3At c s 0 264 (X3 I b) ∗ xAt c I (sh (5 + s)) 0 69905)

theorem x3_send {s r b : ℕ} {sem : DmaSem sig} {offs : Fin 2 → ℕ} {offd : Fin 3 → ℕ}
    {inbs : ∀ x, offs x + S264x256.size x ≤ S69905x256.size x} {inbd : ∀ x, offd x + S1x264x256.size x ≤ S2x264x256.size x}
    {hrs hrd} {hq : S1x264x256.Squeezes S264x256} {h1 h2 h3}
    (hsm : sem = semX3 s) (hos : offs = ![r, 0]) (hod : offd = ![s, 0, 0]) (hr : r = 272 + 256 * b) :
    x3I c I s
      ⊢ WP c (Prog.lift (.enqueueDma (bX.slice (Rect.unit (s := S69905x256) offs S264x256.size inbs) hrs)
          (.here ((bX3.slice (Rect.unit (s := S2x264x256) offd S1x264x256.size inbd) hrd).squeeze S264x256 hq))
          (.dma sem) h1 h2 h3))
        (fun _ => x3F c I s b) := by
  have hs : s < 2 := by subst hod; have := inbd 0; simp at this; omega
  have hrn : r + 264 ≤ 69905 := by subst hos; exact inbs 0
  subst hr
  unfold x3I x3F
  iintro ⟨HZ, ⟨%f, Hf⟩, Hx⟩
  ihave ⟨Hx, H0, H1⟩ := (x_cut c I hrn) $$ Hx
  have h0 := issue (c := c) (src := bX.slice (Rect.unit (s := S69905x256) offs S264x256.size inbs) hrs)
    (dst := (bX3.slice (Rect.unit (s := S2x264x256) offd S1x264x256.size inbd) hrd).squeeze S264x256 hq)
    (h1 := h1) (h2 := h2) (h3 := h3) (q := sh (5 + s)) (fs := I.X) (fd := f) (T := X3 I b)
    ((View.set_slice_whole _ _).trans (rect_rows hos rfl inbs)) ((View.set_reshape _ _).trans ((View.set_slice_whole _ _).trans (rect_slab hod (Nat.zero_add 264).symm inbd)))
    hsm rfl (numel_pos (by decide)) ?_
  iapply (keep h0) $$ [HZ Hf Hx] [H0 H1]
  · isplitl [Hx]
    · iexact Hx
    isplitl [Hf]
    · iexact Hf
    · iexact HZ
  · iframe
  intro y
  obtain ⟨i, j, rfl⟩ : ∃ (i : Fin 264) (j : Fin 256), y = ix2 i j := ⟨y 0, y 1, funext fun x => by match x with | 0 => rfl | 1 => rfl⟩
  rw [read_rows bX hos inbs hrs _ i j (by omega), read_slab bX3 hod inbd hrd hq _ i j hs (by omega)]
  show I.X (ix2 _ j) = xrow I (272 + 256 * b + (0 + i.val)) j
  rw [X_apply]
  show xrow I (272 + 256 * b + i.val) j = _
  rw [Nat.zero_add]

theorem x3_recv {s b : ℕ} {sem : DmaSem sig} {sp sp' : Space} {s1 s2 : Shape} {e1 e2 : EltTy} {src : Memref sig .tc sp s1 e1}
    {dst : Memref sig .tc sp' s2 e2} {h1 h2} (hsm : sem = semX3 s) (hN : dst.view.dmaCredit = amX3) (hb : 272 + 256 * b + 264 ≤ 69905) :
    iprop(x3F c I s b ∗ Ow c) ⊢ WP c (Prog.lift (.waitDma2 sem src dst h1 h2)) (fun _ => iprop(x3H c I s b ∗ Ow c)) := by
  unfold x3F x3H
  iintro ⟨⟨HF, H0, H1⟩, HW⟩
  have h0 := await (c := c) (src := src) (dst := dst) (h1 := h1) (h2 := h2) hsm hN
    (D := iprop(x3At c s 0 264 (X3 I b) ∗ xAt c I (sh (5 + s)) (272 + 256 * b) (272 + 256 * b + 264)))
  iapply (keepT h0 (R := iprop(xAt c I (sh (5 + s)) 0 (272 + 256 * b) ∗ xAt c I (sh (5 + s)) (272 + 256 * b + 264) 69905))
    (M' := fun _ => iprop((Z c (semX3 s) ∗ x3At c s 0 264 (X3 I b) ∗ xAt c I (sh (5 + s)) 0 69905) ∗ Ow c)) fun _ => ?_) $$ [HF HW] [H0 H1]
  · iintro ⟨⟨⟨Hl, Hx⟩, HZ, HW⟩, H0, H1⟩
    iframe
    iapply (x_paste c I hb)
    iframe
  · iframe
  · iframe

/-! ## The top rows' features -/

def xtI (c : Dev nD) (I : Ins F) : sProp 𝕄 := iprop(Z c semXT ∗ (∃ f : Vec F S280x256 .f32, xtAt c f) ∗ xAt c I (sh 7) 0 69905)
def xtF (c : Dev nD) (I : Ins F) : sProp 𝕄 :=
  iprop(Fl c semXT amXT iprop(xtAt c (XT I) ∗ xAt c I (sh 7) 0 (0 + 280)) ∗ xAt c I (sh 7) 0 0 ∗ xAt c I (sh 7) (0 + 280) 69905)
def xtH (c : Dev nD) (I : Ins F) : sProp 𝕄 := iprop(Z c semXT ∗ xtAt c (XT I) ∗ xAt c I (sh 7) 0 69905)

theorem xt_send {sem : DmaSem sig} {inbs : ∀ x, ![0, 0] x + S280x256.size x ≤ S69905x256.size x} {hrs} {h1 h2 h3} (hsm : sem = semXT) :
    xtI c I
      ⊢ WP c (Prog.lift (.enqueueDma (bX.slice (Rect.unit (s := S69905x256) ![0, 0] S280x256.size inbs) hrs) (.here bXT) (.dma sem) h1 h2 h3))
        (fun _ => xtF c I) := by
  unfold xtI xtF
  iintro ⟨HZ, ⟨%f, Hf⟩, Hx⟩
  ihave ⟨Hx, H0, H1⟩ := (x_cut c I (r := 0) (n := 280) (by decide)) $$ Hx
  have h0 := issue (c := c) (src := bX.slice (Rect.unit (s := S69905x256) ![0, 0] S280x256.size inbs) hrs)
    (dst := bXT) (h1 := h1) (h2 := h2) (h3 := h3) (q := sh 7) (fs := I.X) (fd := f) (T := XT I)
    ((View.set_slice_whole _ _).trans (rect_rows rfl rfl inbs)) (View.set_whole _) hsm rfl (numel_pos (by decide)) ?_
  iapply (keep h0) $$ [HZ Hf Hx] [H0 H1]
  · isplitl [Hx]
    · iexact Hx
    isplitl [Hf]
    · iexact Hf
    · iexact HZ
  · iframe
  intro y
  obtain ⟨i, j, rfl⟩ : ∃ (i : Fin 280) (j : Fin 256), y = ix2 i j := ⟨y 0, y 1, funext fun x => by match x with | 0 => rfl | 1 => rfl⟩
  rw [read_rows bX rfl inbs hrs _ i j (by omega)]
  show I.X (ix2 _ j) = xrow I i.val j
  rw [X_apply]
  show xrow I (0 + i.val) j = _
  rw [Nat.zero_add]

theorem xt_recv {sem : DmaSem sig} {sp sp' : Space} {s1 s2 : Shape} {e1 e2 : EltTy} {src : Memref sig .tc sp s1 e1}
    {dst : Memref sig .tc sp' s2 e2} {h1 h2} (hsm : sem = semXT) (hN : dst.view.dmaCredit = amXT) :
    iprop(xtF c I ∗ Ow c) ⊢ WP c (Prog.lift (.waitDma2 sem src dst h1 h2)) (fun _ => iprop(xtH c I ∗ Ow c)) := by
  unfold xtF xtH
  iintro ⟨⟨HF, H0, H1⟩, HW⟩
  have h0 := await (c := c) (src := src) (dst := dst) (h1 := h1) (h2 := h2) hsm hN (D := iprop(xtAt c (XT I) ∗ xAt c I (sh 7) 0 (0 + 280)))
  iapply (keepT h0 (R := iprop(xAt c I (sh 7) 0 0 ∗ xAt c I (sh 7) (0 + 280) 69905))
    (M' := fun _ => iprop((Z c semXT ∗ xtAt c (XT I) ∗ xAt c I (sh 7) 0 69905) ∗ Ow c)) fun _ => ?_) $$ [HF HW] [H0 H1]
  · iintro ⟨⟨⟨Hl, Hx⟩, HZ, HW⟩, H0, H1⟩
    iframe
    iapply (x_paste c I (r := 0) (n := 280) (by decide))
    iframe
  · iframe
  · iframe

/-! ## The result's rows -/

/-- Rows `a ≤ · < a + n` of slot `s` of the leaf results, leaving for block `b`'s rows of the result. -/
def oF (c : Dev nD) (I : Ins F) (sm : DmaSem sig) (s a n b : ℕ) : sProp 𝕄 :=
  Fl c sm (amO n) iprop(oAt c (4376 + 4096 * b + a) (4376 + 4096 * b + a + n) (G I) ∗ olAt c s a (a + n) (OL I b))

theorem o_send {s a n b r : ℕ} {sm sem : DmaSem sig} {offs : Fin 3 → ℕ} {offd : Fin 2 → ℕ} {f : Vec F S69905x256 .f32}
    {inbs : ∀ x, offs x + (⟨3, ![1, n, 256]⟩ : Shape).size x ≤ S2x4096x256.size x} {inbd : ∀ x, offd x + (⟨2, ![n, 256]⟩ : Shape).size x ≤ S69905x256.size x}
    {hrs hrd} {hq : (⟨3, ![1, n, 256]⟩ : Shape).Squeezes ⟨2, ![n, 256]⟩} {h1 h2 h3}
    (hsm : sem = sm) (hos : offs = ![s, a, 0]) (hod : offd = ![r, 0]) (hn : 0 < n) (hr : r = 4376 + 4096 * b + a) :
    iprop(olAt c s a (a + n) (OL I b) ∗ oAt c (4376 + 4096 * b + a) (4376 + 4096 * b + a + n) f ∗ Z c sm)
      ⊢ WP c (Prog.lift (.enqueueDma ((bOL.slice (Rect.unit (s := S2x4096x256) offs (⟨3, ![1, n, 256]⟩ : Shape).size inbs) hrs).squeeze ⟨2, ![n, 256]⟩ hq)
          (.here (bO.slice (Rect.unit (s := S69905x256) offd (⟨2, ![n, 256]⟩ : Shape).size inbd) hrd)) (.dma sem) h1 h2 h3))
        (fun _ => oF c I sm s a n b) := by
  have hs : s < 2 := by subst hos; have := inbs 0; simp at this; omega
  have ha : a + n ≤ 4096 := by subst hos; exact inbs 1
  have hrn : r + n ≤ 69905 := by subst hod; exact inbd 0
  subst hr
  unfold oF
  refine issue (c := c) (dst := bO.slice (Rect.unit (s := S69905x256) offd (⟨2, ![n, 256]⟩ : Shape).size inbd) hrd)
    (src := (bOL.slice (Rect.unit (s := S2x4096x256) offs (⟨3, ![1, n, 256]⟩ : Shape).size inbs) hrs).squeeze ⟨2, ![n, 256]⟩ hq)
    (h1 := h1) (h2 := h2) (h3 := h3) (q := fullShare) (fs := OL I b) (fd := f) (T := G I)
    ((View.set_reshape _ _).trans ((View.set_slice_whole _ _).trans (rect_slab hos rfl inbs))) ((View.set_slice_whole _ _).trans (rect_rows hod rfl inbd))
    hsm rfl (numel_pos hn) ?_
  intro y
  obtain ⟨i, j, rfl⟩ : ∃ (i : Fin n) (j : Fin 256), y = ix2 i j := ⟨y 0, y 1, funext fun x => by match x with | 0 => rfl | 1 => rfl⟩
  have hi : a + i.val < 4096 := by omega
  have hi' : 4376 + 4096 * b + (a + i.val) < 69905 := by omega
  rw [read_rows bO hod inbd hrd _ i j (by omega), read_slab bOL hos inbs hrs hq _ i j hs hi]
  have e := G_leaf I b ⟨s, hs⟩ ⟨a + i.val, hi⟩ j hi'
  refine e.symm.trans (congrArg (fun x : Fin 69905 => G I (ix2 x j)) (Fin.ext ?_))
  show 4376 + 4096 * b + (a + i.val) = 4376 + 4096 * b + a + i.val
  omega

/-- The wait for them. -/
theorem o_recv {s a n b : ℕ} {sm sem : DmaSem sig} {sp sp' : Space} {s1 s2 : Shape} {e1 e2 : EltTy} {src : Memref sig .tc sp s1 e1}
    {dst : Memref sig .tc sp' s2 e2} {h1 h2} (hsm : sem = sm) (hN : dst.view.dmaCredit = amO n) :
    iprop(oF c I sm s a n b ∗ Ow c) ⊢ WP c (Prog.lift (.waitDma2 sem src dst h1 h2))
      (fun _ => iprop((oAt c (4376 + 4096 * b + a) (4376 + 4096 * b + a + n) (G I) ∗ olAt c s a (a + n) (OL I b)) ∗ Z c sm ∗ Ow c)) :=
  await hsm hN

/-- The first 280 rows of the result, and the next 4096, on their way. -/
def topF (c : Dev nD) (I : Ins F) : sProp 𝕄 := Fl c (semTop 0) (amO 280) iprop(oAt c 0 280 (G I) ∗ otAt c (OT I))
def midF (c : Dev nD) (I : Ins F) : sProp 𝕄 := Fl c (semTop 1) (amO 4096) iprop(oAt c 280 4376 (G I) ∗ hwAt c (H3W I))

theorem top_send {sem : DmaSem sig} {f : Vec F S69905x256 .f32} {inbd : ∀ x, ![0, 0] x + S280x256.size x ≤ S69905x256.size x} {hrd} {h1 h2 h3} (hsm : sem = semTop 0) :
    iprop(otAt c (OT I) ∗ oAt c 0 280 f ∗ Z c (semTop 0))
      ⊢ WP c (Prog.lift (.enqueueDma bOT (.here (bO.slice (Rect.unit (s := S69905x256) ![0, 0] S280x256.size inbd) hrd)) (.dma sem) h1 h2 h3)) (fun _ => topF c I) := by
  refine issue (c := c) (dst := bO.slice (Rect.unit (s := S69905x256) ![0, 0] S280x256.size inbd) hrd) (src := bOT)
    (h1 := h1) (h2 := h2) (h3 := h3) (q := fullShare) (fs := OT I) (fd := f) (T := G I) (N := amO 280)
    (View.set_whole _) ((View.set_slice_whole _ _).trans (rect_rows rfl (Nat.zero_add 280).symm inbd)) hsm rfl (numel_pos (by decide)) ?_
  intro y
  obtain ⟨i, j, rfl⟩ : ∃ (i : Fin 280) (j : Fin 256), y = ix2 i j := ⟨y 0, y 1, funext fun x => by match x with | 0 => rfl | 1 => rfl⟩
  rw [read_rows bO rfl inbd hrd _ i j (by omega)]
  refine (G_top I i j).symm.trans (congrArg (fun x : Fin 69905 => G I (ix2 x j)) (Fin.ext ?_))
  show i.val = 0 + i.val
  omega

theorem mid_send {sem : DmaSem sig} {f : Vec F S69905x256 .f32} {inbd : ∀ x, ![280, 0] x + S4096x256.size x ≤ S69905x256.size x} {hrd} {h1 h2 h3} (hsm : sem = semTop 1) :
    iprop(hwAt c (H3W I) ∗ oAt c 280 4376 f ∗ Z c (semTop 1))
      ⊢ WP c (Prog.lift (.enqueueDma bHW (.here (bO.slice (Rect.unit (s := S69905x256) ![280, 0] S4096x256.size inbd) hrd)) (.dma sem) h1 h2 h3)) (fun _ => midF c I) := by
  refine issue (c := c) (dst := bO.slice (Rect.unit (s := S69905x256) ![280, 0] S4096x256.size inbd) hrd) (src := bHW)
    (h1 := h1) (h2 := h2) (h3 := h3) (q := fullShare) (fs := H3W I) (fd := f) (T := G I) (N := amO 4096)
    (View.set_whole _) ((View.set_slice_whole _ _).trans (rect_rows rfl rfl inbd)) hsm rfl (numel_pos (by decide)) ?_
  intro y
  obtain ⟨i, j, rfl⟩ : ∃ (i : Fin 4096) (j : Fin 256), y = ix2 i j := ⟨y 0, y 1, funext fun x => by match x with | 0 => rfl | 1 => rfl⟩
  rw [read_rows bO rfl inbd hrd _ i j (by omega)]
  exact (G_mid I i j).symm

end Cert.KernelIdeal.Hand
-- ==== Proof.State.lean ====
/-
  What the body holds between its operations, block by block.

  Every piece is a function of the point `t`. A slot of the leaf window or of the third-level window is at rest (its cells at
  zero, the shares of the features its transfers take whole), in flight with a block, or here with it. The leaf results' slots are
  at rest or leaving, the result's rows are the ones already written, the ones leaving and the ones not begun.
-/
module

public import proofs.«01_k».proof.Proof.Pieces

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (c : Dev nD) (I : Ins F)

/-! ## Cutting and pasting rows of the windows and of the result -/

theorem xl_cut {s a b : ℕ} {f : Vec F S2x4112x256 .f32} (m : ℕ) (h1 : a ≤ m) (h2 : m ≤ b) : xlAt c s a b f ⊢ iprop(xlAt c s a m f ∗ xlAt c s m b f) :=
  part_split (slab_cut m h1 h2) (slab_off m)
theorem xl_paste {s a b : ℕ} {f : Vec F S2x4112x256 .f32} (m : ℕ) (h1 : a ≤ m) (h2 : m ≤ b) : iprop(xlAt c s a m f ∗ xlAt c s m b f) ⊢ xlAt c s a b f :=
  part_join' (slab_cut m h1 h2) (slab_off m)
theorem ol_cut {s a b : ℕ} {f : Vec F S2x4096x256 .f32} (m : ℕ) (h1 : a ≤ m) (h2 : m ≤ b) : olAt c s a b f ⊢ iprop(olAt c s a m f ∗ olAt c s m b f) :=
  part_split (slab_cut m h1 h2) (slab_off m)
theorem ol_paste {s a b : ℕ} {f : Vec F S2x4096x256 .f32} (m : ℕ) (h1 : a ≤ m) (h2 : m ≤ b) : iprop(olAt c s a m f ∗ olAt c s m b f) ⊢ olAt c s a b f :=
  part_join' (slab_cut m h1 h2) (slab_off m)
theorem o_cut {a b : ℕ} {f : Vec F S69905x256 .f32} (m : ℕ) (h1 : a ≤ m) (h2 : m ≤ b) : oAt c a b f ⊢ iprop(oAt c a m f ∗ oAt c m b f) :=
  part_split (rows_cut m h1 h2) (rows_off m)
theorem o_paste {a b : ℕ} {f : Vec F S69905x256 .f32} (m : ℕ) (h1 : a ≤ m) (h2 : m ≤ b) : iprop(oAt c a m f ∗ oAt c m b f) ⊢ oAt c a b f :=
  part_join' (rows_cut m h1 h2) (rows_off m)

/-! ## The leaf window -/

/-- A slot's two cells at zero and its two shares of the features. -/
def kit (s : ℕ) : sProp 𝕄 :=
  iprop(Z c (semXL s 0) ∗ xAt c I (sh (2 * s)) 0 69905 ∗ Z c (semXL s 1) ∗ xAt c I (sh (2 * s + 1)) 0 69905)
/-- A slot at rest. -/
def xlIdle (s : ℕ) : sProp 𝕄 := iprop(kit c I s ∗ ∃ f : Vec F S2x4112x256 .f32, xlAt c s 0 4112 f)
/-- The odd row's cell and share, at rest; the odd row in flight. -/
def rowIdle : sProp 𝕄 := iprop(Z c semRow ∗ xAt c I (sh 4) 0 69905)
def rowFly : sProp 𝕄 := xlF c I 4 semRow 1 4096 1 15
/-- Block `b` in flight in its slot: two halves; the last block is 4097 rows, the last of them apart. -/
def xlFly (b : ℕ) : sProp 𝕄 :=
  if b < 15 then iprop(xlF c I (2 * (b % 2)) (semXL (b % 2) 0) (b % 2) 0 2056 b ∗ xlF c I (2 * (b % 2) + 1) (semXL (b % 2) 1) (b % 2) 2056 2056 b)
  else iprop(xlF c I (2 * 1) (semXL 1 0) 1 0 2056 15 ∗ xlF c I (2 * 1 + 1) (semXL 1 1) 1 2056 2040 15 ∗ ∃ f : Vec F S2x4112x256 .f32, xlAt c 1 4097 4112 f)
/-- Block `b` here; of the last block the last fifteen rows of the slot are still whatever they were. -/
def xlHere (b : ℕ) : sProp 𝕄 :=
  if b < 15 then iprop(kit c I (b % 2) ∗ xlAt c (b % 2) 0 4112 (XL I b))
  else iprop(kit c I 1 ∗ xlAt c 1 0 4097 (XL I 15) ∗ ∃ f : Vec F S2x4112x256 .f32, xlAt c 1 4097 4112 f)
/-- Block `b` here, its last rows padded. -/
def xlFull (b : ℕ) : sProp 𝕄 := iprop(kit c I (b % 2) ∗ xlAt c (b % 2) 0 4112 (XL I b))
/-- Block `b`'s slot, if there is such a block: in flight; past the last block the slot is at rest. -/
def xlN (b : ℕ) : sProp 𝕄 := if b < 16 then xlFly c I b else xlIdle c I (b % 2)
/-- At the start of a point. -/
def xlA (t : ℕ) : sProp 𝕄 := if 1 ≤ t then xlN c I t else xlIdle c I (t % 2)
def rowA (t : ℕ) : sProp 𝕄 := if t = 15 then rowFly c I else rowIdle c I
/-- While two blocks are held. -/
def rowB (t : ℕ) : sProp 𝕄 := if 14 ≤ t then rowFly c I else rowIdle c I

theorem xl_lend (s : ℕ) : xlIdle c I s ⊢ iprop(xlI c I (2 * s) (semXL s 0) s 0 2056 ∗ xlI c I (2 * s + 1) (semXL s 1) s 2056 2056) := by
  unfold xlIdle kit xlI
  iintro ⟨⟨Z0, X0, Z1, X1⟩, %f, H⟩
  ihave ⟨H0, H1⟩ := (xl_cut c (0 + 2056) (by omega) (by omega)) $$ H
  iframe
  isplitl [H0]
  · iexists f
    iexact H0
  · iexists f
    iexact H1

theorem xl_lend_last : iprop(xlIdle c I 1 ∗ rowIdle c I) ⊢ iprop(xlI c I (2 * 1) (semXL 1 0) 1 0 2056 ∗ xlI c I (2 * 1 + 1) (semXL 1 1) 1 2056 2040
    ∗ xlI c I 4 semRow 1 4096 1 ∗ ∃ f : Vec F S2x4112x256 .f32, xlAt c 1 4097 4112 f) := by
  unfold xlIdle rowIdle kit xlI
  iintro ⟨⟨⟨Z0, X0, Z1, X1⟩, %f, H⟩, Z2, X2⟩
  ihave ⟨H0, H⟩ := (xl_cut c (0 + 2056) (by omega) (by omega)) $$ H
  ihave ⟨H1, H⟩ := (xl_cut c (2056 + 2040) (by omega) (by omega)) $$ H
  ihave ⟨H2, H3⟩ := (xl_cut c (4096 + 1) (by omega) (by omega)) $$ H
  iframe
  isplitl [H0]
  · iexists f
    iexact H0
  isplitl [H1]
  · iexists f
    iexact H1
  isplitl [H2]
  · iexists f
    iexact H2
  · iexists f
    iexact H3

theorem xl_back (b : ℕ) (h : b < 15) : iprop(xlH c I (2 * (b % 2)) (semXL (b % 2) 0) (b % 2) 0 2056 b ∗ xlH c I (2 * (b % 2) + 1) (semXL (b % 2) 1) (b % 2) 2056 2056 b)
    ⊢ xlHere c I b := by
  unfold xlHere kit xlH
  rw [if_pos h]
  iintro ⟨⟨Z0, H0, X0⟩, Z1, H1, X1⟩
  iframe
  iapply (xl_paste c (0 + 2056) (by omega) (by omega))
  iframe

theorem xl_back_last : iprop(xlH c I (2 * 1) (semXL 1 0) 1 0 2056 15 ∗ xlH c I (2 * 1 + 1) (semXL 1 1) 1 2056 2040 15
    ∗ xlH c I 4 semRow 1 4096 1 15 ∗ ∃ f : Vec F S2x4112x256 .f32, xlAt c 1 4097 4112 f) ⊢ iprop(xlHere c I 15 ∗ rowIdle c I) := by
  unfold xlHere rowIdle kit xlH
  rw [if_neg (by decide)]
  iintro ⟨⟨Z0, H0, X0⟩, ⟨Z1, H1, X1⟩, ⟨Z2, H2, X2⟩, %f, H⟩
  isplitr [Z2 X2]
  · isplitl [Z0 X0 Z1 X1]
    · iframe
    isplitr [H]
    · ihave H1 := (xl_paste c (s := 1) (f := XL I 15) (a := 2056) (b := 4097) (2056 + 2040) (by omega) (by omega)) $$ [H1 H2]
      · isplitl [H1]
        · iexact H1
        · iexact H2
      iapply (xl_paste c (0 + 2056) (by omega) (by omega))
      isplitl [H0]
      · iexact H0
      · iexact H1
    · iexists f
      iexact H
  · isplitl [Z2]
    · iexact Z2
    · iexact X2

/-! ## The third-level window and the top rows -/

def x3N (b : ℕ) : sProp 𝕄 := if b < 16 then x3F c I (b % 2) b else x3I c I (b % 2)
def x3A (t : ℕ) : sProp 𝕄 := if 1 ≤ t then x3N c I t else x3I c I (t % 2)
def xtA (t : ℕ) : sProp 𝕄 := if 1 ≤ t ∧ t < 16 then xtF c I else xtI c I

theorem xl_rest (b : ℕ) : xlFull c I b ⊢ xlIdle c I (b % 2) := by
  unfold xlFull xlIdle
  iintro ⟨HK, H⟩
  iframe
  iexists (XL I b)
  iexact H
theorem x3_rest (s b : ℕ) : x3H c I s b ⊢ x3I c I s := by
  unfold x3H x3I
  iintro ⟨Z0, H, HX⟩
  iframe
  iexists (X3 I b)
  iexact H
theorem xt_rest : xtH c I ⊢ xtI c I := by
  unfold xtH xtI
  iintro ⟨Z0, H, HX⟩
  iframe
  iexists (XT I)
  iexact H

/-! ## The leaf results and the result's rows -/

/-- A slot of the leaf results at rest. -/
def olIdle (s : ℕ) : sProp 𝕄 := iprop(Z c (semOL s 0) ∗ Z c (semOL s 1) ∗ ∃ f : Vec F S2x4096x256 .f32, olAt c s 0 4096 f)
/-- Block `b`'s leaf rows in their slot, both cells at zero. -/
def olFull (b : ℕ) : sProp 𝕄 := iprop(Z c (semOL (b % 2) 0) ∗ Z c (semOL (b % 2) 1) ∗ olAt c (b % 2) 0 4096 (OL I b))
/-- Block `b`'s leaf rows leaving. -/
def olFly (b : ℕ) : sProp 𝕄 := iprop(oF c I (semOL (b % 2) 0) (b % 2) 0 2048 b ∗ oF c I (semOL (b % 2) 1) (b % 2) 2048 2048 b)
/-- At the start of point `t`: its own slot, and the other one. -/
def olA (t : ℕ) : sProp 𝕄 := if 2 ≤ t ∧ t < 16 then olFly c I (t - 2) else olIdle c (t % 2)
def olB (t : ℕ) : sProp 𝕄 := if 1 ≤ t ∧ t < 16 then olFly c I (t - 1) else olIdle c ((t + 1) % 2)

/-- The result with the leaf rows of blocks below `n` written, and nothing begun from block `k` on. -/
def outS (n k : ℕ) : sProp 𝕄 :=
  iprop(∃ v : Vec F S69905x256 .f32, oAt c 0 4376 v ∗ oAt c 4376 (4376 + 4096 * n) (G I) ∗ oAt c (4376 + 4096 * k) 69905 v)
/-- The result at the start of point `t`. -/
def outA (t : ℕ) : sProp 𝕄 := if t < 16 then outS c I (t - 2) t else oAt c 0 69905 (G I)

/-- A block's two leaving halves, once they have left. -/
theorem ol_done (n : ℕ) (hn : 4376 + 4096 * (n + 1) ≤ 69905) :
    iprop(oAt c 4376 (4376 + 4096 * n) (G I) ∗ (oAt c (4376 + 4096 * n + 0) (4376 + 4096 * n + 0 + 2048) (G I) ∗ olAt c (n % 2) 0 (0 + 2048) (OL I n)) ∗ Z c (semOL (n % 2) 0)
      ∗ (oAt c (4376 + 4096 * n + 2048) (4376 + 4096 * n + 2048 + 2048) (G I) ∗ olAt c (n % 2) 2048 (2048 + 2048) (OL I n)) ∗ Z c (semOL (n % 2) 1))
      ⊢ iprop(oAt c 4376 (4376 + 4096 * (n + 1)) (G I) ∗ olIdle c (n % 2)) := by
  unfold olIdle
  iintro ⟨V1, ⟨A0, B0⟩, Z0, ⟨A1, B1⟩, Z1⟩
  iframe
  isplitr [B0 B1]
  · ihave A := (o_paste c (f := G I) (a := 4376 + 4096 * n) (b := 4376 + 4096 * (n + 1)) (4376 + 4096 * n + 2048) (by omega) (by omega)) $$ [A0 A1]
    · isplitl [A0]
      · iexact A0
      · rw [show 4376 + 4096 * (n + 1) = 4376 + 4096 * n + 2048 + 2048 by omega]
        iexact A1
    have hp : iprop(oAt c 4376 (4376 + 4096 * n) (G I) ∗ oAt c (4376 + 4096 * n) (4376 + 4096 * (n + 1)) (G I)) ⊢ oAt c 4376 (4376 + 4096 * (n + 1)) (G I) :=
      o_paste c _ (Nat.le_add_right _ _) (by omega)
    iapply hp
    isplitl [V1]
    · iexact V1
    · iexact A
  · iexists (OL I n)
    iapply (ol_paste c (a := 0) (b := 4096) 2048 (by omega) (by omega))
    isplitl [B0]
    · iexact B0
    · iexact B1

/-- The same beside the rest of the result. -/
theorem ol_back (n k : ℕ) (hn : 4376 + 4096 * (n + 1) ≤ 69905) :
    iprop(outS c I n k ∗ (oAt c (4376 + 4096 * n + 0) (4376 + 4096 * n + 0 + 2048) (G I) ∗ olAt c (n % 2) 0 (0 + 2048) (OL I n)) ∗ Z c (semOL (n % 2) 0)
      ∗ (oAt c (4376 + 4096 * n + 2048) (4376 + 4096 * n + 2048 + 2048) (G I) ∗ olAt c (n % 2) 2048 (2048 + 2048) (OL I n)) ∗ Z c (semOL (n % 2) 1))
      ⊢ iprop(outS c I (n + 1) k ∗ olIdle c (n % 2)) := by
  unfold outS
  iintro ⟨⟨%v, V0, V1, V2⟩, H⟩
  ihave ⟨V1, HI⟩ := (ol_done c I n hn) $$ [V1 H]
  · isplitl [V1]
    · iexact V1
    · iexact H
  isplitr [HI]
  · iexists v
    isplitl [V0]
    · iexact V0
    isplitl [V1]
    · iexact V1
    · iexact V2
  · iexact HI

/-- What the next block's two halves are taken from. -/
theorem ol_lend (n k : ℕ) (hk : 4376 + 4096 * (k + 1) ≤ 69905) :
    iprop(outS c I n k ∗ olAt c (k % 2) 0 4096 (OL I k))
      ⊢ iprop(∃ v : Vec F S69905x256 .f32, outS c I n (k + 1) ∗ (olAt c (k % 2) 0 (0 + 2048) (OL I k) ∗ oAt c (4376 + 4096 * k + 0) (4376 + 4096 * k + 0 + 2048) v)
        ∗ (olAt c (k % 2) 2048 (2048 + 2048) (OL I k) ∗ oAt c (4376 + 4096 * k + 2048) (4376 + 4096 * k + 2048 + 2048) v)) := by
  unfold outS
  iintro ⟨⟨%v, V0, V1, V2⟩, B⟩
  ihave ⟨B0, B1⟩ := (ol_cut c (0 + 2048) (by omega) (by omega)) $$ B
  ihave ⟨A0, V2⟩ := (o_cut c (4376 + 4096 * k + 0 + 2048) (by omega) (by omega)) $$ V2
  ihave ⟨A1, V2⟩ := (o_cut c (4376 + 4096 * (k + 1)) (by omega) (by omega)) $$ V2
  iexists v
  isplitl [V0 V1 V2]
  · iexists v
    iframe
  isplitl [B0 A0]
  · isplitl [B0]
    · iexact B0
    · iexact A0
  · isplitl [B1]
    · iexact B1
    · rw [show 4376 + 4096 * k + 2048 + 2048 = 4376 + 4096 * (k + 1) by omega]
      iexact A1

/-! ## The single buffers -/

/-- The third-level rows below `n` are there. -/
def h3To (n : ℕ) : sProp 𝕄 := iprop(∃ f : Vec F S4096x256 .f32, ⌜∀ i : S4096x256.Idx, (i 0).val < n → f i = H3 I i⌝ ∗ owns (c : Thread nD τ) bH3 fullShare f)
/-- The row buffer, its last seven rows there after the first point. -/
def hwA (t : ℕ) : sProp 𝕄 :=
  iprop(∃ f : Vec F S4096x256 .f32, ⌜1 ≤ t → ∀ i : S4096x256.Idx, 4089 ≤ (i 0).val → f i = H3W I i⌝ ∗ owns (c : Thread nD τ) bHW fullShare f)
def otA : sProp 𝕄 := iprop(∃ f : Vec F S280x256 .f32, owns (c : Thread nD τ) bOT fullShare f)
def topZ : sProp 𝕄 := iprop(Z c (semTop 0) ∗ Z c (semTop 1) ∗ Z c (semTop 2) ∗ Z c (semTop 3))

/-- Everything the body holds at the start of point `t`, but for what it has waited for. -/
def inv (t : ℕ) : sProp 𝕄 :=
  iprop((xlA c I t ∗ xlIdle c I ((t + 1) % 2) ∗ rowA c I t ∗ x3A c I t ∗ x3I c I ((t + 1) % 2) ∗ xtA c I t ∗ olA c I t ∗ outA c I t)
    ∗ olB c I t ∗ h3To c I (256 * t) ∗ hwA c I t ∗ otA c ∗ topZ c)

end Cert.KernelIdeal.Hand
-- ==== Proof.Conds.lean ====
/-
  The branch conditions of the body, as facts about the point.
-/
module

public import proofs.«01_k».proof.Proof.State

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

theorem sem_xt : cc0_scratch10.sem = semXT := by decide +kernel
theorem sem_row : cc0_scratch8.sem = semRow := by decide +kernel
theorem sem_top {off : Fin 1 → ℕ} {k : ℕ} (ho : off = ![k]) (inb : ∀ a, off a + S1.size a ≤ S4.size a) :
    ((cc0_scratch12.slice (Rect.unit (s := S4) off S1.size inb)).squeeze S_ squeezes_S1_S_).sem = semTop k := by
  subst ho
  have h0 : k + 1 ≤ 4 := inb 0
  obtain rfl | rfl | rfl | rfl : k = 0 ∨ k = 1 ∨ k = 2 ∨ k = 3 := by omega
  all_goals clear h0; revert inb; decide +kernel

theorem cond1 : ∀ i : grid0.Coords, Scalar.cmpi .ne (Scalar.extui (Scalar.cmpi .eq (BitVec.ofNat 32 (i 0).val) 0#32) : BitVec 32) 0#32 = 1#1 ↔ (i 0).val = 0 := by
  decide +kernel
theorem cond2 : ∀ i : grid0.Coords, k0_cond2 i = 1#1 ↔ (i 0).val < 15 := by decide +kernel
theorem cond3 : ∀ i : grid0.Coords, k0_cond3 i = 1#1 ↔ (i 0).val < 14 := by decide +kernel
theorem cond4 : ∀ i : grid0.Coords, k0_cond4 i = 1#1 ↔ (i 0).val = 14 := by decide +kernel
theorem cond5 : ∀ i : grid0.Coords, k0_cond5 i = 1#1 ↔ (i 0).val < 15 := by decide +kernel
theorem cond6 : ∀ i : grid0.Coords, k0_cond6 i = 1#1 ↔ (i 0).val = 15 := by decide +kernel
theorem cond7 : ∀ i : grid0.Coords, k0_cond7 i = 1#1 ↔ 2 ≤ (i 0).val := by decide +kernel
theorem cond8 : ∀ i : grid0.Coords, k0_cond8 i = 1#1 ↔ (i 0).val = 15 := by decide +kernel
theorem cond10 : ∀ i : grid0.Coords, k0_cond10 i = 1#1 ↔ (i 0).val < 15 := by decide +kernel
theorem lt16 (i : grid0.Coords) : (i 0).val < 16 := (i 0).isLt

end Cert.KernelIdeal.Hand
-- ==== Proof.Slots.lean ====
/-
  Loads and stores of rows of one slot.
-/
module

public import proofs.«01_k».proof.Proof.Conds

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable {c : Dev nD} {I : Ins F}

theorem ix3_eq {a b k : ℕ} (y : Shape.Idx ⟨3, ![a, b, k]⟩) : y = ix3 (y 0) (y 1) (y 2) := funext fun x => by match x with | 0 => rfl | 1 => rfl | 2 => rfl
theorem ix2_eq {a b : ℕ} (y : Shape.Idx ⟨2, ![a, b]⟩) : y = ix2 (y 0) (y 1) := funext fun x => by match x with | 0 => rfl | 1 => rfl

/-- Where a rectangle of whole rows of one slot puts its rows. -/
theorem emb_slab {n k s a : ℕ} {off : Fin 3 → ℕ} (h : off = ![s, a, 0]) (inb : ∀ x, off x + (![1, k, 256] : Fin 3 → ℕ) x ≤ (![2, n, 256] : Fin 3 → ℕ) x)
    (i : Fin k) (j : Fin 256) (hs : s < 2) (hi : a + i.val < n) :
    (Rect.unit (s := ⟨3, ![2, n, 256]⟩) off ![1, k, 256] inb).emb (ix3 (0 : Fin 1) i j) = ix3 ⟨s, hs⟩ ⟨a + i.val, hi⟩ j := by
  subst h
  funext x; apply Fin.ext
  match x with
  | 0 => show s + 1 * 0 = s; omega
  | 1 => show a + 1 * i.val = a + i.val; omega
  | 2 => show 0 + 1 * j.val = j.val; omega

/-- A load of whole rows of one slot. -/
theorem load_slab {cs : CoreSpace} {n k s a : ℕ} {off : Fin 3 → ℕ} {m : Memref sig .tc cs ⟨3, ![2, n, 256]⟩ .f32}
    {inb : ∀ x, off x + (⟨3, ![1, k, 256]⟩ : Shape).size x ≤ (⟨3, ![2, n, 256]⟩ : Shape).size x}
    {hl : m.view.LoadsAt (Rect.unit (s := ⟨3, ![2, n, 256]⟩) off (⟨3, ![1, k, 256]⟩ : Shape).size inb).toLoadRect}
    {S : Finset (Idx (m.view.loc (c : Thread nD τ)))} {f : Buf (Elt F) (m.view.loc (c : Thread nD τ))} {T : (⟨3, ![1, k, 256]⟩ : Shape).Idx → Elt F .f32}
    (ho : off = ![s, a, 0]) (hS : m.view.setOn (slab n s a (a + k)) ⊆ S)
    (hT : ∀ (i : Fin k) (j : Fin 256) (hs : s < 2) (hi : a + i.val < n), m.view.read (Elt F) f (ix3 ⟨s, hs⟩ ⟨a + i.val, hi⟩ j) = T (ix3 (0 : Fin 1) i j)) :
    (m.view.loc (c : Thread nD τ) ↦[S]{fullShare} f)
      ⊢ WP c (Prog.lift (.load m (Rect.unit (s := ⟨3, ![2, n, 256]⟩) off (⟨3, ![1, k, 256]⟩ : Shape).size inb).toLoadRect hl))
        (fun x => iprop(⌜x = T⌝ ∗ (m.view.loc (c : Thread nD τ) ↦[S]{fullShare} f))) := by
  have hs : s < 2 := by subst ho; have := inb 0; simp at this; omega
  have ha : a + k ≤ n := by subst ho; exact inb 1
  have h0 := load (c := c) (hl := hl) (S := S) (q := fullShare) (f := f) (by
    have e : (Rect.unit (s := ⟨3, ![2, n, 256]⟩) off (⟨3, ![1, k, 256]⟩ : Shape).size inb).toLoadRect.set = slab n s a (a + k) := rect_slab ho rfl inb
    rw [e]; exact hS)
  refine h0.trans (weaken fun x => ?_)
  iintro ⟨%hx, H⟩
  isplitr
  · ipureintro
    rw [hx]
    funext y
    obtain ⟨i, j, rfl⟩ : ∃ (i : Fin k) (j : Fin 256), y = ix3 (0 : Fin 1) i j := ⟨y 1, y 2, funext fun x => by match x with | 0 => exact Subsingleton.elim (α := Fin 1) _ _ | 1 => rfl | 2 => rfl⟩
    have hi : a + i.val < n := by omega
    rw [← hT i j hs hi]
    exact congrArg (m.view.read (Elt F) f) (emb_slab ho inb i j hs hi)
  · iexact H

/-- A store of whole rows of one slot. -/
theorem store_slab {cs : CoreSpace} {n k s a : ℕ} {off : Fin 3 → ℕ} {m : Memref sig .tc cs ⟨3, ![2, n, 256]⟩ .f32}
    {inb : ∀ x, off x + (⟨3, ![1, k, 256]⟩ : Shape).size x ≤ (⟨3, ![2, n, 256]⟩ : Shape).size x} {w : (⟨3, ![1, k, 256]⟩ : Shape).Idx → Elt F .f32}
    {hx : (m.access (Rect.unit (s := ⟨3, ![2, n, 256]⟩) off (⟨3, ![1, k, 256]⟩ : Shape).size inb)).Stores Finset.univ}
    {hm : Finset.univ = Finset.univ ∨ ∀ a, (Rect.unit (s := ⟨3, ![2, n, 256]⟩) off (⟨3, ![1, k, 256]⟩ : Shape).size inb).stride a = 1}
    {f T : Buf (Elt F) (m.view.loc (c : Thread nD τ))} {S : Finset (Idx (m.view.loc (c : Thread nD τ)))}
    (ho : off = ![s, a, 0]) (hS : (m.access (Rect.unit (s := ⟨3, ![2, n, 256]⟩) off (⟨3, ![1, k, 256]⟩ : Shape).size inb)).set = S)
    (hw : ∀ (i : Fin k) (j : Fin 256) (hs : s < 2) (hi : a + i.val < n), w (ix3 (0 : Fin 1) i j) = m.view.read (Elt F) T (ix3 ⟨s, hs⟩ ⟨a + i.val, hi⟩ j)) :
    (m.view.loc (c : Thread nD τ) ↦[S]{fullShare} f)
      ⊢ WP c (Prog.lift (.store m (Rect.unit (s := ⟨3, ![2, n, 256]⟩) off (⟨3, ![1, k, 256]⟩ : Shape).size inb) w Finset.univ hx hm))
        (fun _ => m.view.loc (c : Thread nD τ) ↦[S]{fullShare} T) := by
  have hs : s < 2 := by subst ho; have := inb 0; simp at this; omega
  have ha : a + k ≤ n := by subst ho; exact inb 1
  have h0 := store (c := c) (m := m) (r := Rect.unit (s := ⟨3, ![2, n, 256]⟩) off (⟨3, ![1, k, 256]⟩ : Shape).size inb) (hx := hx) (hm := hm) (w := w) (S := S) (f := f) (T := T)
    (fun i hi => hS ▸ hi) ?_ (fun i hi hn => absurd (by rw [hS]; exact hi) hn)
  · exact h0
  intro y
  obtain ⟨i, j, rfl⟩ : ∃ (i : Fin k) (j : Fin 256), y = ix3 (0 : Fin 1) i j := ⟨y 1, y 2, funext fun x => by match x with | 0 => exact Subsingleton.elim (α := Fin 1) _ _ | 1 => rfl | 2 => rfl⟩
  have hi : a + i.val < n := by omega
  rw [hw i j hs hi]
  exact (congrArg (m.view.read (Elt F) T) (emb_slab ho inb i j hs hi)).symm

theorem load_xl {s b : ℕ} {off : Fin 3 → ℕ} {inb : ∀ x, off x + S1x4112x256.size x ≤ S2x4112x256.size x} {hl} (ho : off = ![s, 0, 0]) :
    xlAt c s 0 4112 (XL I b) ⊢ WP c (Prog.lift (.load bXL (Rect.unit (s := S2x4112x256) off S1x4112x256.size inb).toLoadRect hl))
      (fun x => iprop(⌜x = A7 I b⌝ ∗ xlAt c s 0 4112 (XL I b))) := by
  refine load_slab (m := bXL) (n := 4112) (k := 4112) (hl := hl) ho ?_ ?_
  · rw [setOn_whole]
  · intro i j hs hi
    show xrow I (4368 + 4096 * b + (0 + i.val)) j = xrow I (4368 + 4096 * b + i.val) j
    exact congrArg (fun x => xrow I (4368 + 4096 * b + x) j) (Nat.zero_add _)

theorem load_x3 {s b : ℕ} {off : Fin 3 → ℕ} {inb : ∀ x, off x + S1x256x256.size x ≤ S2x264x256.size x} {hl} (ho : off = ![s, 1, 0]) :
    x3At c s 0 264 (X3 I b) ⊢ WP c (Prog.lift (.load bX3 (Rect.unit (s := S2x264x256) off S1x256x256.size inb).toLoadRect hl))
      (fun x => iprop(⌜x = A8 I b⌝ ∗ x3At c s 0 264 (X3 I b))) := by
  refine load_slab (m := bX3) (n := 264) (k := 256) (hl := hl) ho ?_ ?_
  · rw [setOn_whole]; intro i hi; rw [mem_slab] at hi ⊢; omega
  · intro i j hs hi
    rfl

/-- The padding of the last block's window. -/
theorem store_pad {off : Fin 3 → ℕ} {f : Vec F S2x4112x256 .f32} {inb : ∀ x, off x + S1x15x256.size x ≤ S2x4112x256.size x} {hx hm} (ho : off = ![1, 4097, 0]) :
    xlAt c 1 4097 4112 f ⊢ WP c (Prog.lift (.store bXL (Rect.unit (s := S2x4112x256) off S1x15x256.size inb) (k0_pay14 (F := F)) Finset.univ hx hm))
      (fun _ => xlAt c 1 4097 4112 (XL I 15)) := by
  refine store_slab (m := bXL) (n := 4112) (k := 15) (hx := hx) (hm := hm) ho ((View.set_slice_whole _ _).trans (rect_slab ho rfl inb)) ?_
  intro i j hs hi
  show _ = xrow I (4368 + 4096 * 15 + (4097 + i.val)) j
  rw [xrow, dif_neg (by omega)]
  rfl

theorem load_pad {off : Fin 3 → ℕ} {f : Vec F S2x4112x256 .f32} {inb : ∀ x, off x + S1x15x256.size x ≤ S2x4112x256.size x} {hl} (ho : off = ![1, 4097, 0]) :
    xlAt c 1 4097 4112 f ⊢ WP c (Prog.lift (.load bXL (Rect.unit (s := S2x4112x256) off S1x15x256.size inb).toLoadRect hl)) (fun _ => xlAt c 1 4097 4112 f) := by
  refine load0 (hl := hl) ?_
  have e : (Rect.unit (s := S2x4112x256) off S1x15x256.size inb).toLoadRect.set = slab 4112 1 4097 4112 := rect_slab ho rfl inb
  rw [e, setOn_whole]

/-- A half of a slot of the leaf results, read (the answer unused) and written. -/
theorem load_ol {s a : ℕ} {off : Fin 3 → ℕ} {f : Vec F S2x4096x256 .f32} {inb : ∀ x, off x + S1x2048x256.size x ≤ S2x4096x256.size x} {hl} (ho : off = ![s, a, 0]) :
    olAt c s a (a + 2048) f ⊢ WP c (Prog.lift (.load bOL (Rect.unit (s := S2x4096x256) off S1x2048x256.size inb).toLoadRect hl)) (fun _ => olAt c s a (a + 2048) f) := by
  refine load0 (hl := hl) ?_
  have e : (Rect.unit (s := S2x4096x256) off S1x2048x256.size inb).toLoadRect.set = slab 4096 s a (a + 2048) := rect_slab ho rfl inb
  rw [e, setOn_whole]

theorem store_ol0 {s b : ℕ} {off : Fin 3 → ℕ} {f : Vec F S2x4096x256 .f32} {inb : ∀ x, off x + S1x2048x256.size x ≤ S2x4096x256.size x} {hx hm} (ho : off = ![s, 0, 0]) :
    olAt c s 0 (0 + 2048) f ⊢ WP c (Prog.lift (.store bOL (Rect.unit (s := S2x4096x256) off S1x2048x256.size inb) (k0_pay30 (leafA I b)) Finset.univ hx hm))
      (fun _ => olAt c s 0 (0 + 2048) (OL I b)) := by
  refine store_slab (m := bOL) (n := 4096) (k := 2048) (hx := hx) (hm := hm) ho ((View.set_slice_whole _ _).trans (rect_slab ho rfl inb)) ?_
  intro i j hs hi
  have h : 0 + i.val < 2048 := by omega
  refine Eq.trans ?_ (dif_pos h).symm
  exact congrArg (fun x : Fin 2048 => k0_pay30 (leafA I b) (ix3 (0 : Fin 1) x j)) (Fin.ext (by show i.val = 0 + i.val; omega))

theorem store_ol1 {s b : ℕ} {off : Fin 3 → ℕ} {f : Vec F S2x4096x256 .f32} {inb : ∀ x, off x + S1x2048x256.size x ≤ S2x4096x256.size x} {hx hm} (ho : off = ![s, 2048, 0]) :
    olAt c s 2048 (2048 + 2048) f ⊢ WP c (Prog.lift (.store bOL (Rect.unit (s := S2x4096x256) off S1x2048x256.size inb) (k0_pay31 (leafB I b)) Finset.univ hx hm))
      (fun _ => olAt c s 2048 (2048 + 2048) (OL I b)) := by
  refine store_slab (m := bOL) (n := 4096) (k := 2048) (hx := hx) (hm := hm) ho ((View.set_slice_whole _ _).trans (rect_slab ho rfl inb)) ?_
  intro i j hs hi
  have h : ¬ 2048 + i.val < 2048 := by omega
  refine Eq.trans ?_ (dif_neg h).symm
  exact congrArg (fun x : Fin 2048 => k0_pay31 (leafB I b) (ix3 (0 : Fin 1) x j)) (Fin.ext (by show i.val = 2048 + i.val - 2048; omega))

end Cert.KernelIdeal.Hand
-- ==== Proof.Run1.lean ====
/-
  The last point's extra work: the top three levels computed, and the remaining rows of the result sent and waited for.
-/
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable {c : Dev nD} {I : Ins F} (i : grid0.Coords) (arg2 : Memref sig .tc .vmem S256x512 .f32) (harg2 : arg2.IsWhole) (arg3 : Memref sig .tc .vmem S1x512 .f32) (harg3 : arg3.IsWhole)
  (arg4 : Memref sig .tc .vmem S256x256 .f32) (harg4 : arg4.IsWhole) (arg5 : Memref sig .tc .vmem S256x256 .f32) (harg5 : arg5.IsWhole)

theorem xt_owns {f : Vec F S280x256 .f32} : xtAt c f = owns (c : Thread nD τ) bXT fullShare f := (owns_whole _ _ _ _).symm
theorem ot_owns {f : Vec F S280x256 .f32} : otAt c f = owns (c : Thread nD τ) bOT fullShare f := (owns_whole _ _ _ _).symm
theorem hw_owns {f : Vec F S4096x256 .f32} : hwAt c f = owns (c : Thread nD τ) bHW fullShare f := (owns_whole _ _ _ _).symm
theorem xt_own1 {f : Vec F S280x256 .f32} : xtAt c f ⊢ owns (c : Thread nD τ) bXT fullShare f := by rw [xt_owns]
theorem xt_own2 {f : Vec F S280x256 .f32} : owns (c : Thread nD τ) bXT fullShare f ⊢ xtAt c f := by rw [xt_owns]
theorem ot_own1 {f : Vec F S280x256 .f32} : otAt c f ⊢ owns (c : Thread nD τ) bOT fullShare f := by rw [ot_owns]
theorem hw_own1 {f : Vec F S4096x256 .f32} : hwAt c f ⊢ owns (c : Thread nD τ) bHW fullShare f := by rw [hw_owns]
theorem ot_own2 {f : Vec F S280x256 .f32} : owns (c : Thread nD τ) bOT fullShare f ⊢ otAt c f := by rw [ot_owns]
theorem hw_own2 {f : Vec F S4096x256 .f32} : owns (c : Thread nD τ) bHW fullShare f ⊢ hwAt c f := by rw [hw_owns]

theorem run_part1 :
    iprop(owns (c : Thread nD τ) arg4 fullShare I.Uf ∗ owns (c : Thread nD τ) arg5 fullShare I.Uh ∗ xtF c I ∗ Ow c ∗ owns (c : Thread nD τ) bH3 fullShare (H3 I))
      ⊢ WP c (k0_part1 (F := F) i bX (Memref.isWhole_whole _) arg2 harg2 arg3 harg3 arg4 harg4 arg5 harg5 bO (Memref.isWhole_whole _) bXL (Memref.isWhole_whole _) bX3 (Memref.isWhole_whole _) bOL (Memref.isWhole_whole _) bH3 (Memref.isWhole_whole _) bHW (Memref.isWhole_whole _) bXT (Memref.isWhole_whole _) bOT (Memref.isWhole_whole _) cc0_scratch7 cc0_scratch8 cc0_scratch9 cc0_scratch10 cc0_scratch11 cc0_scratch12 I.W (bias I))
        (fun r => iprop(⌜r = ⟨I.Uf, I.Uh, topPre I, topH2 I, k0_pay4 I.W (bias I) I.Uf I.Uh (XT I) (H3 I), k0_pay5 I.W (bias I) I.Uf I.Uh (XT I) (H3 I)⟩⌝
          ∗ owns (c : Thread nD τ) arg4 fullShare I.Uf ∗ owns (c : Thread nD τ) arg5 fullShare I.Uh ∗ xtI c I ∗ Ow c ∗ owns (c : Thread nD τ) bH3 fullShare (H3 I))) := by
  rw [k0_part1_eq_skeleton]
  unfold k0_part1_skel
  dsimp only
  iintro ⟨HU, HV, HT, HW, HH⟩
  iapply (step (load_full (c := c) (m := arg4))) $$ HU
  iintro %x ⟨%hx, HU⟩
  iapply (step (load_full (c := c) (m := arg5))) $$ HV
  iintro %y ⟨%hy, HV⟩
  iapply (step2 (xt_recv (c := c) (I := I) sem_xt rfl)) $$ HT HW
  iintro %_ ⟨HT, HW⟩
  unfold xtH xtI
  icases HT with ⟨Z0, HT, HX⟩
  ihave HT := xt_own1 $$ HT
  iapply (step (load_full (c := c) (m := bXT))) $$ HT
  iintro %z ⟨%hz, HT⟩
  iapply (step (load_full (c := c) (m := bH3))) $$ HH
  iintro %w ⟨%hw, HH⟩
  subst hx hy hz hw
  iapply (done .rfl)
  isplitr
  · ipureintro; rfl
  iframe
  iexists (XT I)
  iapply xt_own2 $$ HT

theorem run_part2 {P : sProp 𝕄} :
    P ⊢ WP c (k0_part2 (F := F) i bX (Memref.isWhole_whole _) arg2 harg2 arg3 harg3 arg4 harg4 arg5 harg5 bO (Memref.isWhole_whole _) bXL (Memref.isWhole_whole _) bX3 (Memref.isWhole_whole _) bOL (Memref.isWhole_whole _) bH3 (Memref.isWhole_whole _) bHW (Memref.isWhole_whole _) bXT (Memref.isWhole_whole _) bOT (Memref.isWhole_whole _) cc0_scratch7 cc0_scratch8 cc0_scratch9 cc0_scratch10 cc0_scratch11 cc0_scratch12 I.Uf I.Uh (topPre I) (k0_pay4 I.W (bias I) I.Uf I.Uh (XT I) (H3 I)) (k0_pay5 I.W (bias I) I.Uf I.Uh (XT I) (H3 I)))
        (fun r => iprop(⌜r = ⟨topH1 I, topH0 I⟩⌝ ∗ P)) := by
  rw [k0_part2_eq_skeleton]
  unfold k0_part2_skel
  iintro H
  iapply (done .rfl)
  isplitr
  · ipureintro; rfl
  iexact H

theorem OT_0 (x : Fin 1) (j : Fin 256) (h : 0 + x.val < 280) : k0_pay8 (topH0 I) (ix2 x j) = OT I (ix2 ⟨0 + x.val, h⟩ j) := by
  have h0 : 0 + x.val < 1 := by omega
  refine Eq.trans ?_ (dif_pos h0).symm
  exact congrArg (fun x : Fin 1 => k0_pay8 (topH0 I) (ix2 x j)) (Subsingleton.elim _ _)
theorem OT_1 (x : Fin 16) (j : Fin 256) (h : 1 + x.val < 280) : k0_pay9 (topH1 I) (ix2 x j) = OT I (ix2 ⟨1 + x.val, h⟩ j) := by
  have h0 : ¬ 1 + x.val < 1 := by omega
  have h1 : 1 + x.val < 17 := by omega
  refine Eq.trans ?_ ((dif_neg h0).trans (dif_pos h1)).symm
  exact congrArg (fun x : Fin 16 => k0_pay9 (topH1 I) (ix2 x j)) (Fin.ext (by show x.val = 1 + x.val - 1; omega))
theorem OT_2 (x : Fin 256) (j : Fin 256) (h : 17 + x.val < 280) : k0_pay10 (topH2 I) (ix2 x j) = OT I (ix2 ⟨17 + x.val, h⟩ j) := by
  have h0 : ¬ 17 + x.val < 1 := by omega
  have h1 : ¬ 17 + x.val < 17 := by omega
  have h2 : 17 + x.val < 273 := by omega
  refine Eq.trans ?_ ((dif_neg h0).trans ((dif_neg h1).trans (dif_pos h2))).symm
  exact congrArg (fun x : Fin 256 => k0_pay10 (topH2 I) (ix2 x j)) (Fin.ext (by show x.val = 17 + x.val - 17; omega))
theorem OT_3 (x : Fin 7) (j : Fin 256) (h : 273 + x.val < 280) : k0_pay11 (H3a I) (ix2 x j) = OT I (ix2 ⟨273 + x.val, h⟩ j) := by
  have h0 : ¬ 273 + x.val < 1 := by omega
  have h1 : ¬ 273 + x.val < 17 := by omega
  have h2 : ¬ 273 + x.val < 273 := by omega
  refine Eq.trans ?_ ((dif_neg h0).trans ((dif_neg h1).trans (dif_neg h2))).symm
  exact congrArg (fun x : Fin 7 => k0_pay11 (H3a I) (ix2 x j)) (Fin.ext (by show x.val = 273 + x.val - 273; omega))
theorem H3W_lo (x : Fin 4089) (j : Fin 256) (h : 0 + x.val < 4096) : k0_pay12 (H3b I) (ix2 x j) = H3W I (ix2 ⟨0 + x.val, h⟩ j) := by
  have h0 : 0 + x.val < 4089 := by omega
  refine Eq.trans ?_ (dif_pos h0).symm
  exact congrArg (fun x : Fin 4089 => k0_pay12 (H3b I) (ix2 x j)) (Fin.ext (by show x.val = 0 + x.val; omega))

theorem load_H3a {inb hl} : owns (c : Thread nD τ) bH3 fullShare (H3 I)
    ⊢ WP c (Prog.lift (.load bH3 (Rect.unit (s := S4096x256) ![0, 0] S7x256.size inb).toLoadRect hl)) (fun x => iprop(⌜x = H3a I⌝ ∗ owns (c : Thread nD τ) bH3 fullShare (H3 I))) := by
  have h0 := load_own (c := c) (m := bH3) (r := (Rect.unit (s := S4096x256) ![0, 0] S7x256.size inb).toLoadRect) (hl := hl) (q := fullShare) (d := H3 I)
  refine h0.trans (weaken fun x => ?_)
  iintro ⟨%hx, H⟩
  isplitr
  · ipureintro
    rw [hx]
    funext y
    refine congrArg (H3 I) (funext fun a => Fin.ext ?_)
    match a with
    | 0 => show 0 + 1 * (y 0).val = (y 0).val; omega
    | 1 => show 0 + 1 * (y 1).val = (y 1).val; omega
  · iexact H
theorem load_H3b {inb hl} : owns (c : Thread nD τ) bH3 fullShare (H3 I)
    ⊢ WP c (Prog.lift (.load bH3 (Rect.unit (s := S4096x256) ![7, 0] S4089x256.size inb).toLoadRect hl)) (fun x => iprop(⌜x = H3b I⌝ ∗ owns (c : Thread nD τ) bH3 fullShare (H3 I))) := by
  have h0 := load_own (c := c) (m := bH3) (r := (Rect.unit (s := S4096x256) ![7, 0] S4089x256.size inb).toLoadRect) (hl := hl) (q := fullShare) (d := H3 I)
  refine h0.trans (weaken fun x => ?_)
  iintro ⟨%hx, H⟩
  isplitr
  · ipureintro
    rw [hx]
    funext y
    refine congrArg (H3 I) (funext fun a => Fin.ext ?_)
    match a with
    | 0 => show 7 + 1 * (y 0).val = 7 + (y 0).val; omega
    | 1 => show 0 + 1 * (y 1).val = (y 1).val; omega
  · iexact H

set_option maxHeartbeats 1000000 in
theorem run_part3 {v : Vec F S69905x256 .f32} :
    iprop(otA c ∗ owns (c : Thread nD τ) bH3 fullShare (H3 I) ∗ hwA c I 16 ∗ oAt c 0 4376 v ∗ Z c (semTop 0) ∗ Z c (semTop 1))
      ⊢ WP c (k0_part3 (F := F) i bX (Memref.isWhole_whole _) arg2 harg2 arg3 harg3 arg4 harg4 arg5 harg5 bO (Memref.isWhole_whole _) bXL (Memref.isWhole_whole _) bX3 (Memref.isWhole_whole _) bOL (Memref.isWhole_whole _) bH3 (Memref.isWhole_whole _) bHW (Memref.isWhole_whole _) bXT (Memref.isWhole_whole _) bOT (Memref.isWhole_whole _) cc0_scratch7 cc0_scratch8 cc0_scratch9 cc0_scratch10 cc0_scratch11 cc0_scratch12 (topH2 I) (topH1 I) (topH0 I))
        (fun _ => iprop(topF c I ∗ midF c I ∗ owns (c : Thread nD τ) bH3 fullShare (H3 I))) := by
  rw [k0_part3_eq_skeleton]
  unfold k0_part3_skel
  dsimp only
  unfold otA hwA
  iintro ⟨⟨%f, HT⟩, HH, ⟨%g, %hg, HG⟩, HO, Z0, Z1⟩
  iapply (step (load_own (c := c) (m := bOT))) $$ HT
  iintro %_ ⟨-, HT⟩
  iapply (step (store_rows (c := c) (m := bOT) (n := 280) (k := 1) (a := 0) (OT I) rfl OT_0)) $$ HT
  iintro %_ HT
  iapply (step (load_own (c := c) (m := bOT))) $$ HT
  iintro %_ ⟨-, HT⟩
  iapply (step (store_rows (c := c) (m := bOT) (n := 280) (k := 16) (a := 1) (OT I) rfl OT_1)) $$ HT
  iintro %_ HT
  iapply (step (load_own (c := c) (m := bOT))) $$ HT
  iintro %_ ⟨-, HT⟩
  iapply (step (store_rows (c := c) (m := bOT) (n := 280) (k := 256) (a := 17) (OT I) rfl OT_2)) $$ HT
  iintro %_ HT
  iapply (step (load_H3a (c := c) (I := I))) $$ HH
  iintro %x ⟨%hx, HH⟩
  subst hx
  iapply (step (load_own (c := c) (m := bOT))) $$ HT
  iintro %_ ⟨-, HT⟩
  iapply (step (store_rows (c := c) (m := bOT) (n := 280) (k := 7) (a := 273) (OT I) rfl OT_3)) $$ HT
  iintro %_ HT
  iapply (step (load_H3b (c := c) (I := I))) $$ HH
  iintro %x ⟨%hx, HH⟩
  subst hx
  iapply (step (load_own (c := c) (m := bHW))) $$ HG
  iintro %_ ⟨-, HG⟩
  iapply (step (store_rows (c := c) (m := bHW) (n := 4096) (k := 4089) (a := 0) (H3W I) rfl H3W_lo)) $$ HG
  iintro %_ HG
  have eT : patch 273 (273 + 7) (OT I) (patch 17 (17 + 256) (OT I) (patch 1 (1 + 16) (OT I) (patch 0 (0 + 1) (OT I) f))) = OT I := by
    funext x
    have hx : (x 0).val < 280 := (x 0).isLt
    unfold patch
    split_ifs
    · rfl
    · rfl
    · rfl
    · rfl
    · omega
  have eG : patch 0 (0 + 4089) (H3W I) g = H3W I := by
    funext x
    unfold patch
    split_ifs
    · rfl
    · exact hg (by decide) x (by omega)
  rw [eT, eG]
  ihave HT := ot_own2 $$ HT
  ihave HG := hw_own2 $$ HG
  ihave ⟨O0, O1⟩ := (o_cut c 280 (by omega) (by omega)) $$ HO
  iapply (step (top_send (c := c) (I := I) (f := v) (sem_top rfl _))) $$ [HT O0 Z0]
  · iframe
  iintro %_ HT
  iapply (step (mid_send (c := c) (I := I) (f := v) (sem_top rfl _))) $$ [HG O1 Z1]
  · iframe
  iintro %_ HG
  iapply (done .rfl)
  iframe

set_option maxHeartbeats 1000000 in
theorem run_part4 {v : Vec F S69905x256 .f32} :
    iprop(topF c I ∗ midF c I ∗ olFly c I 14 ∗ oAt c 4376 (4376 + 4096 * 14) (G I) ∗ oAt c (4376 + 4096 * 15) 69905 v ∗ olAt c 1 0 4096 (OL I 15)
        ∗ Z c (semTop 2) ∗ Z c (semTop 3) ∗ Ow c)
      ⊢ WP c (k0_part4 (F := F) i bX (Memref.isWhole_whole _) arg2 harg2 arg3 harg3 arg4 harg4 arg5 harg5 bO (Memref.isWhole_whole _) bXL (Memref.isWhole_whole _) bX3 (Memref.isWhole_whole _) bOL (Memref.isWhole_whole _) bH3 (Memref.isWhole_whole _) bHW (Memref.isWhole_whole _) bXT (Memref.isWhole_whole _) bOT (Memref.isWhole_whole _) cc0_scratch7 cc0_scratch8 cc0_scratch9 cc0_scratch10 cc0_scratch11 cc0_scratch12)
        (fun _ => iprop((oF c I (semTop 2) 1 0 4088 15 ∗ oF c I (semTop 3) 1 4088 1 15) ∗ olAt c 1 4089 4096 (OL I 15)
          ∗ (oAt c 0 280 (G I) ∗ otAt c (OT I)) ∗ Z c (semTop 0) ∗ (oAt c 280 4376 (G I) ∗ hwAt c (H3W I)) ∗ Z c (semTop 1)
          ∗ oAt c 4376 (4376 + 4096 * 15) (G I) ∗ olIdle c 0 ∗ Ow c)) := by
  rw [k0_part4_eq_skeleton]
  unfold k0_part4_skel
  dsimp only
  have hd := ol_done c I 14 (by omega)
  unfold olFly topF midF
  iintro ⟨HT, HM, ⟨A0, A1⟩, HO, HV, HL, Z2, Z3, HW⟩
  ihave ⟨L0, HL⟩ := (ol_cut c (0 + 4088) (by omega) (by omega)) $$ HL
  ihave ⟨L1, HL⟩ := (ol_cut c (4088 + 1) (by omega) (by omega)) $$ HL
  ihave ⟨V0, V1⟩ := (o_cut c (4376 + 4096 * 15 + 0 + 4088) (by omega) (by omega)) $$ HV
  iapply (step (o_send (c := c) (I := I) (n := 4088) (s := 1) (a := 0) (b := 15) (r := 65816) (f := v) (sem_top rfl _) rfl rfl (by decide) (by norm_num))) $$ [L0 V0 Z2]
  · iframe
  iintro %_ S0
  iapply (step (o_send (c := c) (I := I) (n := 1) (s := 1) (a := 4088) (b := 15) (r := 69904) (f := v) (sem_top rfl _) rfl rfl (by decide) (by norm_num))) $$ [L1 V1 Z3]
  · iframe
  iintro %_ S1
  iapply (step2 (o_recv (c := c) (I := I) (n := 2048) (s := 0) (a := 0) (b := 14) (sem_ol rfl _) rfl)) $$ A0 HW
  iintro %_ ⟨A0, Y0, HW⟩
  iapply (step2 (o_recv (c := c) (I := I) (n := 2048) (s := 0) (a := 2048) (b := 14) (sem_ol rfl _) rfl)) $$ A1 HW
  iintro %_ ⟨A1, Y1, HW⟩
  iapply (step2 (await (c := c) (sm := semTop 0) (N := amO 280) (D := iprop(oAt c 0 280 (G I) ∗ otAt c (OT I))) (sem_top rfl _) rfl)) $$ HT HW
  iintro %_ ⟨HT, X0, HW⟩
  iapply (step2 (await (c := c) (sm := semTop 1) (N := amO 4096) (D := iprop(oAt c 280 4376 (G I) ∗ hwAt c (H3W I))) (sem_top rfl _) rfl)) $$ HM HW
  iintro %_ ⟨HM, X1, HW⟩
  ihave ⟨HO, HI⟩ := hd $$ [HO A0 Y0 A1 Y1]
  · isplitl [HO]
    · iexact HO
    isplitl [A0]
    · iexact A0
    isplitl [Y0]
    · iexact Y0
    isplitl [A1]
    · iexact A1
    · iexact Y1
  iapply (done .rfl)
  isplitl [S0 S1]
  · iframe
  isplitl [HL]
  · iexact HL
  isplitl [HT]
  · iexact HT
  isplitl [X0]
  · iexact X0
  isplitl [HM]
  · iexact HM
  isplitl [X1]
  · iexact X1
  isplitl [HO]
  · iexact HO
  isplitl [HI]
  · iexact HI
  · iexact HW

end Cert.KernelIdeal.Hand
-- ==== Proof.Run5.lean ====
/-
  The first part of the body at a point: the next block's transfers begun, this block's and the leaving slot's waited for.
-/
module

public import proofs.«01_k».proof.Proof.Conds

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable {c : Dev nD} {I : Ins F} (i : grid0.Coords) (arg2 : Memref sig .tc .vmem S256x512 .f32) (harg2 : arg2.IsWhole) (arg3 : Memref sig .tc .vmem S1x512 .f32) (harg3 : arg3.IsWhole)
  (arg4 : Memref sig .tc .vmem S256x256 .f32) (harg4 : arg4.IsWhole) (arg5 : Memref sig .tc .vmem S256x256 .f32) (harg5 : arg5.IsWhole)

set_option maxHeartbeats 400000 in
theorem run_part5 :
    iprop((xlA c I (i 0).val ∗ xlIdle c I (((i 0).val + 1) % 2) ∗ rowA c I (i 0).val ∗ x3A c I (i 0).val ∗ x3I c I (((i 0).val + 1) % 2) ∗ xtA c I (i 0).val
        ∗ olA c I (i 0).val ∗ outA c I (i 0).val) ∗ Ow c ∗ owns (c : Thread nD τ) arg2 fullShare I.W ∗ owns (c : Thread nD τ) arg3 fullShare I.wb)
      ⊢ WP c (k0_part5 (F := F) i bX (Memref.isWhole_whole _) arg2 harg2 arg3 harg3 arg4 harg4 arg5 harg5 bO (Memref.isWhole_whole _) bXL (Memref.isWhole_whole _) bX3 (Memref.isWhole_whole _) bOL (Memref.isWhole_whole _) bH3 (Memref.isWhole_whole _) bHW (Memref.isWhole_whole _) bXT (Memref.isWhole_whole _) bOT (Memref.isWhole_whole _) cc0_scratch7 cc0_scratch8 cc0_scratch9 cc0_scratch10 cc0_scratch11 cc0_scratch12)
        (fun r => iprop(⌜r = ⟨BitVec.ofNat 32 (i 0).val, Scalar.remsi (BitVec.ofNat 32 (i 0).val) 2#32, I.W, bias I⟩⌝
          ∗ (xlHere c I (i 0).val ∗ xlN c I ((i 0).val + 1) ∗ rowA c I ((i 0).val + 1) ∗ x3H c I ((i 0).val % 2) (i 0).val ∗ x3N c I ((i 0).val + 1) ∗ xtF c I
            ∗ olIdle c ((i 0).val % 2) ∗ outS c I ((i 0).val - 1) (i 0).val) ∗ Ow c
          ∗ owns (c : Thread nD τ) arg2 fullShare I.W ∗ owns (c : Thread nD τ) arg3 fullShare I.wb)) := by
  have ht := lt16 i
  rw [k0_part5_eq_skeleton]
  unfold k0_part5_skel
  dsimp only
  -- the first point's own transfers
  refine fork (mid := iprop(xlFly c I (i 0).val ∗ xlIdle c I (((i 0).val + 1) % 2) ∗ rowA c I (i 0).val ∗ x3F c I ((i 0).val % 2) (i 0).val
    ∗ x3I c I (((i 0).val + 1) % 2) ∗ xtF c I ∗ (olA c I (i 0).val ∗ outA c I (i 0).val)
    ∗ Ow c ∗ owns (c : Thread nD τ) arg2 fullShare I.W ∗ owns (c : Thread nD τ) arg3 fullShare I.wb)) ?_ ?_ ?_
  · intro h hm
    have h0 := (cond1 i).mp h
    have e1 : xlA c I (i 0).val = xlIdle c I 0 := by rw [h0]; rfl
    have e2 : x3A c I (i 0).val = x3I c I 0 := by rw [h0]; rfl
    have e3 : xtA c I (i 0).val = xtI c I := by rw [h0]; rfl
    have e4 : xlFly c I (i 0).val = iprop(xlF c I (2 * 0) (semXL 0 0) 0 0 2056 0 ∗ xlF c I (2 * 0 + 1) (semXL 0 1) 0 2056 2056 0) := by
      rw [h0]; rfl
    have e5 : x3F c I ((i 0).val % 2) (i 0).val = x3F c I 0 0 := by rw [h0]
    rw [e1, e2, e3]
    iintro ⟨⟨HA, HB, HR, H3, H3', HT, HO⟩, HW⟩
    ihave ⟨A0, A1⟩ := (xl_lend c I 0) $$ HA
    iapply (step (xl_send (c := c) (I := I) (n := 2056) (s := 0) (a := 0) (r := 4368) (b := 0) (sem_xl rfl _) rfl rfl (by decide) (by decide))) $$ A0
    iintro %_ A0
    iapply (step (xl_send (c := c) (I := I) (n := 2056) (s := 0) (a := 2056) (r := 6424) (b := 0) (sem_xl rfl _) rfl rfl (by decide) (by decide))) $$ A1
    iintro %_ A1
    iapply (step (x3_send (c := c) (I := I) (s := 0) (r := 272) (b := 0) (sem_x3 rfl _) rfl rfl (by decide))) $$ H3
    iintro %_ H3
    iapply (step (xt_send (c := c) (I := I) sem_xt)) $$ HT
    iintro %_ HT
    iapply hm
    rw [e4, e5]
    iframe
  · intro h
    have h0 : 1 ≤ (i 0).val := Nat.one_le_iff_ne_zero.mpr fun e => h ((cond1 i).mpr e)
    have e1 : xlA c I (i 0).val = xlFly c I (i 0).val := by rw [xlA, if_pos h0, xlN, if_pos ht]
    have e2 : x3A c I (i 0).val = x3F c I ((i 0).val % 2) (i 0).val := by rw [x3A, if_pos h0, x3N, if_pos ht]
    have e3 : xtA c I (i 0).val = xtF c I := by rw [xtA, if_pos ⟨h0, ht⟩]
    rw [e1, e2, e3]
    iintro ⟨⟨HA, HB, HR, H3, H3', HT, HO⟩, HW⟩
    iframe
  -- the next point's transfers
  refine fork (mid := iprop((xlFly c I (i 0).val ∗ xlN c I ((i 0).val + 1) ∗ rowB c I (i 0).val ∗ Ow c)
    ∗ x3F c I ((i 0).val % 2) (i 0).val ∗ x3N c I ((i 0).val + 1) ∗ xtF c I ∗ (olA c I (i 0).val ∗ outA c I (i 0).val)
    ∗ owns (c : Thread nD τ) arg2 fullShare I.W ∗ owns (c : Thread nD τ) arg3 fullShare I.wb)) ?_ ?_ ?_
  · intro h hm
    have h2 := (cond2 i).mp h
    have e5 : x3N c I ((i 0).val + 1) = x3F c I (((i 0).val + 1) % 2) ((i 0).val + 1) := by rw [x3N, if_pos (by omega)]
    refine fork (mid := iprop((xlFly c I (i 0).val ∗ (if (i 0).val < 14 then xlN c I ((i 0).val + 1) else xlIdle c I (((i 0).val + 1) % 2)) ∗ rowA c I (i 0).val ∗ Ow c)
      ∗ x3F c I ((i 0).val % 2) (i 0).val ∗ x3I c I (((i 0).val + 1) % 2) ∗ xtF c I ∗ (olA c I (i 0).val ∗ outA c I (i 0).val)
      ∗ owns (c : Thread nD τ) arg2 fullShare I.W ∗ owns (c : Thread nD τ) arg3 fullShare I.wb)) ?_ ?_ ?_
    · intro h' hm'
      have h3 := (cond3 i).mp h'
      have e6 : xlN c I ((i 0).val + 1) = iprop(xlF c I (2 * (((i 0).val + 1) % 2)) (semXL (((i 0).val + 1) % 2) 0) (((i 0).val + 1) % 2) 0 2056 ((i 0).val + 1)
          ∗ xlF c I (2 * (((i 0).val + 1) % 2) + 1) (semXL (((i 0).val + 1) % 2) 1) (((i 0).val + 1) % 2) 2056 2056 ((i 0).val + 1)) := by
        rw [xlN, if_pos (by omega), xlFly, if_pos (by omega)]
      iintro ⟨HA, HB, HR, H3, H3', HT, HO, HW, H⟩
      ihave ⟨A0, A1⟩ := (xl_lend c I (((i 0).val + 1) % 2)) $$ HB
      iapply (step (xl_send (c := c) (I := I) (n := 2056) (b := (i 0).val + 1) (sem_xl (k0_off1_eq i) _) (k0_off3_eq i) (k0_off2_eq i) (by decide) (by omega))) $$ A0
      iintro %_ A0
      iapply (step (xl_send (c := c) (I := I) (n := 2056) (b := (i 0).val + 1) (sem_xl (k0_off4_eq i) _) (k0_off6_eq i) (k0_off5_eq i) (by decide) (by omega))) $$ A1
      iintro %_ A1
      iapply hm'
      rw [if_pos h3, e6]
      iframe
    · intro h'
      have h3 : ¬ (i 0).val < 14 := fun e => h' ((cond3 i).mpr e)
      rw [if_neg h3]
      iintro ⟨HA, HB, HR, H3, H3', HT, HO, HW, H⟩
      iframe
    refine fork (mid := iprop((xlFly c I (i 0).val ∗ xlN c I ((i 0).val + 1) ∗ rowB c I (i 0).val ∗ Ow c)
      ∗ x3F c I ((i 0).val % 2) (i 0).val ∗ x3I c I (((i 0).val + 1) % 2) ∗ xtF c I ∗ (olA c I (i 0).val ∗ outA c I (i 0).val)
      ∗ owns (c : Thread nD τ) arg2 fullShare I.W ∗ owns (c : Thread nD τ) arg3 fullShare I.wb)) ?_ ?_ ?_
    · intro h' hm'
      have h4 := (cond4 i).mp h'
      have e6 : xlN c I ((i 0).val + 1) = iprop(xlF c I (2 * 1) (semXL 1 0) 1 0 2056 15 ∗ xlF c I (2 * 1 + 1) (semXL 1 1) 1 2056 2040 15 ∗ ∃ f : Vec F S2x4112x256 .f32, xlAt c 1 4097 4112 f) := by
        rw [h4]; rfl
      have e7 : rowB c I (i 0).val = xlF c I 4 semRow 1 4096 1 15 := by rw [h4]; rfl
      have e8 : rowA c I (i 0).val = rowIdle c I := by rw [h4]; rfl
      have e9 : xlIdle c I (((i 0).val + 1) % 2) = xlIdle c I 1 := by rw [h4]
      have o7 : k0_off7 i = ![1, 0] := by rw [k0_off7_eq, h4]
      have o8 : k0_off8 i = ![1, 0, 0] := by rw [k0_off8_eq, h4]
      have o9 : k0_off9 i = ![1, 1] := by rw [k0_off9_eq, h4]
      have o10 : k0_off10 i = ![1, 2056, 0] := by rw [k0_off10_eq, h4]
      have o11 : k0_off11 i = ![1, 4096, 0] := by rw [k0_off11_eq, h4]
      rw [if_neg (by omega), e8, e9]
      iintro ⟨⟨HA, HB, HR, HW⟩, H⟩
      ihave ⟨A0, A1, A2, A3⟩ := (xl_lend_last c I) $$ [HB HR]
      · iframe
      iapply (step (xl_send (c := c) (I := I) (n := 2056) (s := 1) (a := 0) (r := 65808) (b := 15) (sem_xl o7 _) rfl o8 (by decide) (by norm_num))) $$ A0
      iintro %_ A0
      iapply (step (xl_send (c := c) (I := I) (n := 2040) (s := 1) (a := 2056) (r := 67864) (b := 15) (sem_xl o9 _) rfl o10 (by decide) (by norm_num))) $$ A1
      iintro %_ A1
      iapply (step (xl_send (c := c) (I := I) (n := 1) (s := 1) (a := 4096) (r := 69904) (b := 15) sem_row rfl o11 (by decide) (by norm_num))) $$ A2
      iintro %_ A2
      iapply hm'
      rw [e6, e7]
      iframe
    · intro h'
      have h4 : ¬ (i 0).val = 14 := fun e => h' ((cond4 i).mpr e)
      have h3 : (i 0).val < 14 := by omega
      have e7 : rowB c I (i 0).val = rowIdle c I := by rw [rowB, if_neg (by omega)]
      have e8 : rowA c I (i 0).val = rowIdle c I := by rw [rowA, if_neg (by omega)]
      rw [if_pos h3, e7, e8]
    iintro ⟨HA, H3, H3', H⟩
    iapply (step (x3_send (c := c) (I := I) (b := (i 0).val + 1) (sem_x3 (k0_off12_eq i) _) (k0_off14_eq i) (k0_off13_eq i) (by omega))) $$ H3'
    iintro %_ H3'
    iapply hm
    rw [e5]
    iframe
  · intro h
    have h2 : (i 0).val = 15 := Nat.le_antisymm (Nat.le_of_lt_succ ht) (Nat.le_of_not_lt fun e => h ((cond2 i).mpr e))
    have e1 : xlN c I ((i 0).val + 1) = xlIdle c I (((i 0).val + 1) % 2) := by rw [xlN, if_neg (by omega)]
    have e2 : x3N c I ((i 0).val + 1) = x3I c I (((i 0).val + 1) % 2) := by rw [x3N, if_neg (by omega)]
    have e3 : rowB c I (i 0).val = rowFly c I := by rw [rowB, if_pos (by omega)]
    have e4 : rowA c I (i 0).val = rowFly c I := by rw [rowA, if_pos h2]
    rw [e1, e2, e3, e4]
    iintro ⟨HA, HB, HR, H3, H3', HT, HO, HW, H⟩
    iframe
  -- this point's leaf rows
  refine fork (mid := iprop(((if (i 0).val < 15 then xlHere c I (i 0).val else xlFly c I (i 0).val) ∗ xlN c I ((i 0).val + 1) ∗ rowB c I (i 0).val ∗ Ow c)
    ∗ x3F c I ((i 0).val % 2) (i 0).val ∗ x3N c I ((i 0).val + 1) ∗ xtF c I ∗ (olA c I (i 0).val ∗ outA c I (i 0).val)
    ∗ owns (c : Thread nD τ) arg2 fullShare I.W ∗ owns (c : Thread nD τ) arg3 fullShare I.wb)) ?_ ?_ ?_
  · intro h hm
    have h5 := (cond5 i).mp h
    have e1 : xlFly c I (i 0).val = iprop(xlF c I (2 * ((i 0).val % 2)) (semXL ((i 0).val % 2) 0) ((i 0).val % 2) 0 2056 (i 0).val
        ∗ xlF c I (2 * ((i 0).val % 2) + 1) (semXL ((i 0).val % 2) 1) ((i 0).val % 2) 2056 2056 (i 0).val) := by rw [xlFly, if_pos h5]
    rw [e1]
    iintro ⟨⟨⟨A0, A1⟩, HB, HR, HW⟩, H⟩
    iapply (step2 (xl_recv (c := c) (I := I) (n := 2056) (sem_xl (k0_off15_eq i) _) rfl (by omega))) $$ A0 HW
    iintro %_ ⟨A0, HW⟩
    iapply (step2 (xl_recv (c := c) (I := I) (n := 2056) (sem_xl (k0_off18_eq i) _) rfl (by omega))) $$ A1 HW
    iintro %_ ⟨A1, HW⟩
    ihave HA := (xl_back c I (i 0).val h5) $$ [A0 A1]
    · iframe
    iapply hm
    rw [if_pos h5]
    iframe
  · intro h
    have h5 : ¬ (i 0).val < 15 := fun e => h ((cond5 i).mpr e)
    rw [if_neg h5]
  refine fork (mid := iprop((xlHere c I (i 0).val ∗ xlN c I ((i 0).val + 1) ∗ rowA c I ((i 0).val + 1) ∗ Ow c)
    ∗ x3F c I ((i 0).val % 2) (i 0).val ∗ x3N c I ((i 0).val + 1) ∗ xtF c I ∗ (olA c I (i 0).val ∗ outA c I (i 0).val)
    ∗ owns (c : Thread nD τ) arg2 fullShare I.W ∗ owns (c : Thread nD τ) arg3 fullShare I.wb)) ?_ ?_ ?_
  · intro h hm
    have h6 := (cond6 i).mp h
    have e1 : xlFly c I (i 0).val = iprop(xlF c I (2 * 1) (semXL 1 0) 1 0 2056 15 ∗ xlF c I (2 * 1 + 1) (semXL 1 1) 1 2056 2040 15 ∗ ∃ f : Vec F S2x4112x256 .f32, xlAt c 1 4097 4112 f) := by
      rw [h6]; rfl
    have e2 : rowB c I (i 0).val = xlF c I 4 semRow 1 4096 1 15 := by rw [h6]; rfl
    have e3 : rowA c I ((i 0).val + 1) = rowIdle c I := by rw [h6]; rfl
    have e4 : xlHere c I (i 0).val = xlHere c I 15 := by rw [h6]
    have o21 : k0_off21 i = ![1, 0] := by rw [k0_off21_eq, h6]
    have o23 : k0_off23 i = ![1, 1] := by rw [k0_off23_eq, h6]
    rw [if_neg (by omega), e1, e2]
    iintro ⟨⟨⟨A0, A1, A3⟩, HB, A2, HW⟩, H⟩
    iapply (step2 (xl_recv (c := c) (I := I) (n := 2056) (s := 1) (a := 0) (b := 15) (sem_xl o21 _) rfl (by norm_num))) $$ A0 HW
    iintro %_ ⟨A0, HW⟩
    iapply (step2 (xl_recv (c := c) (I := I) (n := 2040) (s := 1) (a := 2056) (b := 15) (sem_xl o23 _) rfl (by norm_num))) $$ A1 HW
    iintro %_ ⟨A1, HW⟩
    iapply (step2 (xl_recv (c := c) (I := I) (n := 1) (s := 1) (a := 4096) (b := 15) sem_row rfl (by norm_num))) $$ A2 HW
    iintro %_ ⟨A2, HW⟩
    ihave ⟨HA, HR⟩ := (xl_back_last c I) $$ [A0 A1 A2 A3]
    · isplitl [A0]
      · iexact A0
      isplitl [A1]
      · iexact A1
      isplitl [A2]
      · iexact A2
      · iexact A3
    iapply hm
    rw [e3, e4]
    iframe
  · intro h
    have h6 : ¬ (i 0).val = 15 := fun e => h ((cond6 i).mpr e)
    have e2 : rowB c I (i 0).val = rowA c I ((i 0).val + 1) := by
      unfold rowA rowB
      by_cases h7 : (i 0).val = 14
      · rw [if_pos (by omega), if_pos (by omega)]
      · rw [if_neg (by omega), if_neg (by omega)]
    rw [if_pos (by omega), e2]
  -- the third-level rows
  have hre : iprop((xlHere c I (i 0).val ∗ xlN c I ((i 0).val + 1) ∗ rowA c I ((i 0).val + 1) ∗ Ow c)
    ∗ x3F c I ((i 0).val % 2) (i 0).val ∗ x3N c I ((i 0).val + 1) ∗ xtF c I ∗ (olA c I (i 0).val ∗ outA c I (i 0).val)
    ∗ owns (c : Thread nD τ) arg2 fullShare I.W ∗ owns (c : Thread nD τ) arg3 fullShare I.wb)
    ⊢ iprop((x3F c I ((i 0).val % 2) (i 0).val ∗ Ow c) ∗ (xlHere c I (i 0).val ∗ xlN c I ((i 0).val + 1) ∗ rowA c I ((i 0).val + 1))
    ∗ x3N c I ((i 0).val + 1) ∗ xtF c I ∗ (olA c I (i 0).val ∗ outA c I (i 0).val)
    ∗ owns (c : Thread nD τ) arg2 fullShare I.W ∗ owns (c : Thread nD τ) arg3 fullShare I.wb) := by
    iintro ⟨⟨HA, HB, HR, HW⟩, H3, H⟩
    iframe
  refine hre.trans (seq (x3_recv (c := c) (I := I) (sem_x3 (k0_off26_eq i) _) rfl (by omega)) fun _ => ?_)
  -- the slot of leaf results that this point fills
  refine fork (mid := iprop((olIdle c ((i 0).val % 2) ∗ outS c I ((i 0).val - 1) (i 0).val) ∗ (x3H c I ((i 0).val % 2) (i 0).val ∗ Ow c) ∗ (xlHere c I (i 0).val ∗ xlN c I ((i 0).val + 1) ∗ rowA c I ((i 0).val + 1))
    ∗ x3N c I ((i 0).val + 1) ∗ xtF c I
    ∗ owns (c : Thread nD τ) arg2 fullShare I.W ∗ owns (c : Thread nD τ) arg3 fullShare I.wb)) ?_ ?_ ?_
  · intro h hm
    have h7 := (cond7 i).mp h
    have e1 : olA c I (i 0).val = olFly c I ((i 0).val - 2) := by rw [olA, if_pos ⟨h7, ht⟩]
    have e2 : outA c I (i 0).val = outS c I ((i 0).val - 2) (i 0).val := by rw [outA, if_pos ht]
    have e3 : (i 0).val % 2 = ((i 0).val - 2) % 2 := by omega
    have o29 : k0_off29 i = ![((i 0).val - 2) % 2, 0] := by rw [k0_off29_eq, e3]
    have o32 : k0_off32 i = ![((i 0).val - 2) % 2, 1] := by rw [k0_off32_eq, e3]
    have hb := ol_back c I ((i 0).val - 2) (i 0).val (by omega)
    rw [show (i 0).val - 2 + 1 = (i 0).val - 1 by omega, ← e3] at hb
    rw [← e3] at o29 o32
    rw [e1, e2, olFly, ← e3]
    iintro ⟨⟨H3, HW⟩, HA, HN, HT, ⟨⟨A0, A1⟩, HO⟩, H⟩
    iapply (step2 (o_recv (c := c) (I := I) (n := 2048) (sem_ol o29 _) rfl)) $$ A0 HW
    iintro %_ ⟨A0, Z0, HW⟩
    iapply (step2 (o_recv (c := c) (I := I) (n := 2048) (sem_ol o32 _) rfl)) $$ A1 HW
    iintro %_ ⟨A1, Z1, HW⟩
    ihave ⟨HO, HB⟩ := hb $$ [HO A0 Z0 A1 Z1]
    · isplitl [HO]
      · iexact HO
      isplitl [A0]
      · iexact A0
      isplitl [Z0]
      · iexact Z0
      isplitl [A1]
      · iexact A1
      · iexact Z1
    iapply hm
    iframe
  · intro h
    have h7 : ¬ 2 ≤ (i 0).val := fun e => h ((cond7 i).mpr e)
    have e1 : olA c I (i 0).val = olIdle c ((i 0).val % 2) := by rw [olA, if_neg (by omega)]
    have e2 : outA c I (i 0).val = outS c I ((i 0).val - 1) (i 0).val := by
      rw [outA, if_pos ht, show (i 0).val - 2 = (i 0).val - 1 by omega]
    rw [e1, e2]
    iintro ⟨⟨H3, HW⟩, HA, HN, HT, ⟨A0, HO⟩, H⟩
    iframe
  -- the gate weights and bias
  iintro ⟨⟨HO, HS⟩, ⟨H3, HW⟩, ⟨HA, HA1, HA2⟩, HN, HT, HV, HB⟩
  iapply (step (load_full (c := c) (m := arg2))) $$ HV
  iintro %x ⟨%hx, HV⟩
  iapply (step (load_full (c := c) (m := arg3))) $$ HB
  iintro %y ⟨%hy, HB⟩
  subst hx hy
  iapply (done .rfl)
  dsimp only
  isplitr
  · ipureintro; rfl
  iframe

end Cert.KernelIdeal.Hand
-- ==== Proof.Run6.lean ====
/-
  The second and third parts of the body at a point: the windows read, and what is computed of them.
-/
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable {c : Dev nD} {I : Ins F} (i : grid0.Coords) (arg2 : Memref sig .tc .vmem S256x512 .f32) (harg2 : arg2.IsWhole) (arg3 : Memref sig .tc .vmem S1x512 .f32) (harg3 : arg3.IsWhole)
  (arg4 : Memref sig .tc .vmem S256x256 .f32) (harg4 : arg4.IsWhole) (arg5 : Memref sig .tc .vmem S256x256 .f32) (harg5 : arg5.IsWhole)

theorem run_part6 (v0 : BitVec 32) :
    iprop(xlHere c I (i 0).val ∗ x3H c I ((i 0).val % 2) (i 0).val ∗ owns (c : Thread nD τ) arg4 fullShare I.Uf ∗ owns (c : Thread nD τ) arg5 fullShare I.Uh)
      ⊢ WP c (k0_part6 (F := F) i bX (Memref.isWhole_whole _) arg2 harg2 arg3 harg3 arg4 harg4 arg5 harg5 bO (Memref.isWhole_whole _) bXL (Memref.isWhole_whole _) bX3 (Memref.isWhole_whole _) bOL (Memref.isWhole_whole _) bH3 (Memref.isWhole_whole _) bHW (Memref.isWhole_whole _) bXT (Memref.isWhole_whole _) bOT (Memref.isWhole_whole _) cc0_scratch7 cc0_scratch8 cc0_scratch9 cc0_scratch10 cc0_scratch11 cc0_scratch12 v0 I.W (bias I))
        (fun r => iprop(⌜r = ⟨k0_pay15 (A7 I (i 0).val), I.Uf, I.Uh, k0_pay16 I.W (bias I) (A8 I (i 0).val), k0_pay17 I.W (bias I) (A8 I (i 0).val), leafA I (i 0).val,
            k0_pay21 I.W (bias I) (A7 I (i 0).val) I.Uf, k0_pay22 I.W (bias I) (A7 I (i 0).val) I.Uf (A8 I (i 0).val)⟩⌝
          ∗ xlFull c I (i 0).val ∗ x3H c I ((i 0).val % 2) (i 0).val ∗ owns (c : Thread nD τ) arg4 fullShare I.Uf ∗ owns (c : Thread nD τ) arg5 fullShare I.Uh)) := by
  have ht := lt16 i
  rw [k0_part6_eq_skeleton]
  unfold k0_part6_skel
  dsimp only
  refine fork (mid := iprop(xlFull c I (i 0).val ∗ x3H c I ((i 0).val % 2) (i 0).val ∗ owns (c : Thread nD τ) arg4 fullShare I.Uf ∗ owns (c : Thread nD τ) arg5 fullShare I.Uh)) ?_ ?_ ?_
  · intro h hm
    have h0 := (cond8 i).mp h
    have e1 : xlHere c I (i 0).val = iprop(kit c I 1 ∗ xlAt c 1 0 4097 (XL I 15) ∗ ∃ f : Vec F S2x4112x256 .f32, xlAt c 1 4097 4112 f) := by rw [h0]; rfl
    have e2 : xlFull c I (i 0).val = iprop(kit c I 1 ∗ xlAt c 1 0 4112 (XL I 15)) := by rw [h0]; rfl
    have o35 : k0_off35 i = ![1, 4097, 0] := by rw [k0_off35_eq, h0]
    rw [e1]
    iintro ⟨⟨HK, HA, %f, HB⟩, H⟩
    iapply (step (load_pad (c := c) o35)) $$ HB
    iintro %_ HB
    iapply (step (store_pad (c := c) (I := I) o35)) $$ HB
    iintro %_ HB
    iapply hm
    rw [e2]
    iframe
    iapply (xl_paste c 4097 (by omega) (by omega))
    iframe
  · intro h
    have h0 : (i 0).val < 15 := Nat.lt_of_le_of_ne (Nat.le_of_lt_succ ht) fun e => h ((cond8 i).mpr e)
    have e1 : xlHere c I (i 0).val = xlFull c I (i 0).val := by rw [xlHere, if_pos h0]; rfl
    rw [e1]
  unfold xlFull x3H
  iintro ⟨⟨HK, HA⟩, ⟨HZ, HB, HX⟩, HU, HV⟩
  iapply (step (load_xl (c := c) (I := I) (k0_off36_eq i))) $$ HA
  iintro %x ⟨%hx, HA⟩
  iapply (step (load_full (c := c) (m := arg4))) $$ HU
  iintro %y ⟨%hy, HU⟩
  iapply (step (load_full (c := c) (m := arg5))) $$ HV
  iintro %z ⟨%hz, HV⟩
  iapply (step (load_x3 (c := c) (I := I) (k0_off37_eq i))) $$ HB
  iintro %w ⟨%hw, HB⟩
  subst hx hy hz hw
  iapply (done .rfl)
  dsimp only
  isplitr
  · ipureintro; rfl
  iframe

theorem run_part7 (b : ℕ) {P : sProp 𝕄} :
    P ⊢ WP c (k0_part7 (F := F) i bX (Memref.isWhole_whole _) arg2 harg2 arg3 harg3 arg4 harg4 arg5 harg5 bO (Memref.isWhole_whole _) bXL (Memref.isWhole_whole _) bX3 (Memref.isWhole_whole _) bOL (Memref.isWhole_whole _) bH3 (Memref.isWhole_whole _) bHW (Memref.isWhole_whole _) bXT (Memref.isWhole_whole _) bOT (Memref.isWhole_whole _) cc0_scratch7 cc0_scratch8 cc0_scratch9 cc0_scratch10 cc0_scratch11 cc0_scratch12 I.W (bias I) (k0_pay15 (A7 I b)) I.Uf I.Uh (k0_pay16 I.W (bias I) (A8 I b)) (k0_pay17 I.W (bias I) (A8 I b))
          (k0_pay21 I.W (bias I) (A7 I b) I.Uf) (k0_pay22 I.W (bias I) (A7 I b) I.Uf (A8 I b)))
        (fun r => iprop(⌜r = ⟨k0_pay23 I.Uh (k0_pay17 I.W (bias I) (A8 I b)) (k0_pay21 I.W (bias I) (A7 I b) I.Uf) (k0_pay22 I.W (bias I) (A7 I b) I.Uf (A8 I b)),
            k0_pay24 (k0_pay16 I.W (bias I) (A8 I b)), leafB I b, k0_pay28 I.W (bias I) (k0_pay15 (A7 I b)) I.Uf,
            k0_pay29 I.W (bias I) (k0_pay15 (A7 I b)) I.Uf (k0_pay16 I.W (bias I) (A8 I b)), Scalar.ofBits .f32 0xC0E00000#32⟩⌝ ∗ P)) := by
  rw [k0_part7_eq_skeleton]
  unfold k0_part7_skel
  iintro H
  iapply (done .rfl)
  isplitr
  · ipureintro; rfl
  iexact H

end Cert.KernelIdeal.Hand
-- ==== Proof.Run8.lean ====
/-
  The fourth part of the body at a point: the block's results stored, and its leaf rows sent on their way.
-/
module

public import proofs.«01_k».proof.Proof.Slots

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable {c : Dev nD} {I : Ins F} (i : grid0.Coords) (arg2 : Memref sig .tc .vmem S256x512 .f32) (harg2 : arg2.IsWhole) (arg3 : Memref sig .tc .vmem S1x512 .f32) (harg3 : arg3.IsWhole)
  (arg4 : Memref sig .tc .vmem S256x256 .f32) (harg4 : arg4.IsWhole) (arg5 : Memref sig .tc .vmem S256x256 .f32) (harg5 : arg5.IsWhole)

theorem cond11 : ∀ i : grid0.Coords, Scalar.cmpi .ne (Scalar.extui (Scalar.cmpi .eq (BitVec.ofNat 32 (i 0).val) 15#32) : BitVec 32) 0#32 = 1#1 ↔ (i 0).val = 15 := by
  decide +kernel

theorem H3_lo (b : ℕ) (i : Fin 128) (j : Fin 256) (h : 256 * b + i.val < 4096) : h3A I b (ix2 i j) = H3 I (ix2 ⟨256 * b + i.val, h⟩ j) := by
  have h1 : (256 * b + i.val) % 256 < 128 := by omega
  refine Eq.trans ?_ (dif_pos h1).symm
  have e1 : (256 * b + i.val) / 256 = b := by omega
  have e2 : (256 * b + i.val) % 256 = i.val := by omega
  show _ = h3A I ((256 * b + i.val) / 256) (ix2 ⟨(256 * b + i.val) % 256, h1⟩ j)
  rw [e1]
  exact congrArg (fun x : Fin 128 => h3A I b (ix2 x j)) (Fin.ext e2.symm)

theorem H3_hi (b : ℕ) (i : Fin 128) (j : Fin 256) (h : 256 * b + 128 + i.val < 4096) : h3B I b (ix2 i j) = H3 I (ix2 ⟨256 * b + 128 + i.val, h⟩ j) := by
  have h1 : ¬ (256 * b + 128 + i.val) % 256 < 128 := by omega
  refine Eq.trans ?_ (dif_neg h1).symm
  have e1 : (256 * b + 128 + i.val) / 256 = b := by omega
  have e2 : (256 * b + 128 + i.val) % 256 - 128 = i.val := by omega
  show _ = h3B I ((256 * b + 128 + i.val) / 256) (ix2 ⟨(256 * b + 128 + i.val) % 256 - 128, _⟩ j)
  rw [e1]
  exact congrArg (fun x : Fin 128 => h3B I b (ix2 x j)) (Fin.ext e2.symm)

theorem H3W_hi (i : Fin 7) (j : Fin 256) (h : 4089 + i.val < 4096) : k0_pay34 (leafA I 0) (ix2 i j) = H3W I (ix2 ⟨4089 + i.val, h⟩ j) := by
  have h1 : ¬ 4089 + i.val < 4089 := by omega
  refine Eq.trans ?_ (dif_neg h1).symm
  exact congrArg (fun x : Fin 7 => k0_pay34 (leafA I 0) (ix2 x j)) (Fin.ext (by show i.val = 4089 + i.val - 4089; omega))

/-- The block's leaf rows after its point: leaving, but for the last block's, which the last part sends. -/
def olAfter (c : Dev nD) (I : Ins F) (t : ℕ) : sProp 𝕄 :=
  if t < 15 then iprop(olFly c I t ∗ outS c I (t - 1) (t + 1)) else iprop(olFull c I t ∗ outS c I (t - 1) t)

set_option maxHeartbeats 1000000 in
theorem run_part8 (v0 : BitVec 32) :
    iprop((olIdle c ((i 0).val % 2) ∗ outS c I ((i 0).val - 1) (i 0).val) ∗ h3To c I (256 * (i 0).val) ∗ hwA c I (i 0).val)
      ⊢ WP c (k0_part8 (F := F) i bX (Memref.isWhole_whole _) arg2 harg2 arg3 harg3 arg4 harg4 arg5 harg5 bO (Memref.isWhole_whole _) bXL (Memref.isWhole_whole _) bX3 (Memref.isWhole_whole _) bOL (Memref.isWhole_whole _) bH3 (Memref.isWhole_whole _) bHW (Memref.isWhole_whole _) bXT (Memref.isWhole_whole _) bOT (Memref.isWhole_whole _) cc0_scratch7 cc0_scratch8 cc0_scratch9 cc0_scratch10 cc0_scratch11 cc0_scratch12 (BitVec.ofNat 32 (i 0).val) v0 I.Uh (leafA I (i 0).val)
          (k0_pay23 I.Uh (k0_pay17 I.W (bias I) (A8 I (i 0).val)) (k0_pay21 I.W (bias I) (A7 I (i 0).val) I.Uf) (k0_pay22 I.W (bias I) (A7 I (i 0).val) I.Uf (A8 I (i 0).val)))
          (k0_pay24 (k0_pay16 I.W (bias I) (A8 I (i 0).val))) (leafB I (i 0).val) (k0_pay28 I.W (bias I) (k0_pay15 (A7 I (i 0).val)) I.Uf)
          (k0_pay29 I.W (bias I) (k0_pay15 (A7 I (i 0).val)) I.Uf (k0_pay16 I.W (bias I) (A8 I (i 0).val))) (Scalar.ofBits .f32 0xC0E00000#32))
        (fun r => iprop(⌜r = Scalar.cmpi .ne (Scalar.extui (Scalar.cmpi .eq (BitVec.ofNat 32 (i 0).val) 15#32) : BitVec 32) 0#32⌝
          ∗ olAfter c I (i 0).val ∗ h3To c I (256 * ((i 0).val + 1)) ∗ hwA c I ((i 0).val + 1))) := by
  have ht := lt16 i
  rw [k0_part8_eq_skeleton]
  unfold k0_part8_skel
  dsimp only
  have hmid : iprop((olIdle c ((i 0).val % 2) ∗ outS c I ((i 0).val - 1) (i 0).val) ∗ h3To c I (256 * (i 0).val) ∗ hwA c I (i 0).val) ⊢
      iprop((olIdle c ((i 0).val % 2) ∗ h3To c I (256 * (i 0).val)) ∗ outS c I ((i 0).val - 1) (i 0).val ∗ hwA c I (i 0).val) := by
    iintro ⟨⟨H1, H2⟩, H3, H4⟩
    iframe
  refine hmid.trans ?_
  unfold olIdle h3To
  iintro ⟨⟨⟨Z0, Z1, %f, HA⟩, %g, %hg, HH⟩, HR⟩
  ihave ⟨A0, A1⟩ := (ol_cut c (0 + 2048) (by omega) (by omega)) $$ HA
  iapply (step (load_ol (c := c) (s := (i 0).val % 2) (a := 0) (k0_off38_eq i))) $$ A0
  iintro %_ A0
  iapply (step (store_ol0 (c := c) (I := I) (b := (i 0).val) (k0_off38_eq i))) $$ A0
  iintro %_ A0
  iapply (step (load_ol (c := c) (s := (i 0).val % 2) (a := 2048) (k0_off39_eq i))) $$ A1
  iintro %_ A1
  iapply (step (store_ol1 (c := c) (I := I) (b := (i 0).val) (k0_off39_eq i))) $$ A1
  iintro %_ A1
  iapply (step (load_own (c := c) (m := bH3))) $$ HH
  iintro %_ ⟨-, HH⟩
  iapply (step (store_rows (c := c) (m := bH3) (n := 4096) (k := 128) (a := 256 * (i 0).val) (H3 I) (k0_off40_eq i) (fun x j h => H3_lo (i 0).val x j h))) $$ HH
  iintro %_ HH
  iapply (step (load_own (c := c) (m := bH3))) $$ HH
  iintro %_ ⟨-, HH⟩
  iapply (step (store_rows (c := c) (m := bH3) (n := 4096) (k := 128) (a := 256 * (i 0).val + 128) (H3 I) (k0_off41_eq i) (fun x j h => H3_hi (i 0).val x j h))) $$ HH
  iintro %_ HH
  ihave HA := (show iprop(Z c (semOL ((i 0).val % 2) 0) ∗ Z c (semOL ((i 0).val % 2) 1) ∗ olAt c ((i 0).val % 2) 0 (0 + 2048) (OL I (i 0).val) ∗ olAt c ((i 0).val % 2) 2048 (2048 + 2048) (OL I (i 0).val))
      ⊢ olFull c I (i 0).val from by
    unfold olFull
    iintro ⟨H1, H2, H3, H4⟩
    iframe
    iapply (ol_paste c (a := 0) (b := 4096) 2048 (by omega) (by omega))
    isplitl [H3]
    · iexact H3
    · iexact H4) $$ [Z0 Z1 A0 A1]
  · iframe
  ihave HH := (show _ ⊢ h3To c I (256 * ((i 0).val + 1)) from by
    unfold h3To
    iintro H
    iexists _
    isplitr
    rotate_left
    · iexact H
    · ipureintro
      intro x hx
      unfold patch
      split_ifs with h1 h2
      · rfl
      · rfl
      · exact hg x (by omega)) $$ HH
  iapply (show iprop(olFull c I (i 0).val ∗ h3To c I (256 * ((i 0).val + 1)) ∗ outS c I ((i 0).val - 1) (i 0).val ∗ hwA c I (i 0).val) ⊢ _ from ?_) $$ [HA HH HR]
  rotate_left
  · iframe
  refine fork (mid := iprop(olFull c I (i 0).val ∗ h3To c I (256 * ((i 0).val + 1)) ∗ outS c I ((i 0).val - 1) (i 0).val ∗ hwA c I ((i 0).val + 1))) ?_ ?_ ?_
  · intro h hm
    have h0 := (cond1 i).mp h
    unfold hwA
    iintro ⟨HA, HH, HO, %d, %hd, HW⟩
    iapply (step (load_own (c := c) (m := bHW))) $$ HW
    iintro %_ ⟨-, HW⟩
    iapply (step (store_rows (c := c) (m := bHW) (n := 4096) (k := 7) (a := 4089) (H3W I) rfl (fun x j h => by rw [h0]; exact H3W_hi x j h))) $$ HW
    iintro %_ HW
    iapply hm
    iframe
    unfold hwA
    iexists _
    isplitr
    rotate_left
    · iexact HW
    · ipureintro
      intro _ x hx
      exact if_pos ⟨hx, (x 0).isLt⟩
  · intro h
    have h0 : 1 ≤ (i 0).val := Nat.one_le_iff_ne_zero.mpr fun e => h ((cond1 i).mpr e)
    unfold hwA
    iintro ⟨HA, HH, HO, %d, %hd, HW⟩
    iframe
    iexists d
    isplitr
    · ipureintro
      exact fun _ => hd h0
    · iexact HW
  refine fork (mid := iprop(olAfter c I (i 0).val ∗ h3To c I (256 * ((i 0).val + 1)) ∗ hwA c I ((i 0).val + 1))) ?_ ?_ ?_
  · intro h hm
    have h0 := (cond10 i).mp h
    have hl := ol_lend c I ((i 0).val - 1) (i 0).val (by omega)
    unfold olFull
    iintro ⟨⟨Z0, Z1, HA⟩, HH, HO, HW⟩
    ihave ⟨%v, HO, ⟨A0, B0⟩, A1, B1⟩ := hl $$ [HA HO]
    · iframe
    iapply (step (o_send (c := c) (I := I) (n := 2048) (a := 0) (b := (i 0).val) (f := v) (sem_ol (k0_off42_eq i) _) (k0_off44_eq i) (k0_off43_eq i) (by decide) (by omega))) $$ [A0 B0 Z0]
    · iframe
    iintro %_ A0
    iapply (step (o_send (c := c) (I := I) (n := 2048) (a := 2048) (b := (i 0).val) (f := v) (sem_ol (k0_off45_eq i) _) (k0_off47_eq i) (k0_off46_eq i) (by decide) (by omega))) $$ [A1 B1 Z1]
    · iframe
    iintro %_ A1
    iapply hm
    rw [olAfter, if_pos h0]
    unfold olFly
    iframe
  · intro h
    have h0 : ¬ (i 0).val < 15 := fun e => h ((cond10 i).mpr e)
    rw [olAfter, if_neg h0]
    iintro ⟨HA, HH, HO, HW⟩
    iframe
  iintro H
  iapply (done .rfl)
  isplitr
  · ipureintro; rfl
  iexact H

end Cert.KernelIdeal.Hand
-- ==== Proof.Body.lean ====
/-
  The whole body at one grid point.
-/
module

public import proofs.«01_k».proof.Proof.Run1
public import proofs.«01_k».proof.Proof.Run5
public import proofs.«01_k».proof.Proof.Run6
public import proofs.«01_k».proof.Proof.Run8

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable {c : Dev nD} {I : Ins F} (i : grid0.Coords) (arg2 : Memref sig .tc .vmem S256x512 .f32) (harg2 : arg2.IsWhole) (arg3 : Memref sig .tc .vmem S1x512 .f32) (harg3 : arg3.IsWhole)
  (arg4 : Memref sig .tc .vmem S256x256 .f32) (harg4 : arg4.IsWhole) (arg5 : Memref sig .tc .vmem S256x256 .f32) (harg5 : arg5.IsWhole)

/-- What the body still owes after the block's own work, and has done after the last point's extra work. -/
def late (c : Dev nD) (I : Ins F) (t : ℕ) : sProp 𝕄 :=
  iprop((olAfter c I t ∗ olB c I t) ∗ h3To c I (256 * (t + 1)) ∗ hwA c I (t + 1) ∗ otA c ∗ topZ c ∗ xtF c I)
def early (c : Dev nD) (I : Ins F) (t : ℕ) : sProp 𝕄 :=
  iprop((olA c I t ∗ olB c I t ∗ outA c I t) ∗ h3To c I (256 * t) ∗ hwA c I t ∗ otA c ∗ topZ c ∗ xtA c I t)

/-- Before the last point nothing more is to be done. -/
theorem late_early (t : ℕ) (h : t < 15) : late c I t ⊢ early c I (t + 1) := by
  unfold late early
  have e1 : olAfter c I t = iprop(olFly c I t ∗ outS c I (t - 1) (t + 1)) := if_pos h
  have e2 : olB c I (t + 1) = olFly c I t := if_pos ⟨by omega, by omega⟩
  have e3 : outA c I (t + 1) = outS c I (t - 1) (t + 1) := by
    unfold outA
    rw [if_pos (by omega), show t + 1 - 2 = t - 1 by omega]
  have e4 : xtA c I (t + 1) = xtF c I := if_pos ⟨by omega, by omega⟩
  have e5 : olA c I (t + 1) = olB c I t := by
    unfold olA olB
    by_cases h0 : 1 ≤ t
    · rw [if_pos ⟨by omega, by omega⟩, if_pos ⟨by omega, by omega⟩, show t + 1 - 2 = t - 1 by omega]
    · rw [if_neg (by omega), if_neg (by omega)]
  rw [e1, e2, e3, e4, e5]
  iintro ⟨⟨⟨HA, HO⟩, HB⟩, H⟩
  iframe

theorem h3_all {f : Vec F S4096x256 .f32} (h : ∀ i : S4096x256.Idx, (i 0).val < 256 * (15 + 1) → f i = H3 I i) : f = H3 I :=
  funext fun i => h i (Nat.lt_of_lt_of_le (i 0).isLt (by decide))

/-- The result's pieces together. -/
theorem o_all : iprop(oAt c 0 280 (G I) ∗ oAt c 280 4376 (G I) ∗ oAt c 4376 (4376 + 4096 * 15) (G I) ∗ oAt c (4376 + 4096 * 15 + 0) (4376 + 4096 * 15 + 0 + 4088) (G I)
    ∗ oAt c (4376 + 4096 * 15 + 4088) (4376 + 4096 * 15 + 4088 + 1) (G I)) ⊢ oAt c 0 69905 (G I) := by
  iintro ⟨A, B, C, D, E⟩
  have p1 : iprop(oAt c (4376 + 4096 * 15 + 0) (4376 + 4096 * 15 + 0 + 4088) (G I) ∗ oAt c (4376 + 4096 * 15 + 4088) (4376 + 4096 * 15 + 4088 + 1) (G I)) ⊢ oAt c 65816 69905 (G I) :=
    o_paste c 69904 (by omega) (by omega)
  have p2 : iprop(oAt c 4376 (4376 + 4096 * 15) (G I) ∗ oAt c 65816 69905 (G I)) ⊢ oAt c 4376 69905 (G I) :=
    o_paste c 65816 (by omega) (by omega)
  have p3 : iprop(oAt c 280 4376 (G I) ∗ oAt c 4376 69905 (G I)) ⊢ oAt c 280 69905 (G I) := o_paste c 4376 (by omega) (by omega)
  have p4 : iprop(oAt c 0 280 (G I) ∗ oAt c 280 69905 (G I)) ⊢ oAt c 0 69905 (G I) := o_paste c 280 (by omega) (by omega)
  iapply p4
  isplitl [A]
  · iexact A
  iapply p3
  isplitl [B]
  · iexact B
  iapply p2
  isplitl [C]
  · iexact C
  iapply p1
  isplitl [D]
  · iexact D
  · iexact E

/-- A slot of the leaf results, its pieces together. -/
theorem ol_all : iprop(olAt c 1 0 (0 + 4088) (OL I 15) ∗ olAt c 1 4088 (4088 + 1) (OL I 15) ∗ olAt c 1 4089 4096 (OL I 15)) ⊢ olAt c 1 0 4096 (OL I 15) := by
  have p1 : iprop(olAt c 1 4088 (4088 + 1) (OL I 15) ∗ olAt c 1 4089 4096 (OL I 15)) ⊢ olAt c 1 4088 4096 (OL I 15) := ol_paste c 4089 (by omega) (by omega)
  have p2 : iprop(olAt c 1 0 (0 + 4088) (OL I 15) ∗ olAt c 1 4088 4096 (OL I 15)) ⊢ olAt c 1 0 4096 (OL I 15) := ol_paste c 4088 (by omega) (by omega)
  iintro ⟨A, B⟩
  iapply p2
  isplitl [A]
  · iexact A
  iapply p1
  iexact B

set_option maxHeartbeats 2000000 in
/-- The body at point `t`: what it holds at the start of the point becomes what it holds at the start of the next. -/
theorem run_body :
    iprop(inv c I (i 0).val ∗ Ow c ∗ owns (c : Thread nD τ) arg2 fullShare I.W ∗ owns (c : Thread nD τ) arg3 fullShare I.wb
        ∗ owns (c : Thread nD τ) arg4 fullShare I.Uf ∗ owns (c : Thread nD τ) arg5 fullShare I.Uh)
      ⊢ WP c (cc0__kern (F := F) i bX (Memref.isWhole_whole _) arg2 harg2 arg3 harg3 arg4 harg4 arg5 harg5 bO (Memref.isWhole_whole _) bXL (Memref.isWhole_whole _) bX3 (Memref.isWhole_whole _) bOL (Memref.isWhole_whole _) bH3 (Memref.isWhole_whole _) bHW (Memref.isWhole_whole _) bXT (Memref.isWhole_whole _) bOT (Memref.isWhole_whole _) cc0_scratch7 cc0_scratch8 cc0_scratch9 cc0_scratch10 cc0_scratch11 cc0_scratch12)
        (fun _ => iprop(inv c I ((i 0).val + 1) ∗ Ow c ∗ owns (c : Thread nD τ) arg2 fullShare I.W ∗ owns (c : Thread nD τ) arg3 fullShare I.wb
          ∗ owns (c : Thread nD τ) arg4 fullShare I.Uf ∗ owns (c : Thread nD τ) arg5 fullShare I.Uh)) := by
  have ht := lt16 i
  rw [cc0__kern_eq_skeleton]
  unfold cc0__kern_skel
  dsimp only
  unfold inv
  iintro ⟨⟨HA, HOB, HH, HG, HT, HZ⟩, HW, H2, H3, H4, H5⟩
  iapply (step (run_part5 (c := c) (I := I) i arg2 harg2 arg3 harg3 arg4 harg4 arg5 harg5)) $$ [HA HW H2 H3]
  · iframe
  iintro %r ⟨%hr, ⟨HX, HXN, HR, HC, HCN, HXT, HL, HO⟩, HW, H2, H3⟩
  subst hr
  dsimp only
  iapply (step (run_part6 (c := c) (I := I) i arg2 harg2 arg3 harg3 arg4 harg4 arg5 harg5 _)) $$ [HX HC H4 H5]
  · iframe
  iintro %r ⟨%hr, HX, HC, H4, H5⟩
  subst hr
  dsimp only
  iapply (step (run_part7 (c := c) (I := I) i arg2 harg2 arg3 harg3 arg4 harg4 arg5 harg5 (i 0).val)) $$ HW
  iintro %r ⟨%hr, HW⟩
  subst hr
  dsimp only
  iapply (step (run_part8 (c := c) (I := I) i arg2 harg2 arg3 harg3 arg4 harg4 arg5 harg5 _)) $$ [HL HO HH HG]
  · iframe
  iintro %r ⟨%hr, HL, HH, HG⟩
  subst hr
  dsimp only
  iapply (show iprop(late c I (i 0).val ∗ Ow c ∗ owns (c : Thread nD τ) arg4 fullShare I.Uf ∗ owns (c : Thread nD τ) arg5 fullShare I.Uh
      ∗ xlFull c I (i 0).val ∗ xlN c I ((i 0).val + 1) ∗ rowA c I ((i 0).val + 1) ∗ x3H c I ((i 0).val % 2) (i 0).val ∗ x3N c I ((i 0).val + 1)
      ∗ owns (c : Thread nD τ) arg2 fullShare I.W ∗ owns (c : Thread nD τ) arg3 fullShare I.wb) ⊢ _ from ?_) $$ [HX HXN HR HC HCN HXT HL HOB HH HG HT HZ HW H2 H3 H4 H5]
  rotate_left
  · unfold late
    iframe
  refine fork (mid := iprop(early c I ((i 0).val + 1) ∗ Ow c ∗ owns (c : Thread nD τ) arg4 fullShare I.Uf ∗ owns (c : Thread nD τ) arg5 fullShare I.Uh
      ∗ xlFull c I (i 0).val ∗ xlN c I ((i 0).val + 1) ∗ rowA c I ((i 0).val + 1) ∗ x3H c I ((i 0).val % 2) (i 0).val ∗ x3N c I ((i 0).val + 1)
      ∗ owns (c : Thread nD τ) arg2 fullShare I.W ∗ owns (c : Thread nD τ) arg3 fullShare I.wb)) ?_ ?_ ?_
  · intro h hm
    have h0 := (cond11 i).mp h
    have e1 : olAfter c I (i 0).val = iprop(olFull c I 15 ∗ outS c I 14 15) := by rw [h0]; rfl
    have e2 : olB c I (i 0).val = olFly c I 14 := by rw [h0]; rfl
    have e3 : h3To c I (256 * ((i 0).val + 1)) = h3To c I (256 * (15 + 1)) := by rw [h0]
    have e4 : hwA c I ((i 0).val + 1) = hwA c I 16 := by rw [h0]
    have e5 : early c I ((i 0).val + 1) = iprop((olIdle c 0 ∗ olIdle c 1 ∗ oAt c 0 69905 (G I)) ∗ h3To c I (256 * (15 + 1)) ∗ hwA c I 16 ∗ otA c ∗ topZ c ∗ xtI c I) := by rw [h0]; rfl
    rw [e5] at hm
    have el : late c I (i 0).val = iprop(((olFull c I 15 ∗ outS c I 14 15) ∗ olFly c I 14) ∗ h3To c I (256 * (15 + 1)) ∗ hwA c I 16 ∗ otA c ∗ topZ c ∗ xtF c I) := by
      unfold late
      rw [e1, e2, e3, e4]
    rw [el]
    unfold olFull outS h3To topZ
    iintro ⟨⟨⟨⟨⟨Y0, Y1, HL⟩, %v, V0, V1, V2⟩, HF⟩, ⟨%f, %hf, HH⟩, HG, HT, ⟨Z0, Z1, Z2, Z3⟩, HXT⟩, HW, H4, H5, HR⟩
    have hf' := h3_all hf
    subst hf'
    iapply (step (run_part1 (c := c) (I := I) i arg2 harg2 arg3 harg3 arg4 harg4 arg5 harg5)) $$ [H4 H5 HXT HW HH]
    · iframe
    iintro %r ⟨%hr, H4, H5, HXT, HW, HH⟩
    subst hr
    dsimp only
    iapply (step (run_part2 (c := c) (I := I) i arg2 harg2 arg3 harg3 arg4 harg4 arg5 harg5)) $$ HW
    iintro %r ⟨%hr, HW⟩
    subst hr
    dsimp only
    iapply (step (run_part3 (c := c) (I := I) (v := v) i arg2 harg2 arg3 harg3 arg4 harg4 arg5 harg5)) $$ [HT HH HG V0 Z0 Z1]
    · iframe
    iintro %_ ⟨HT, HG, HH⟩
    iapply (step (run_part4 (c := c) (I := I) (v := v) i arg2 harg2 arg3 harg3 arg4 harg4 arg5 harg5)) $$ [HT HG HF V1 V2 HL Z2 Z3 HW]
    · iframe
    iintro %_ ⟨⟨S0, S1⟩, HL, ⟨O0, HT⟩, Z0, ⟨O1, HG⟩, Z1, O2, HI, HW⟩
    iapply (step2 (o_recv (c := c) (I := I) (n := 4088) (s := 1) (a := 0) (b := 15) (sem_top rfl _) rfl)) $$ S0 HW
    iintro %_ ⟨⟨O3, L0⟩, Z2, HW⟩
    iapply (step2 (o_recv (c := c) (I := I) (n := 1) (s := 1) (a := 4088) (b := 15) (sem_top rfl _) rfl)) $$ S1 HW
    iintro %_ ⟨⟨O4, L1⟩, Z3, HW⟩
    ihave HO := (o_all (c := c) (I := I)) $$ [O0 O1 O2 O3 O4]
    · isplitl [O0]
      · iexact O0
      isplitl [O1]
      · iexact O1
      isplitl [O2]
      · iexact O2
      isplitl [O3]
      · iexact O3
      · iexact O4
    ihave HL := (ol_all (c := c) (I := I)) $$ [L0 L1 HL]
    · isplitl [L0]
      · iexact L0
      isplitl [L1]
      · iexact L1
      · iexact HL
    iapply hm
    isplitr [HW H4 H5 HR]
    rotate_left
    · iframe
    isplitl [HI Y0 Y1 HL HO]
    · isplitl [HI]
      · iexact HI
      isplitr [HO]
      · unfold olIdle
        isplitl [Y0]
        · iexact Y0
        isplitl [Y1]
        · iexact Y1
        · iexists (OL I 15)
          iexact HL
      · iexact HO
    isplitl [HH]
    · unfold h3To
      iexists (H3 I)
      isplitr
      · ipureintro
        exact fun _ _ => rfl
      · iexact HH
    isplitl [HG]
    · unfold hwA
      iexists (H3W I)
      isplitr
      · ipureintro
        exact fun _ _ _ => rfl
      · iapply hw_own1 $$ HG
    isplitl [HT]
    · unfold otA
      iexists (OT I)
      iapply ot_own1 $$ HT
    isplitr [HXT]
    · unfold topZ
      iframe
    · iexact HXT
  · intro h
    have h0 : (i 0).val < 15 := by
      have h1 : ¬ (i 0).val = 15 := fun e => h ((cond11 i).mpr e)
      omega
    have hl := late_early (c := c) (I := I) (i 0).val h0
    iintro ⟨HL, H⟩
    isplitl [HL]
    · iapply hl $$ HL
    · iexact H
  have hx := xl_rest c I (i 0).val
  have hc := x3_rest c I ((i 0).val % 2) (i 0).val
  have e1 : xlA c I ((i 0).val + 1) = xlN c I ((i 0).val + 1) := if_pos (by omega)
  have e2 : x3A c I ((i 0).val + 1) = x3N c I ((i 0).val + 1) := if_pos (by omega)
  have e3 : ((i 0).val + 1 + 1) % 2 = (i 0).val % 2 := by omega
  rw [e1, e2, e3]
  unfold early
  iintro ⟨⟨⟨HA, HB, HO⟩, HH, HG, HT, HZ, HXT⟩, HW, H4, H5, HX, HXN, HR, HC, HCN, H2, H3⟩
  ihave HX := hx $$ HX
  ihave HC := hc $$ HC
  iapply (done .rfl)
  iframe

end Cert.KernelIdeal.Hand
-- ==== Proof.Ends.lean ====
/-
  The two ends of the run: what the launch hands over makes the body's state before the first point, and its state after the last
  point gives everything back, the result written.
-/
module

public import proofs.«01_k».proof.Proof.State

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ (Pipeline.UD sig nD τ) ℕ

variable (c : Dev nD) (I : Ins F)

theorem x_whole {q : PosShare TreeShare} : (xAt c I q 0 69905 : sProp 𝕄) = (bX.view.loc (c : Thread nD τ) ↦{q} I.X) := by
  unfold xAt
  rw [rows_all]
theorem o_whole {v : Vec F S69905x256 .f32} : (oAt c 0 69905 v : sProp 𝕄) = (bO.view.loc (c : Thread nD τ) ↦{fullShare} v) := by
  unfold oAt
  rw [rows_all]

/-- The cells at zero. -/
def cells : sProp 𝕄 :=
  iprop(Z c (semXL 0 0) ∗ Z c (semXL 0 1) ∗ Z c (semXL 1 0) ∗ Z c (semXL 1 1) ∗ Z c semRow ∗ Z c (semX3 0) ∗ Z c (semX3 1) ∗ Z c semXT
    ∗ Z c (semOL 0 0) ∗ Z c (semOL 0 1) ∗ Z c (semOL 1 0) ∗ Z c (semOL 1 1) ∗ Z c (semTop 0) ∗ Z c (semTop 1) ∗ Z c (semTop 2) ∗ Z c (semTop 3))
/-- The buffers, whole, at some contents each. -/
def bufs : sProp 𝕄 :=
  iprop((∃ f : Vec F S2x4112x256 .f32, bXL.view.loc (c : Thread nD τ) ↦{fullShare} f) ∗ (∃ f : Vec F S2x264x256 .f32, bX3.view.loc (c : Thread nD τ) ↦{fullShare} f)
    ∗ (∃ f : Vec F S2x4096x256 .f32, bOL.view.loc (c : Thread nD τ) ↦{fullShare} f) ∗ (∃ f : Vec F S4096x256 .f32, bH3.view.loc (c : Thread nD τ) ↦{fullShare} f)
    ∗ (∃ f : Vec F S4096x256 .f32, bHW.view.loc (c : Thread nD τ) ↦{fullShare} f) ∗ (∃ f : Vec F S280x256 .f32, bXT.view.loc (c : Thread nD τ) ↦{fullShare} f)
    ∗ (∃ f : Vec F S280x256 .f32, bOT.view.loc (c : Thread nD τ) ↦{fullShare} f))
/-- What is left of the features after the eight shares are lent. -/
def xLeft : sProp 𝕄 := xAt c I (Transfers.shareDrop fullShare 8) 0 69905

theorem x_shares : (bX.view.loc (c : Thread nD τ) ↦{fullShare} I.X : sProp 𝕄) ⊣⊢ iprop(xLeft c I ∗ xAt c I (sh 0) 0 69905 ∗ xAt c I (sh 1) 0 69905 ∗ xAt c I (sh 2) 0 69905
    ∗ xAt c I (sh 3) 0 69905 ∗ xAt c I (sh 4) 0 69905 ∗ xAt c I (sh 5) 0 69905 ∗ xAt c I (sh 6) 0 69905 ∗ xAt c I (sh 7) 0 69905) := by
  have h := Transfers.pointsTo_toks_range (Ix := Unit) (Name := ℕ) (U := Pipeline.UD sig nD τ) (Lvl := ℕ) (ℓ := bX.view.loc (c : Thread nD τ)) (S := rows 69905 0 69905) (f := I.X) fullShare 8
  rw [bigSep_eq_bigSepL_of_eq [0, 1, 2, 3, 4, 5, 6, 7] (by decide) (by decide)] at h
  rw [← x_whole]
  exact h

/-- The two slots of a ring. -/
theorem xl_two {f : Vec F S2x4112x256 .f32} : (bXL.view.loc (c : Thread nD τ) ↦{fullShare} f : sProp 𝕄) ⊢ iprop(xlAt c 0 0 4112 f ∗ xlAt c 1 0 4112 f) :=
  part_split (ℓ := bXL.view.loc (c : Thread nD τ)) (slab_two (n := 4112)) (slab_two_off (n := 4112))
theorem xl_two' {f g : Vec F S2x4112x256 .f32} : iprop(xlAt c 0 0 4112 f ∗ xlAt c 1 0 4112 g) ⊢ iprop(∃ f : Vec F S2x4112x256 .f32, bXL.view.loc (c : Thread nD τ) ↦{fullShare} f) := by
  refine (part_merge (ℓ := bXL.view.loc (c : Thread nD τ)) (slab_two (n := 4112)) (slab_two_off (n := 4112))).trans ?_
  iintro ⟨%h, -, H⟩
  iexists h
  iexact H
theorem x3_two {f : Vec F S2x264x256 .f32} : (bX3.view.loc (c : Thread nD τ) ↦{fullShare} f : sProp 𝕄) ⊢ iprop(x3At c 0 0 264 f ∗ x3At c 1 0 264 f) :=
  part_split (ℓ := bX3.view.loc (c : Thread nD τ)) (slab_two (n := 264)) (slab_two_off (n := 264))
theorem x3_two' {f g : Vec F S2x264x256 .f32} : iprop(x3At c 0 0 264 f ∗ x3At c 1 0 264 g) ⊢ iprop(∃ f : Vec F S2x264x256 .f32, bX3.view.loc (c : Thread nD τ) ↦{fullShare} f) := by
  refine (part_merge (ℓ := bX3.view.loc (c : Thread nD τ)) (slab_two (n := 264)) (slab_two_off (n := 264))).trans ?_
  iintro ⟨%h, -, H⟩
  iexists h
  iexact H
theorem ol_two {f : Vec F S2x4096x256 .f32} : (bOL.view.loc (c : Thread nD τ) ↦{fullShare} f : sProp 𝕄) ⊢ iprop(olAt c 0 0 4096 f ∗ olAt c 1 0 4096 f) :=
  part_split (ℓ := bOL.view.loc (c : Thread nD τ)) (slab_two (n := 4096)) (slab_two_off (n := 4096))
theorem ol_two' {f g : Vec F S2x4096x256 .f32} : iprop(olAt c 0 0 4096 f ∗ olAt c 1 0 4096 g) ⊢ iprop(∃ f : Vec F S2x4096x256 .f32, bOL.view.loc (c : Thread nD τ) ↦{fullShare} f) := by
  refine (part_merge (ℓ := bOL.view.loc (c : Thread nD τ)) (slab_two (n := 4096)) (slab_two_off (n := 4096))).trans ?_
  iintro ⟨%h, -, H⟩
  iexists h
  iexact H

theorem whole_owns (b : Ref sig .tc) (f : Buf (Elt F) ((c : Thread nD τ).loc b)) :
    (((c : Thread nD τ).loc b) ↦{fullShare} f : sProp 𝕄) ⊢ owns (c : Thread nD τ) (Memref.whole b) fullShare f := (owns_whole _ _ _ _).ge
theorem owns_whole' (b : Ref sig .tc) (f : Buf (Elt F) ((c : Thread nD τ).loc b)) :
    owns (c : Thread nD τ) (Memref.whole b) fullShare f ⊢ (((c : Thread nD τ).loc b) ↦{fullShare} f : sProp 𝕄) := (owns_whole _ _ _ _).le

/-- The result, nothing written, as the first point finds it. -/
theorem o_start (v : Vec F S69905x256 .f32) : (bO.view.loc (c : Thread nD τ) ↦{fullShare} v : sProp 𝕄) ⊢ outS c I 0 0 := by
  unfold outS
  rw [← o_whole]
  iintro H
  ihave ⟨H0, H⟩ := (o_cut c (f := v) (a := 0) (b := 69905) 4376 (by omega) (by omega)) $$ H
  ihave ⟨H1, H2⟩ := (o_cut c (f := v) (a := 4376) (b := 69905) 4376 (by omega) (by omega)) $$ H
  iexists v
  isplitl [H0]
  · iexact H0
  isplitl [H1]
  · have e : oAt c 4376 4376 v ⊢ oAt c 4376 (4376 + 4096 * 0) (G I) :=
      (pointsTo_congr fun i hi => by rw [mem_rows] at hi; omega).le
    iapply e $$ H1
  · iexact H2

/-- The state before the first point. -/
theorem start (v : Vec F S69905x256 .f32) :
    iprop(bufs c ∗ cells c ∗ (bX.view.loc (c : Thread nD τ) ↦{fullShare} I.X) ∗ (bO.view.loc (c : Thread nD τ) ↦{fullShare} v)) ⊢ iprop(inv c I 0 ∗ xLeft c I) := by
  have e1 : xlA c I 0 = xlIdle c I 0 := rfl
  have e2 : rowA c I 0 = rowIdle c I := rfl
  have e3 : x3A c I 0 = x3I c I 0 := rfl
  have e4 : xtA c I 0 = xtI c I := rfl
  have e5 : olA c I 0 = olIdle c 0 := rfl
  have e6 : outA c I 0 = outS c I 0 0 := rfl
  have e7 : olB c I 0 = olIdle c 1 := rfl
  unfold inv
  rw [e1, e2, e3, e4, e5, e6, e7]
  have hx := (x_shares c I).1
  unfold bufs cells xlIdle rowIdle x3I xtI olIdle kit h3To hwA otA topZ
  iintro ⟨⟨⟨%f0, B0⟩, ⟨%f1, B1⟩, ⟨%f2, B2⟩, ⟨%f3, B3⟩, ⟨%f4, B4⟩, ⟨%f5, B5⟩, ⟨%f6, B6⟩⟩, ⟨Z0, Z1, Z2, Z3, Z4, Z5, Z6, Z7, Z8, Z9, Z10, Z11, Z12, Z13, Z14, Z15⟩, HX, HO⟩
  ihave ⟨XR, X0, X1, X2, X3, X4, X5, X6, X7⟩ := hx $$ HX
  ihave ⟨L0, L1⟩ := (xl_two c) $$ B0
  ihave ⟨M0, M1⟩ := (x3_two c) $$ B1
  ihave ⟨N0, N1⟩ := (ol_two c) $$ B2
  ihave HO := (o_start c I v) $$ HO
  isplitr [XR]
  rotate_left
  · iexact XR
  isplitl [Z0 X0 Z1 X1 L0 Z2 X2 Z3 X3 L1 Z4 X4 Z5 M0 X5 Z6 M1 X6 Z7 B5 X7 Z8 Z9 N0 HO]
  · isplitl [Z0 X0 Z1 X1 L0]
    · iframe
      iexists f0
      iexact L0
    isplitl [Z2 X2 Z3 X3 L1]
    · iframe
      iexists f0
      iexact L1
    isplitl [Z4 X4]
    · iframe
    isplitl [Z5 M0 X5]
    · iframe
      iexists f1
      iexact M0
    isplitl [Z6 M1 X6]
    · iframe
      iexists f1
      iexact M1
    isplitl [Z7 B5 X7]
    · iframe
      iexists f5
      iexact B5
    isplitl [Z8 Z9 N0]
    · iframe
      iexists f2
      iexact N0
    · iexact HO
  isplitl [Z10 Z11 N1]
  · iframe
    iexists f2
    iexact N1
  isplitl [B3]
  · iexists f3
    isplitr
    · ipureintro
      intro i hi
      omega
    · iapply (whole_owns c cc0_scratch3 f3) $$ B3
  isplitl [B4]
  · iexists f4
    isplitr
    · ipureintro
      intro h
      omega
    · iapply (whole_owns c cc0_scratch4 f4) $$ B4
  isplitl [B6]
  · iexists f6
    iapply (whole_owns c cc0_scratch6 f6) $$ B6
  · iframe

/-- The state after the last point. -/
theorem finish : iprop(inv c I 16 ∗ xLeft c I) ⊢ iprop(bufs c ∗ cells c ∗ (bX.view.loc (c : Thread nD τ) ↦{fullShare} I.X) ∗ (bO.view.loc (c : Thread nD τ) ↦{fullShare} G I)) := by
  have e1 : xlA c I 16 = xlIdle c I 0 := rfl
  have e2 : rowA c I 16 = rowIdle c I := rfl
  have e3 : x3A c I 16 = x3I c I 0 := rfl
  have e4 : xtA c I 16 = xtI c I := rfl
  have e5 : olA c I 16 = olIdle c 0 := rfl
  have e6 : outA c I 16 = oAt c 0 69905 (G I) := rfl
  have e7 : olB c I 16 = olIdle c 1 := rfl
  unfold inv
  rw [e1, e2, e3, e4, e5, e6, e7, o_whole]
  have hx := (x_shares c I).2
  unfold bufs cells xlIdle rowIdle x3I xtI olIdle kit h3To hwA otA topZ
  iintro ⟨⟨⟨⟨⟨Z0, X0, Z1, X1⟩, %f0, L0⟩, ⟨⟨Z2, X2, Z3, X3⟩, %g0, L1⟩, ⟨Z4, X4⟩, ⟨Z5, ⟨%f1, M0⟩, X5⟩, ⟨Z6, ⟨%g1, M1⟩, X6⟩, ⟨Z7, ⟨%f5, B5⟩, X7⟩, ⟨Z8, Z9, %f2, N0⟩, HO⟩,
    ⟨Z10, Z11, %g2, N1⟩, ⟨%f3, -, B3⟩, ⟨%f4, -, B4⟩, ⟨%f6, B6⟩, ⟨Z12, Z13, Z14, Z15⟩⟩, XR⟩
  ihave HX := hx $$ [XR X0 X1 X2 X3 X4 X5 X6 X7]
  · iframe
  ihave B0 := (xl_two' c) $$ [L0 L1]
  · isplitl [L0]
    · iexact L0
    · iexact L1
  ihave B1 := (x3_two' c) $$ [M0 M1]
  · isplitl [M0]
    · iexact M0
    · iexact M1
  ihave B2 := (ol_two' c) $$ [N0 N1]
  · isplitl [N0]
    · iexact N0
    · iexact N1
  isplitl [B0 B1 B2 B3 B4 B5 B6]
  · isplitl [B0]
    · iexact B0
    isplitl [B1]
    · iexact B1
    isplitl [B2]
    · iexact B2
    isplitl [B3]
    · iexists f3
      iapply (owns_whole' c cc0_scratch3 f3) $$ B3
    isplitl [B4]
    · iexists f4
      iapply (owns_whole' c cc0_scratch4 f4) $$ B4
    isplitl [B5]
    · iexists f5
      iexact B5
    · iexists f6
      iapply (owns_whole' c cc0_scratch6 f6) $$ B6
  isplitr [HX HO]
  · iframe
  isplitl [HX]
  · iexact HX
  · iexact HO

end Cert.KernelIdeal.Hand
-- ==== Proof.Launch.lean ====
/-
  The launch: from any launch contents the kernel runs, leaves its arguments and its counters as they were, and the result holds `G`
  of the arguments.
-/
module

public import proofs.«01_k».proof.Proof.Gen.KernelIdeal.Frame
public import proofs.«01_k».proof.Proof.Body
public import proofs.«01_k».proof.Proof.Ends
public import Idealize.ShloMosaic.Lib.Pipeline.FrameBody
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the body reads, as the region finds them. -/
def ins (c : Dev nD) : Ins F := ⟨V m c main_arg0, V m c main_arg2, V m c main_v0, V m c main_arg5, V m c main_arg4⟩

/-! ## The windows: each block is the whole array -/

theorem iblk_0 (c : Dev nD) (t : Fin cfg0.N) : (iblk m c 0 t : Vec F S256x512 .f32) = (ins m c).W := by
  funext y
  refine congrArg (V m c main_arg2) (funext fun a => Fin.ext ?_)
  match a with
  | 0 => show 0 * 256 + 1 * (y 0).val = (y 0).val; omega
  | 1 => show 0 * 512 + 1 * (y 1).val = (y 1).val; omega
theorem iblk_1 (c : Dev nD) (t : Fin cfg0.N) : (iblk m c 1 t : Vec F S1x512 .f32) = (ins m c).wb := by
  funext y
  refine congrArg (V m c main_v0) (funext fun a => Fin.ext ?_)
  match a with
  | 0 => show 0 * 1 + 1 * (y 0).val = (y 0).val; omega
  | 1 => show 0 * 512 + 1 * (y 1).val = (y 1).val; omega
theorem iblk_2 (c : Dev nD) (t : Fin cfg0.N) : (iblk m c 2 t : Vec F S256x256 .f32) = (ins m c).Uf := by
  funext y
  refine congrArg (V m c main_arg5) (funext fun a => Fin.ext ?_)
  match a with
  | 0 => show 0 * 256 + 1 * (y 0).val = (y 0).val; omega
  | 1 => show 0 * 256 + 1 * (y 1).val = (y 1).val; omega
theorem iblk_3 (c : Dev nD) (t : Fin cfg0.N) : (iblk m c 3 t : Vec F S256x256 .f32) = (ins m c).Uh := by
  funext y
  refine congrArg (V m c main_arg4) (funext fun a => Fin.ext ?_)
  match a with
  | 0 => show 0 * 256 + 1 * (y 0).val = (y 0).val; omega
  | 1 => show 0 * 256 + 1 * (y 1).val = (y 1).val; omega

/-! ## The proof data -/

abbrev ms0 (t : Fin cfg0.N) : Memref sig .tc .vmem S256x512 .f32 := win0_0.stage (cfg0.slots t 0)
abbrev ms1 (t : Fin cfg0.N) : Memref sig .tc .vmem S1x512 .f32 := win0_1.stage (cfg0.slots t 1)
abbrev ms2 (t : Fin cfg0.N) : Memref sig .tc .vmem S256x256 .f32 := win0_2.stage (cfg0.slots t 2)
abbrev ms3 (t : Fin cfg0.N) : Memref sig .tc .vmem S256x256 .f32 := win0_3.stage (cfg0.slots t 3)

/-- The body's state between points, with the features' remaining share and the generator's register. -/
def Φ (c : Dev nD) (t : ℕ) : sProp 𝕄 := iprop((inv c (ins m c) t ∗ xLeft c (ins m c)) ∗ ∃ r, prngReg c r)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ t := Φ m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d))
    ∗ (∃ d, owns (c : Thread nD τ) (ms2 t) fullShare ((dats m 0 c).before 2 t d)) ∗ (∃ d, owns (c : Thread nD τ) (ms3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t)
    ∗ owns (c : Thread nD τ) (ms2 t) fullShare ((dats m 0 c).after 2 t) ∗ owns (c : Thread nD τ) (ms3 t) fullShare ((dats m 0 c).after 3 t))

theorem coords_val : ∀ t : Fin grid0.N, (grid0.coords t 0).val = t.val := by decide +kernel

theorem sound_body (c : Dev nD) (t : Fin cfg0.N) :
    bodyPre m c t ⊢ WP c (bodyAt0 t) (fun _ => bodyPost m c t) := by
  have h := run_body (c := c) (I := ins m c) (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3))
  rw [coords_val] at h
  unfold bodyPre bodyPost
  rw [show (dats m 0 c).Φ t.castSucc = Φ m c t.val from rfl, show (dats m 0 c).Φ t.succ = Φ m c (t.val + 1) from rfl]
  simp only [before_0, before_1, before_2, before_3, after_0, after_1, after_2, after_3]
  unfold Dat.owesAt Pipeline.owesWithin
  rw [show (dats m 0 c).owed t.castSucc = 0 from rfl, show (dats m 0 c).owed t.succ = 0 from rfl]
  rw [iblk_0, iblk_1, iblk_2, iblk_3]
  unfold Φ
  iintro ⟨⟨⟨HI, HX⟩, HP⟩, ⟨%W, -, HW⟩, ⟨%d0, H0⟩, ⟨%d1, H1⟩, ⟨%d2, H2⟩, ⟨%d3, H3⟩⟩
  ihave H := h $$ [HI HW H0 H1 H2 H3]
  · iframe
    iexists W
    iexact HW
  iapply wp_wand_r
  isplitl [H]
  · iexact H
  · iintro %_ ⟨HI, ⟨%W, HW⟩, H0, H1, H2, H3⟩
    iframe
    iexists W
    isplitr
    · ipureintro
      exact fun _ _ => Or.inl trivial
    · iexact HW

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The ends -/

abbrev osem0 : Fin 16 → SemLoc sig := fun j => (![SemLoc.dma 4, SemLoc.dma 5, SemLoc.dma 6, SemLoc.dma 7, SemLoc.dma 8, SemLoc.dma 9, SemLoc.dma 10, SemLoc.dma 11,
  SemLoc.dma 12, SemLoc.dma 13, SemLoc.dma 14, SemLoc.dma 15, SemLoc.dma 16, SemLoc.dma 17, SemLoc.dma 18, SemLoc.dma 19] : Fin 16 → SemLoc sig) j
theorem ownSemFacts0 : Pipeline.OwnSemFacts spec0 osem0 := by decide
theorem ownSems0_cells (c : Dev nD) :
    (Pipeline.ownSems0 (Ix := Unit) (Name := ℕ) (U := Pipeline.UD sig nD τ) (Lvl := ℕ) (Val := Elt F) (τ := τ) osem0 c : sProp 𝕄) = cells c := by
  rw [Pipeline.ownSems0_eq_of_list c osem0 [0, 1, 2, 3, 4, 5, 6, 7, 8, 9, 10, 11, 12, 13, 14, 15] (by decide) (by decide)]; rfl
def H0 : Finset (Ref sig .tc) := {main_arg0}
def R0 : Finset (Ref sig .tc) := {main_v1}
theorem H0_sub : H0 ⊆ Pipeline.restRefs sig spec0 := by decide
theorem R0_sub : R0 ⊆ Pipeline.restRefs sig spec0 \ H0 := by decide

/-- What the buffers hold at the end: the result `G` of the arguments. -/
def GV (c : Dev nD) : (b : Ref sig .tc) → Buf (Elt F) ((c : Thread nD τ).loc b) := Function.update (V m c) main_v1 (G (ins m c))
theorem GV_v1 (c : Dev nD) : GV m c main_v1 = G (ins m c) := Function.update_self ..

theorem ends_eq (c : Dev nD) (g : (c : Dev nD) → (b : Ref sig .tc) → Buf (Elt F) ((c.tc : Thread nD τ).loc b)) :
    (Pipeline.ΦDRG osem0 spec0 H0 R0 (V m) g c : sProp 𝕄)
      = iprop(bufs c ∗ (∃ r, prngReg c r) ∗ cells c ∗ (bX.view.loc (c : Thread nD τ) ↦{fullShare} (ins m c).X) ∗ (bO.view.loc (c : Thread nD τ) ↦{fullShare} g c main_v1)) := by
  rw [Pipeline.ΦDRG_eq, scopedRest0_eq, ownSems0_cells]
  unfold Pipeline.routed H0 R0
  rw [bigSep_singleton, bigSep_singleton]
  rfl

theorem h_in (c : Dev nD) : Pipeline.ΦDRG osem0 spec0 H0 R0 (V m) (V m) c ⊢ (dats (F := F) m 0 c).Φ 0 := by
  rw [ends_eq, show (dats m 0 c).Φ 0 = Φ m c 0 from rfl]
  unfold Φ
  have h := start c (ins m c) (V m c main_v1)
  iintro ⟨HB, HP, HC, HX, HO⟩
  ihave H := h $$ [HB HC HX HO]
  · iframe
  iframe

theorem h_out (c : Dev nD) : (dats (F := F) m 0 c).Φ (Fin.last cfg0.N) ⊢ Pipeline.ΦDRG osem0 spec0 H0 R0 (V m) (GV m) c := by
  rw [ends_eq, GV_v1, show (dats m 0 c).Φ (Fin.last cfg0.N) = Φ m c 16 from rfl]
  unfold Φ
  have h := finish c (ins m c)
  iintro ⟨H, HP⟩
  ihave ⟨HB, HC, HX, HO⟩ := h $$ H
  iframe

/-! ## The run -/

set_option backward.isDefEq.respectTransparency.types false in
theorem run_main : θ_run defs (onTc (τ := τ) (main (F := F))) (s₀ m ρ) (fun r => Pipeline.FramePostRG cfgs (dats m) 0 R0 (V m) (GV m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmainD m Variants.none) (hA := A_eq m) (G := GV m)
    (hin := h_in m) (hout := h_out m)

/-- The kernel's run: its arguments and every counter end as they began, and the result is `G` of the arrays the body reads. -/
theorem run : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) ∧ ∀ c : Dev nD, r.2.mem ((c.tc : Thread nD τ).loc main_v1) = G (ins m c)) :=
  (θ_run defs _ _).mono (fun _ h => ⟨⟨fun c => ⟨((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).1 0).trans (((dats m 0 c).arrAt_in 0 rfl _).trans ((A_eq m c 0).trans (V_main_arg2 m c))),
      ((h.1.1 c).2 main_arg3 (Finset.mem_sdiff.mpr ⟨Pipeline.mem_restRefs_of main_arg3 (by decide) (by decide), by decide⟩)).trans (V_main_arg3 m c),
      ((h.1.1 c).1 3).trans (((dats m 0 c).arrAt_in 3 rfl _).trans ((A_eq m c 3).trans (V_main_arg4 m c))),
      ((h.1.1 c).1 2).trans (((dats m 0 c).arrAt_in 2 rfl _).trans ((A_eq m c 2).trans (V_main_arg5 m c)))⟩, h.2⟩,
    fun c => (h.1.2 c main_v1 (by decide)).trans (GV_v1 m c)⟩) (run_main m ρ)

end Cert.KernelIdeal.Hand
-- ==== Proof.Twin.lean ====
module

public import proofs.«01_k».proof.Proof.Launch
public import proofs.«01_k».proof.Proof.Gen.Kernel.Frame
public import proofs.«01_k».proof.Defs
public import Idealize.ShloMosaic.Lib.Tactic.ProgEq
public import Idealize.ShloMosaic.Lib.StableHlo.RunHlo

/-!
# The printed kernel at machine words

The kernel printed for machine words is the kernel printed for the ideal reading, so its run is the
run proved of the latter, read at machine words.
-/

@[expose] public section

set_option maxRecDepth 16384

open Idealize.ShloMosaic Idealize.SL.Sem
open scoped Idealize.ShloMosaic.ProgEq

namespace Cert.Kernel.Hand

/-- The tables of programs are the same. -/
theorem defs_eq : Cert.Kernel.defs (F := Bits) = Cert.KernelIdeal.defs (F := Bits) := by
  sl_kernel_rfl

/-- The programs are the same. -/
theorem main_eq : Cert.Kernel.main (F := Bits) = Cert.KernelIdeal.main (F := Bits) := by
  sl_kernel_rfl

/-- The kernel at machine words terminates, keeps its arguments, and leaves every counter at zero. -/
theorem run (m : (ℓ : Loc Cert.Kernel.nD Cert.Kernel.τ Cert.Kernel.sig) → Buf (Elt Bits) ℓ)
    (g : Dev Cert.Kernel.nD → PrngReg) :
    θ_run (Cert.Kernel.defs (F := Bits)) (onTc (τ := Cert.Kernel.τ) (Cert.Kernel.main (F := Bits)))
      ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq, main_eq]
  exact (θ_run_mono (Cert.KernelIdeal.Hand.run (F := Bits) m g) fun r h => h.1)

end Cert.Kernel.Hand
-- ==== Proof.Algebra.lean ====
/-
  The mathematics of the tree recurrence over the extended reals, away from any program.

  A node has two pre-activations `wf` and `wc` of its own features; its children's rows are `ch`. `leafOf` and `nodeOf` are the
  recurrence as the reference writes it, with the logistic function; `leafBy` and `nodeBy` are as the kernel writes it, with half
  tangents and with the product by `Uh` taken after the sum over the children. `leafBy_eq` and `nodeBy_eq` say that they agree.
-/
module

public import Idealize.ShloMosaic.PureOps.Ideal
public import Idealize.ShloMosaic.Lib.IdealHost
public import Mathlib.Data.EReal.Operations

@[expose] public section

noncomputable section

namespace Cert.Tree

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A sum of reals is the real sum. -/
theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

theorem isReal_one : IsReal 1 := ⟨1, rfl⟩

/-- The tangent is always real. -/
theorem isReal_tanh (x : EReal) : IsReal (Ideal.tanh x) := by
  induction x with
  | bot => exact ⟨-1, rfl⟩
  | top => exact ⟨1, rfl⟩
  | coe r => exact ⟨Real.tanh r, rfl⟩

/-- One half. -/
def half : EReal := ((1 / 2 : ℝ) : EReal)

theorem isReal_half : IsReal half := ⟨_, rfl⟩

/-- The logistic function, spelt as a quotient. -/
def sg (z : EReal) : EReal := Ideal.div 1 (1 + Ideal.exp (-z))

theorem real_sg (x : ℝ) : 1 / (1 + Real.exp (-x)) = 1 / 2 + 1 / 2 * Real.tanh (1 / 2 * x) := by
  have e1 : Real.exp (-x) = Real.exp (-(1 / 2 * x)) * Real.exp (-(1 / 2 * x)) := by
    rw [← Real.exp_add]; congr 1; ring
  have e2 : Real.exp (1 / 2 * x) * Real.exp (-(1 / 2 * x)) = 1 := by
    rw [← Real.exp_add]; simp
  rw [Real.tanh_eq_sinh_div_cosh, Real.sinh_eq, Real.cosh_eq, e1]
  have hp := Real.exp_pos (1 / 2 * x)
  have hq := Real.exp_pos (-(1 / 2 * x))
  generalize Real.exp (1 / 2 * x) = p at *
  generalize Real.exp (-(1 / 2 * x)) = q at *
  have h1 : 1 + q * q = q * (p + q) := by rw [← e2]; ring
  have h2 : 1 = q * p := by rw [← e2]; ring
  rw [h1]
  have hpq : p + q ≠ 0 := by positivity
  have hq0 : q ≠ 0 := hq.ne'
  field_simp
  nlinarith [e2]

/-- The logistic function is half the tangent of half its argument, plus a half. -/
theorem sg_eq (z : EReal) : sg z = half + half * Ideal.tanh (half * z) := by
  have hh : (0 : ℝ) < 1 / 2 := by norm_num
  induction z with
  | bot =>
    have e : half * (⊥ : EReal) = ⊥ := EReal.coe_mul_bot_of_pos hh
    rw [e]
    show Ideal.div 1 (1 + Ideal.exp (-⊥)) = half + half * (-1)
    have e2 : (1 : EReal) + Ideal.exp (-⊥) = ⊤ := by
      rw [EReal.neg_bot]; exact EReal.coe_add_top 1
    rw [e2]
    unfold Ideal.div
    rw [if_neg (by simp), EReal.inv_top, mul_zero]
    show (0 : EReal) = ((1 / 2 : ℝ) : EReal) + ((1 / 2 : ℝ) : EReal) * ((-1 : ℝ) : EReal)
    rw [← EReal.coe_mul, ← EReal.coe_add]
    norm_num
  | top =>
    have e : half * (⊤ : EReal) = ⊤ := EReal.coe_mul_top_of_pos hh
    rw [e]
    show Ideal.div 1 (1 + Ideal.exp (-⊤)) = half + half * 1
    have e2 : (1 : EReal) + Ideal.exp (-⊤) = 1 := by
      rw [EReal.neg_top]; exact add_zero 1
    rw [e2]
    unfold Ideal.div
    rw [if_neg (by simp), one_mul]
    show ((1 : ℝ) : EReal)⁻¹ = ((1 / 2 : ℝ) : EReal) + ((1 / 2 : ℝ) : EReal) * ((1 : ℝ) : EReal)
    rw [← EReal.coe_mul, ← EReal.coe_add, ← EReal.coe_inv]
    norm_num
  | coe x =>
    have hp : (0 : ℝ) < 1 + Real.exp (-x) := by positivity
    show Ideal.div ((1 : ℝ) : EReal) (((1 : ℝ) : EReal) + Ideal.exp (-(x : EReal)))
      = ((1 / 2 : ℝ) : EReal) + ((1 / 2 : ℝ) : EReal) * Ideal.tanh (((1 / 2 : ℝ) : EReal) * (x : EReal))
    rw [← EReal.coe_mul, ← EReal.coe_neg]
    show Ideal.div ((1 : ℝ) : EReal) (((1 : ℝ) : EReal) + ((Real.exp (-x) : ℝ) : EReal))
      = ((1 / 2 : ℝ) : EReal) + ((1 / 2 : ℝ) : EReal) * ((Real.tanh (1 / 2 * x) : ℝ) : EReal)
    rw [← EReal.coe_add, ← EReal.coe_mul, ← EReal.coe_add, ← real_sg]
    unfold Ideal.div
    rw [if_neg (by rw [← EReal.coe_zero, EReal.coe_eq_coe_iff]; exact hp.ne'), ← EReal.coe_inv, ← EReal.coe_mul]
    rw [one_mul, one_div]

theorem isReal_sg (z : EReal) : IsReal (sg z) := by
  rw [sg_eq]; exact isReal_half.add (isReal_half.mul (isReal_tanh _))

/-! ## Leaves -/

/-- A leaf's row from its pre-activations, with the logistic function. -/
def leafOf (wf wc : EReal) : EReal := (1 - sg wf) * Ideal.tanh wc
/-- The same, with half tangents. -/
def leafBy (wf wc : EReal) : EReal := (half - half * Ideal.tanh (half * wf)) * Ideal.tanh wc

theorem leafBy_eq (wf wc : EReal) : leafBy wf wc = leafOf wf wc := by
  unfold leafBy leafOf
  rw [sg_eq]
  obtain ⟨t, ht⟩ := isReal_tanh (half * wf)
  rw [ht]
  congr 1
  show ((1 / 2 : ℝ) : EReal) - ((1 / 2 : ℝ) : EReal) * (t : EReal)
    = ((1 : ℝ) : EReal) - (((1 / 2 : ℝ) : EReal) + ((1 / 2 : ℝ) : EReal) * (t : EReal))
  rw [← EReal.coe_mul, ← EReal.coe_add, ← EReal.coe_sub, ← EReal.coe_sub]
  congr 1
  ring

theorem isReal_leafOf (wf wc : EReal) : IsReal (leafOf wf wc) := (isReal_one.sub (isReal_sg _)).mul (isReal_tanh _)

/-! ## Nodes -/

variable (Uf Uh : Fin 256 → Fin 256 → EReal)

/-- Child `b`'s forget product. -/
def gate (ch : Fin 16 → Fin 256 → EReal) (b : Fin 16) (j : Fin 256) : EReal := ∑ k, ch b k * Uf k j
/-- The sum over the children of their products with their rows. -/
def gated (ch : Fin 16 → Fin 256 → EReal) (j : Fin 256) : EReal := ∑ b, gate Uf ch b j * ch b j

/-- A node's row from its pre-activations and its children's rows, as the reference writes it. -/
def nodeOf (wf wc : EReal) (ch : Fin 16 → Fin 256 → EReal) (j : Fin 256) : EReal :=
  gated Uf ch j + (1 - ∑ b, sg (gate Uf ch b j + wf)) * Ideal.tanh (wc + ∑ b, ∑ k, gate Uf ch b k * ch b k * Uh k j)

/-- The same, as the kernel writes it. -/
def nodeBy (wf wc : EReal) (ch : Fin 16 → Fin 256 → EReal) (j : Fin 256) : EReal :=
  gated Uf ch j + (((-7 : ℝ) : EReal) - half * ∑ b, Ideal.tanh (half * gate Uf ch b j + half * wf))
    * Ideal.tanh (wc + ∑ k, gated Uf ch k * Uh k j)

variable {Uf Uh}

theorem isReal_gate (hUf : ∀ k j, IsReal (Uf k j)) {ch : Fin 16 → Fin 256 → EReal} (hch : ∀ b k, IsReal (ch b k))
    (b : Fin 16) (j : Fin 256) : IsReal (gate Uf ch b j) :=
  IsReal.sum fun k => (hch b k).mul (hUf k j)

theorem isReal_nodeOf (hUf : ∀ k j, IsReal (Uf k j)) {ch : Fin 16 → Fin 256 → EReal}
    (hch : ∀ b k, IsReal (ch b k)) (wf wc : EReal) (j : Fin 256) : IsReal (nodeOf Uf Uh wf wc ch j) :=
  (IsReal.sum fun b => (isReal_gate hUf hch b j).mul (hch b j)).add
    ((isReal_one.sub (IsReal.sum fun b => isReal_sg _)).mul (isReal_tanh _))

/-- Sixteen logistic values against sixteen half tangents. -/
theorem coeff_eq (f : Fin 16 → EReal) :
    ((-7 : ℝ) : EReal) - half * ∑ b, Ideal.tanh (half * f b) = 1 - ∑ b, sg (f b) := by
  simp only [sg_eq]
  choose t ht using fun b => isReal_tanh (half * f b)
  simp only [ht]
  simp only [half, ← EReal.coe_mul, ← EReal.coe_add, coe_sum]
  rw [← EReal.coe_one, ← EReal.coe_sub, ← EReal.coe_sub]
  congr 1
  rw [Finset.sum_add_distrib, Finset.mul_sum, Finset.sum_const, Finset.card_univ, Fintype.card_fin, nsmul_eq_mul]
  norm_num
  ring

theorem half_mul_add {x : EReal} (hx : IsReal x) (w : EReal) : half * (x + w) = half * x + half * w := by
  obtain ⟨a, rfl⟩ := hx
  have hh : (0 : ℝ) < 1 / 2 := by norm_num
  induction w with
  | bot =>
    have e : half * (⊥ : EReal) = ⊥ := EReal.coe_mul_bot_of_pos hh
    rw [EReal.add_bot, e, EReal.add_bot]
  | top =>
    have e : half * (⊤ : EReal) = ⊤ := EReal.coe_mul_top_of_pos hh
    rw [EReal.coe_add_top, e, half, ← EReal.coe_mul, EReal.coe_add_top]
  | coe r =>
    simp only [half, ← EReal.coe_mul, ← EReal.coe_add]
    congr 1; ring

/-- The product by `Uh` may be taken before or after the sum over the children. -/
theorem cand_eq (hUf : ∀ k j, IsReal (Uf k j)) (hUh : ∀ k j, IsReal (Uh k j)) {ch : Fin 16 → Fin 256 → EReal}
    (hch : ∀ b k, IsReal (ch b k)) (j : Fin 256) :
    ∑ k, gated Uf ch k * Uh k j = ∑ b, ∑ k, gate Uf ch b k * ch b k * Uh k j := by
  choose p hp using fun (b : Fin 16) (k : Fin 256) => (isReal_gate hUf hch b k).mul (hch b k)
  choose u hu using fun (k : Fin 256) => hUh k j
  simp only [gated, hp, hu, coe_sum, ← EReal.coe_mul]
  congr 1
  rw [Finset.sum_comm]
  exact Finset.sum_congr rfl fun k _ => Finset.sum_mul _ _ _

/-- The kernel's form of a node is the reference's, where the two matrices and the children's rows are real. -/
theorem nodeBy_eq (hUf : ∀ k j, IsReal (Uf k j)) (hUh : ∀ k j, IsReal (Uh k j)) {ch : Fin 16 → Fin 256 → EReal}
    (hch : ∀ b k, IsReal (ch b k)) (wf wc : EReal) (j : Fin 256) :
    nodeBy Uf Uh wf wc ch j = nodeOf Uf Uh wf wc ch j := by
  unfold nodeBy nodeOf
  rw [cand_eq hUf hUh hch, ← coeff_eq]
  simp only [half_mul_add (isReal_gate hUf hch _ j)]

/-! ## The tree -/

/-- Column `j` of the gate's half, and of the candidate's half, of a pre-activation. -/
def hi (j : Fin 256) : Fin 512 := ⟨256 + j.val, by omega⟩
def lo (j : Fin 256) : Fin 512 := ⟨j.val, by omega⟩

/-- Row `r` of the tree, `n` levels above the leaves; `w r` is row `r`'s pre-activation, and row `r`'s children are the rows
    `16 r + 1` to `16 r + 16`. -/
def lvl (Uf Uh : Fin 256 → Fin 256 → EReal) (w : ℕ → Fin 512 → EReal) : ℕ → ℕ → Fin 256 → EReal
  | 0, r, j => leafOf (w r (hi j)) (w r (lo j))
  | n + 1, r, j => nodeOf Uf Uh (w r (hi j)) (w r (lo j)) (fun b => lvl Uf Uh w n (16 * r + 1 + b.val)) j

theorem isReal_lvl (hUf : ∀ k j, IsReal (Uf k j)) (w : ℕ → Fin 512 → EReal) :
    ∀ n r j, IsReal (lvl Uf Uh w n r j)
  | 0, _, _ => isReal_leafOf _ _
  | n + 1, _, _ => isReal_nodeOf hUf (fun _ _ => isReal_lvl hUf w n _ _) _ _ _

/-- The whole tree: row `r` at its own level. -/
def tree (Uf Uh : Fin 256 → Fin 256 → EReal) (w : ℕ → Fin 512 → EReal) (r : ℕ) (j : Fin 256) : EReal :=
  if r < 1 then lvl Uf Uh w 4 r j
  else if r < 17 then lvl Uf Uh w 3 r j
  else if r < 273 then lvl Uf Uh w 2 r j
  else if r < 4369 then lvl Uf Uh w 1 r j
  else lvl Uf Uh w 0 r j

/-! ## The literals -/

theorem ofBits_half : Ideal.ofBits .f32 0x3F000000#32 = half := by
  unfold half; simp [Ideal.ofBits, Ideal.ieee, -EReal.coe_mul]; norm_num

theorem ofBits_m7 : Ideal.ofBits .f32 0xC0E00000#32 = ((-7 : ℝ) : EReal) := by
  simp [Ideal.ofBits, Ideal.ieee, -EReal.coe_mul, -EReal.coe_neg]; norm_num

end Cert.Tree
-- ==== Proof.Inputs.lean ====
/-
  What the precondition says of the arguments.

  `tree_inputs` holds exactly of arguments whose child table numbers the children in order and whose two recurrent matrices have
  no infinite entry. Of its three bits, `in_order` reads the first and `real_entry` the other two.
-/
module

public import proofs.«01_k».proof.Defs
public import proofs.«01_k».proof.Proof.Algebra
public import Idealize.ShloMosaic.Lib.ReduceAll
public import Idealize.ShloMosaic.Lib.WordCmp
public import Idealize.ShloMosaic.Lib.Pointwise

@[expose] public section

set_option maxRecDepth 16384

noncomputable section

namespace Cert.Pre_tree_inputs

open Idealize.ShloMosaic Cert.Tree

/-- The side conditions of the precondition's operations. -/
theorem facts : Cert.Pre_tree_inputs.Facts where
  slices_S2x69904_S1x69904_0_0 := by decide
  shapeCasts_S1x69904_S69904 := by decide
  bcast_S_S69904 := by decide
  reducesTo_S69904_S_d0 := by decide
  h_S_ := by decide
  bcast_S_S256x256 := by decide
  reducesTo_S256x256_S_d0_1 := by decide

variable [Facts]
open Facts

instance : Subsingleton S_.Idx := ⟨fun _ _ => funext fun a => a.elim0⟩

variable (a0 : FVec Ideal S69905x256 .f32) (a1 : IVec S2x69904 32) (a2 : FVec Ideal S256x512 .f32) (a3 : FVec Ideal S512 .f32)
  (a4 a5 : FVec Ideal S256x256 .f32)

theorem word_of_eq {x y : BitVec 32} (h : IntOp.cmpi .eq x y = 1#1) : x = y := by
  rw [WordCmp.cmpi_eq_eq] at h
  by_contra hne
  rw [decide_eq_false hne] at h
  exact absurd h (by decide)

/-- The first bit: child `e` is row `e + 1`. -/
theorem in_order (h : (fn (F := Ideal) a0 a1 a2 a3 a4 a5).1 = fun _ => 1#1) (e : Fin 69904) :
    a1 (ix2 (0 : Fin 2) e) = BitVec.ofNat 32 (e.val + 1) := by
  have h0 : Host.reduce IntOp.andi (cmpi .eq (shapeCast S69904 (extractStridedSlice S1x69904 ![0, 0] a1 slices_S2x69904_S1x69904_0_0)
      shapeCasts_S1x69904_S69904) (addi (broadcastInDim S69904 ![] bcast_S_S69904 (constantI S_ 32 1#32)) (iotaInDim S69904 32 0)))
      (constantI S_ 1 1#1) reducesTo_S69904_S_d0 h_S_ = fun _ => 1#1 := by
    dsimp only [fn] at h
    exact h
  have h1 := Host.reduce_andi_all _ _ _ _ _ (congrFun h0 (fun a => a.elim0)) (ix1 e)
  have e1 : (cmpi .eq (shapeCast S69904 (extractStridedSlice S1x69904 ![0, 0] a1 slices_S2x69904_S1x69904_0_0)
      shapeCasts_S1x69904_S69904) (addi (broadcastInDim S69904 ![] bcast_S_S69904 (constantI S_ 32 1#32)) (iotaInDim S69904 32 0))) (ix1 e)
      = IntOp.cmpi .eq (a1 (ix2 (0 : Fin 2) e)) (1#32 + BitVec.ofNat 32 e.val) := by
    pointwise []
    rfl
  refine (word_of_eq (e1.symm.trans h1)).trans ?_
  rw [Nat.add_comm, BitVec.ofNat_add]

/-- An entry below infinity in magnitude is real. -/
theorem real_of_lt {x : EReal} (h : Ideal.cmp .olt (max x (-x)) (Ideal.ofBits .f32 0x7F800000#32) = 1#1) : IsReal x := by
  have ht : Ideal.ofBits .f32 0x7F800000#32 = ⊤ := by
    simp [Ideal.ofBits, Ideal.ieee]
  rw [ht] at h
  induction x with
  | bot => exact absurd h (by simp [Ideal.cmp])
  | top => exact absurd h (by simp [Ideal.cmp])
  | coe r => exact ⟨r, rfl⟩

/-- A matrix whose bit is set has real entries. -/
theorem real_entry (x : FVec Ideal S256x256 .f32)
    (h : Host.reduce IntOp.andi (cmpf .olt (Host.absf x) (broadcastInDim S256x256 ![] bcast_S_S256x256
      (constant (F := Ideal) S_ .f32 0x7F800000#32))) (constantI S_ 1 1#1) reducesTo_S256x256_S_d0_1 h_S_ = fun _ => 1#1)
    (k j : Fin 256) : IsReal (x (ix2 k j)) := by
  have h1 := Host.reduce_andi_all _ _ _ _ _ (congrFun h (fun a => a.elim0)) (ix2 k j)
  have e1 : (cmpf .olt (Host.absf x) (broadcastInDim S256x256 ![] bcast_S_S256x256
      (constant (F := Ideal) S_ .f32 0x7F800000#32))) (ix2 k j)
      = Ideal.cmp .olt (max (x (ix2 k j)) (-(x (ix2 k j)))) (Ideal.ofBits .f32 0x7F800000#32) := by
    pointwise []
    rfl
  exact real_of_lt (e1.symm.trans h1)

/-- The second bit, of `U_h`. -/
theorem real_uh (h : (fn (F := Ideal) a0 a1 a2 a3 a4 a5).2.1 = fun _ => 1#1) (k j : Fin 256) : IsReal (a4 (ix2 k j)) :=
  real_entry a4 (by dsimp only [fn] at h; exact h) k j

/-- The third bit, of `U_f`. -/
theorem real_uf (h : (fn (F := Ideal) a0 a1 a2 a3 a4 a5).2.2 = fun _ => 1#1) (k j : Fin 256) : IsReal (a5 (ix2 k j)) :=
  real_entry a5 (by dsimp only [fn] at h; exact h) k j

end Cert.Pre_tree_inputs
-- ==== Proof.Scalars.lean ====
/-
  What the kernel's block functions say of one element, over the extended reals.

  Each theorem reads one chain of vector operations at row `r` and column `j`: a leaf tile is `leafBy` of its row's two
  pre-activations, and a tile of any higher level is `nodeBy` of them and of the sixteen rows below.
-/
module

public import proofs.«01_k».proof.Proof.Gen.KernelIdeal.Skeleton
public import proofs.«01_k».proof.Proof.Algebra
public import Idealize.ShloMosaic.Lib.Pointwise

@[expose] public section

set_option maxRecDepth 16384

noncomputable section

namespace Cert.KernelIdeal.Hand

open Cert.KernelIdeal Cert.KernelIdeal.Gen Cert.Tree
open Idealize.ShloMosaic

variable (W : FVec Ideal S256x512 .f32) (b : FVec Ideal S1x512 .f32) (Uf Uh : FVec Ideal S256x256 .f32)

/-- A matrix as a function of its row and column. -/
def mat (M : FVec Ideal S256x256 .f32) (k j : Fin 256) : EReal := M (ix2 k j)

/-- A feature row's pre-activation in column `c`. -/
def pre (x : Fin 256 → EReal) (c : Fin 512) : EReal := ∑ k, x k * W (ix2 k c) + b (ix2 (0 : Fin 1) c)

theorem bias_read (c : Fin 512) : k0_pay13 (F := Ideal) b (ix2 (0 : Fin 1) c) = b (ix2 (0 : Fin 1) c) := by
  pointwise [k0_pay13]

theorem leafA_read (A : FVec Ideal S1x4112x256 .f32) (r : Fin 2064) (j : Fin 256) :
    k0_pay18 (F := Ideal) W b A (ix2 r j)
      = leafBy (pre W b (fun k => A (ix3 (0 : Fin 1) ⟨r.val, by omega⟩ k)) (hi j))
          (pre W b (fun k => A (ix3 (0 : Fin 1) ⟨r.val, by omega⟩ k)) (lo j)) := by
  unfold leafBy
  rw [← ofBits_half]
  pointwise [k0_pay18, k0_pay15]
  rfl

theorem leafB_read (A : FVec Ideal S1x4112x256 .f32) (r : Fin 2064) (j : Fin 256) :
    k0_pay25 (F := Ideal) W b (k0_pay15 A) (ix2 r j)
      = leafBy (pre W b (fun k => A (ix3 (0 : Fin 1) ⟨2048 + r.val, by omega⟩ k)) (hi j))
          (pre W b (fun k => A (ix3 (0 : Fin 1) ⟨2048 + r.val, by omega⟩ k)) (lo j)) := by
  unfold leafBy
  rw [← ofBits_half]
  pointwise [k0_pay25, k0_pay15]
  rfl

theorem h3A_read (A : FVec Ideal S1x4112x256 .f32) (B : FVec Ideal S1x256x256 .f32) (r : Fin 128) (j : Fin 256) :
    k0_pay32 (F := Ideal) (k0_pay23 Uh (k0_pay17 W b B) (k0_pay21 W b A Uf) (k0_pay22 W b A Uf B)) (ix2 r j)
      = nodeBy (mat Uf) (mat Uh) (pre W b (fun k => B (ix3 (0 : Fin 1) ⟨r.val, by omega⟩ k)) (hi j))
          (pre W b (fun k => B (ix3 (0 : Fin 1) ⟨r.val, by omega⟩ k)) (lo j))
          (fun c k => k0_pay18 W b A (ix2 ⟨1 + (r.val * 16 + c.val), by omega⟩ k)) j := by
  unfold nodeBy gated gate
  rw [← ofBits_half, ← ofBits_m7]
  pointwise [k0_pay32, k0_pay23, k0_pay17, k0_pay16, k0_pay22, k0_pay21, k0_pay20, k0_pay19]
  rfl

theorem h3B_read (A : FVec Ideal S1x4112x256 .f32) (B : FVec Ideal S1x256x256 .f32) (r : Fin 128) (j : Fin 256) :
    k0_pay33 (F := Ideal) Uh (k0_pay24 (k0_pay16 W b B)) (k0_pay28 W b (k0_pay15 A) Uf)
        (k0_pay29 W b (k0_pay15 A) Uf (k0_pay16 W b B)) (Scalar.ofBits .f32 0xC0E00000#32) (ix2 r j)
      = nodeBy (mat Uf) (mat Uh) (pre W b (fun k => B (ix3 (0 : Fin 1) ⟨128 + r.val, by omega⟩ k)) (hi j))
          (pre W b (fun k => B (ix3 (0 : Fin 1) ⟨128 + r.val, by omega⟩ k)) (lo j))
          (fun c k => k0_pay25 W b (k0_pay15 A) (ix2 ⟨1 + (r.val * 16 + c.val), by omega⟩ k)) j := by
  unfold nodeBy gated gate
  rw [← ofBits_half, ← ofBits_m7]
  pointwise [k0_pay33, k0_pay24, k0_pay16, k0_pay29, k0_pay28, k0_pay27, k0_pay26]
  rfl

variable (X : FVec Ideal S280x256 .f32) (H : FVec Ideal S4096x256 .f32)

theorem topH2_read (r : Fin 256) (j : Fin 256) :
    k0_pay2 (F := Ideal) W b Uf Uh X H (ix2 r j)
      = nodeBy (mat Uf) (mat Uh) (pre W b (fun k => X (ix2 ⟨17 + r.val, by omega⟩ k)) (hi j))
          (pre W b (fun k => X (ix2 ⟨17 + r.val, by omega⟩ k)) (lo j))
          (fun c k => H (ix2 ⟨r.val * 16 + c.val, by omega⟩ k)) j := by
  unfold nodeBy gated gate
  rw [← ofBits_half, ← ofBits_m7]
  pointwise [k0_pay2, k0_pay1]
  rfl

theorem topH1_read (r : Fin 16) (j : Fin 256) :
    k0_pay6 (F := Ideal) Uh (k0_pay1 W b X) (k0_pay4 W b Uf Uh X H) (k0_pay5 W b Uf Uh X H) (ix2 r j)
      = nodeBy (mat Uf) (mat Uh) (pre W b (fun k => X (ix2 ⟨1 + r.val, by omega⟩ k)) (hi j))
          (pre W b (fun k => X (ix2 ⟨1 + r.val, by omega⟩ k)) (lo j))
          (fun c k => k0_pay2 W b Uf Uh X H (ix2 ⟨r.val * 16 + c.val, by omega⟩ k)) j := by
  unfold nodeBy gated gate
  rw [← ofBits_half, ← ofBits_m7]
  pointwise [k0_pay6, k0_pay5, k0_pay4, k0_pay3, k0_pay1]
  rfl

theorem topH0_read (j : Fin 256) :
    k0_pay7 (F := Ideal) Uf Uh (k0_pay1 W b X) (k0_pay4 W b Uf Uh X H) (k0_pay5 W b Uf Uh X H) (ix2 (0 : Fin 1) j)
      = nodeBy (mat Uf) (mat Uh) (pre W b (fun k => X (ix2 ⟨0, by omega⟩ k)) (hi j))
          (pre W b (fun k => X (ix2 ⟨0, by omega⟩ k)) (lo j))
          (fun c k => k0_pay6 Uh (k0_pay1 W b X) (k0_pay4 W b Uf Uh X H) (k0_pay5 W b Uf Uh X H) (ix2 c k)) j := by
  unfold nodeBy gated gate
  rw [← ofBits_half, ← ofBits_m7]
  pointwise [k0_pay7, k0_pay1]
  rfl

end Cert.KernelIdeal.Hand
-- ==== Proof.KernelTree.lean ====
/-
  The array the kernel leaves is the tree.

  Over the extended reals and with real `Uf` and `Uh`, every row of the kernel's result `G` is the recurrence's row: leaf tiles are
  level 0, the third-level tiles level 1, and what the last grid point computes levels 2 to 4.
-/
module

public import proofs.«01_k».proof.Proof.Values
public import proofs.«01_k».proof.Proof.Scalars

@[expose] public section

set_option maxRecDepth 16384

noncomputable section

namespace Cert.KernelIdeal.Hand

open Cert.KernelIdeal Cert.KernelIdeal.Gen Cert.Tree
open Idealize.ShloMosaic

variable (I : Ins Ideal)

/-- Row `r`'s pre-activation. -/
def wrow (r : ℕ) (c : Fin 512) : EReal := pre I.W I.wb (fun k => xrow I r k) c

/-- Level `n` of the tree over the kernel's arguments. -/
abbrev level (n r : ℕ) (j : Fin 256) : EReal := lvl (mat I.Uf) (mat I.Uh) (wrow I) n r j

theorem pre_bias (x : Fin 256 → EReal) (c : Fin 512) : pre I.W (bias I) x c = pre I.W I.wb x c := by
  unfold pre bias
  rw [bias_read]

theorem leafA_level (b : ℕ) (r : Fin 2064) (j : Fin 256) :
    leafA I b (ix2 r j) = level I 0 (4368 + 4096 * b + r.val) j := by
  unfold leafA
  rw [leafA_read, leafBy_eq, pre_bias, pre_bias]
  rfl

theorem leafB_level (b : ℕ) (r : Fin 2064) (j : Fin 256) :
    leafB I b (ix2 r j) = level I 0 (4368 + 4096 * b + (2048 + r.val)) j := by
  unfold leafB
  rw [leafB_read, leafBy_eq, pre_bias, pre_bias]
  rfl

/-- The two recurrent matrices are real. -/
structure RealMats : Prop where
  uf : ∀ k j, IsReal (mat I.Uf k j)
  uh : ∀ k j, IsReal (mat I.Uh k j)

variable {I}
variable (hI : RealMats I)
include hI

/-- A node over sixteen rows of level `n` is a row of level `n + 1`. -/
theorem node_level (n r s : ℕ) (ch : Fin 16 → Fin 256 → EReal) (x : Fin 256 → EReal) (j : Fin 256)
    (hx : ∀ k, x k = xrow I r k) (hch : ∀ c k, ch c k = level I n (s + c.val) k) (hs : s = 16 * r + 1) :
    nodeBy (mat I.Uf) (mat I.Uh) (pre I.W (bias I) x (hi j)) (pre I.W (bias I) x (lo j)) ch j = level I (n + 1) r j := by
  obtain rfl : ch = fun c k => level I n (16 * r + 1 + c.val) k := by
    subst hs; exact funext fun c => funext fun k => hch c k
  obtain rfl : x = fun k => xrow I r k := funext hx
  rw [nodeBy_eq hI.uf hI.uh (fun c k => isReal_lvl hI.uf _ _ _ _), pre_bias, pre_bias]
  rfl

theorem h3A_level (b : ℕ) (r : Fin 128) (j : Fin 256) :
    h3A I b (ix2 r j) = level I 1 (272 + 256 * b + (1 + r.val)) j := by
  unfold h3A
  rw [h3A_read]
  refine node_level hI 0 _ (4368 + 4096 * b + (1 + r.val * 16)) _ _ j (fun k => rfl) (fun c k => ?_) (by omega)
  refine (leafA_level I b ⟨1 + (r.val * 16 + c.val), by omega⟩ k).trans ?_
  exact congrArg (fun t => level I 0 t k)
    (show 4368 + 4096 * b + (1 + (r.val * 16 + c.val)) = 4368 + 4096 * b + (1 + r.val * 16) + c.val by omega)

theorem h3B_level (b : ℕ) (r : Fin 128) (j : Fin 256) :
    h3B I b (ix2 r j) = level I 1 (272 + 256 * b + (1 + (128 + r.val))) j := by
  unfold h3B
  rw [h3B_read]
  refine node_level hI 0 _ (4368 + 4096 * b + (2048 + (1 + r.val * 16))) _ _ j (fun k => rfl) (fun c k => ?_) (by omega)
  refine (leafB_level I b ⟨1 + (r.val * 16 + c.val), by omega⟩ k).trans ?_
  exact congrArg (fun t => level I 0 t k)
    (show 4368 + 4096 * b + (2048 + (1 + (r.val * 16 + c.val))) = 4368 + 4096 * b + (2048 + (1 + r.val * 16)) + c.val by omega)

/-- The third-level rows are level 1. -/
theorem H3_level (r : Fin 4096) (j : Fin 256) : H3 I (ix2 r j) = level I 1 (273 + r.val) j := by
  by_cases h : r.val % 256 < 128
  · refine (dif_pos h).trans ?_
    refine (h3A_level hI (r.val / 256) ⟨r.val % 256, h⟩ j).trans (congrArg (fun t => level I 1 t j) ?_)
    show 272 + 256 * (r.val / 256) + (1 + r.val % 256) = 273 + r.val
    omega
  · refine (dif_neg h).trans ?_
    refine (h3B_level hI (r.val / 256) ⟨r.val % 256 - 128, by omega⟩ j).trans (congrArg (fun t => level I 1 t j) ?_)
    show 272 + 256 * (r.val / 256) + (1 + (128 + (r.val % 256 - 128))) = 273 + r.val
    omega

theorem topH2_level (r : Fin 256) (j : Fin 256) : topH2 I (ix2 r j) = level I 2 (17 + r.val) j := by
  unfold topH2
  rw [topH2_read]
  refine node_level hI 1 _ (273 + r.val * 16) _ _ j (fun k => rfl) (fun c k => ?_) (by omega)
  exact (H3_level hI ⟨r.val * 16 + c.val, by omega⟩ k).trans
    (congrArg (fun t => level I 1 t k) (show 273 + (r.val * 16 + c.val) = 273 + r.val * 16 + c.val by omega))

theorem topH1_level (r : Fin 16) (j : Fin 256) : topH1 I (ix2 r j) = level I 3 (1 + r.val) j := by
  unfold topH1 topPre
  rw [topH1_read]
  refine node_level hI 2 _ (17 + r.val * 16) _ _ j (fun k => rfl) (fun c k => ?_) (by omega)
  exact (topH2_level hI ⟨r.val * 16 + c.val, by omega⟩ k).trans
    (congrArg (fun t => level I 2 t k) (show 17 + (r.val * 16 + c.val) = 17 + r.val * 16 + c.val by omega))

theorem topH0_level (j : Fin 256) : topH0 I (ix2 (0 : Fin 1) j) = level I 4 0 j := by
  unfold topH0 topPre
  rw [topH0_read]
  exact node_level hI 3 _ 1 _ _ j (fun k => rfl) (fun c k => topH1_level hI c k) (by omega)

omit hI in
theorem same8 (v : FVec Ideal S1x256 .f32) (r : Fin 1) (j : Fin 256) : k0_pay8 v (ix2 r j) = v (ix2 r j) := by
  pointwise [k0_pay8]
omit hI in
theorem same9 (v : FVec Ideal S16x256 .f32) (r : Fin 16) (j : Fin 256) : k0_pay9 v (ix2 r j) = v (ix2 r j) := by
  pointwise [k0_pay9]
omit hI in
theorem same10 (v : FVec Ideal S256x256 .f32) (r : Fin 256) (j : Fin 256) : k0_pay10 v (ix2 r j) = v (ix2 r j) := by
  pointwise [k0_pay10]
omit hI in
theorem same11 (v : FVec Ideal S7x256 .f32) (r : Fin 7) (j : Fin 256) : k0_pay11 v (ix2 r j) = v (ix2 r j) := by
  pointwise [k0_pay11]
omit hI in
theorem same12 (v : FVec Ideal S4089x256 .f32) (r : Fin 4089) (j : Fin 256) : k0_pay12 v (ix2 r j) = v (ix2 r j) := by
  pointwise [k0_pay12]
omit hI in
theorem cut34 (v : FVec Ideal S2064x256 .f32) (r : Fin 7) (j : Fin 256) :
    k0_pay34 v (ix2 r j) = v (ix2 ⟨1 + r.val, by omega⟩ j) := by
  pointwise [k0_pay34]
omit hI in
theorem cut30 (v : FVec Ideal S2064x256 .f32) (r : Fin 2048) (j : Fin 256) :
    k0_pay30 v (ix3 (0 : Fin 1) r j) = v (ix2 ⟨8 + r.val, by omega⟩ j) := by
  pointwise [k0_pay30]
omit hI in
theorem cut31 (v : FVec Ideal S2064x256 .f32) (r : Fin 2048) (j : Fin 256) :
    k0_pay31 v (ix3 (0 : Fin 1) r j) = v (ix2 ⟨8 + r.val, by omega⟩ j) := by
  pointwise [k0_pay31]

omit hI in
/-- The leaf rows of block `b` are level 0. -/
theorem OL_level (b : ℕ) (s : Fin 2) (r : Fin 4096) (j : Fin 256) :
    OL I b (ix3 s r j) = level I 0 (4376 + 4096 * b + r.val) j := by
  by_cases h : r.val < 2048
  · refine (dif_pos h).trans ((cut30 (leafA I b) ⟨r.val, h⟩ j).trans ?_)
    refine (leafA_level I b ⟨8 + r.val, by omega⟩ j).trans (congrArg (fun t => level I 0 t j) ?_)
    show 4368 + 4096 * b + (8 + r.val) = 4376 + 4096 * b + r.val
    omega
  · refine (dif_neg h).trans ((cut31 (leafB I b) ⟨r.val - 2048, by omega⟩ j).trans ?_)
    refine (leafB_level I b ⟨8 + (r.val - 2048), by omega⟩ j).trans (congrArg (fun t => level I 0 t j) ?_)
    show 4368 + 4096 * b + (2048 + (8 + (r.val - 2048))) = 4376 + 4096 * b + r.val
    omega

/-- The tree over the kernel's arguments. -/
abbrev treeK (I : Ins Ideal) (r : ℕ) (j : Fin 256) : EReal := tree (mat I.Uf) (mat I.Uh) (wrow I) r j

theorem OT_tree (r : Fin 280) (j : Fin 256) : OT I (ix2 r j) = treeK I r.val j := by
  by_cases h0 : r.val < 1
  · refine (dif_pos h0).trans ((same8 (topH0 I) ⟨r.val, h0⟩ j).trans ?_)
    refine (congrArg (fun t : Fin 1 => topH0 I (ix2 t j)) (Subsingleton.elim _ 0)).trans ((topH0_level hI j).trans ?_)
    exact (congrArg (fun t => level I 4 t j) (show 0 = r.val by omega)).trans (if_pos h0).symm
  · refine (dif_neg h0).trans ?_
    by_cases h1 : r.val < 17
    · refine (dif_pos h1).trans ((same9 (topH1 I) ⟨r.val - 1, by omega⟩ j).trans ((topH1_level hI _ j).trans ?_))
      refine Eq.trans ?_ ((if_neg h0).trans (if_pos h1)).symm
      exact congrArg (fun t => level I 3 t j) (show 1 + (r.val - 1) = r.val by omega)
    · refine (dif_neg h1).trans ?_
      by_cases h2 : r.val < 273
      · refine (dif_pos h2).trans ((same10 (topH2 I) ⟨r.val - 17, by omega⟩ j).trans ((topH2_level hI _ j).trans ?_))
        refine Eq.trans ?_ ((if_neg h0).trans ((if_neg h1).trans (if_pos h2))).symm
        exact congrArg (fun t => level I 2 t j) (show 17 + (r.val - 17) = r.val by omega)
      · refine (dif_neg h2).trans ((same11 (H3a I) ⟨r.val - 273, by omega⟩ j).trans ?_)
        refine (H3_level hI ⟨r.val - 273, by omega⟩ j).trans ?_
        have h3 : r.val < 4369 := by omega
        refine Eq.trans ?_ ((if_neg h0).trans ((if_neg h1).trans ((if_neg h2).trans (if_pos h3)))).symm
        exact congrArg (fun t => level I 1 t j) (show 273 + (r.val - 273) = r.val by omega)

theorem H3W_tree (r : Fin 4096) (j : Fin 256) : H3W I (ix2 r j) = treeK I (280 + r.val) j := by
  have h0 : ¬ 280 + r.val < 1 := by omega
  have h1 : ¬ 280 + r.val < 17 := by omega
  have h2 : ¬ 280 + r.val < 273 := by omega
  by_cases h : r.val < 4089
  · refine (dif_pos h).trans ((same12 (H3b I) ⟨r.val, h⟩ j).trans ?_)
    refine (H3_level hI ⟨7 + r.val, by omega⟩ j).trans ?_
    have h3 : 280 + r.val < 4369 := by omega
    refine Eq.trans ?_ ((if_neg h0).trans ((if_neg h1).trans ((if_neg h2).trans (if_pos h3)))).symm
    exact congrArg (fun t => level I 1 t j) (show 273 + (7 + r.val) = 280 + r.val by omega)
  · refine (dif_neg h).trans ((cut34 (leafA I 0) ⟨r.val - 4089, by omega⟩ j).trans ((leafA_level I 0 _ j).trans ?_))
    have h3 : ¬ 280 + r.val < 4369 := by omega
    refine Eq.trans ?_ ((if_neg h0).trans ((if_neg h1).trans ((if_neg h2).trans (if_neg h3)))).symm
    exact congrArg (fun t => level I 0 t j) (show 4368 + 4096 * 0 + (1 + (r.val - 4089)) = 280 + r.val by omega)

/-- The kernel's result is the tree. -/
theorem G_tree (r : Fin 69905) (j : Fin 256) : G I (ix2 r j) = treeK I r.val j := by
  by_cases h0 : r.val < 280
  · exact (dif_pos h0).trans (OT_tree hI ⟨r.val, h0⟩ j)
  · refine (dif_neg h0).trans ?_
    by_cases h1 : r.val < 4376
    · refine (dif_pos h1).trans ((H3W_tree hI ⟨r.val - 280, by omega⟩ j).trans ?_)
      exact congrArg (fun t => treeK I t j) (show 280 + (r.val - 280) = r.val by omega)
    · refine (dif_neg h1).trans ((OL_level _ 0 ⟨(r.val - 4376) % 4096, Nat.mod_lt _ (by decide)⟩ j).trans ?_)
      have e0 : ¬ r.val < 1 := by omega
      have e1 : ¬ r.val < 17 := by omega
      have e2 : ¬ r.val < 273 := by omega
      have e3 : ¬ r.val < 4369 := by omega
      refine Eq.trans ?_ ((if_neg e0).trans ((if_neg e1).trans ((if_neg e2).trans (if_neg e3)))).symm
      exact congrArg (fun t => level I 0 t j)
        (show 4376 + 4096 * ((r.val - 4376) / 4096) + (r.val - 4376) % 4096 = r.val by omega)

end Cert.KernelIdeal.Hand
-- ==== Proof.Windows.lean ====
/-
  One window written into a table, and rows taken out of one, read at an element.

  `x.at[s:s+B].set(u)` writes whole rows from row `s`; `x.at[:, 0:D].add(u)` adds into the first `D` columns; `x[t]` takes the rows
  that an integer table names. The theorems hold at any extents.
-/
module

public import Idealize.ShloMosaic.Lib.Routing.OpsSet
public import Idealize.ShloMosaic.Lib.Routing.OpsPair
public import Idealize.ShloMosaic.Lib.Pointwise

@[expose] public section

namespace Cert.Windows

open Idealize.ShloMosaic

variable {α : Type} {N C B D R w : ℕ}

/-- A window of `B` by `D` written from row `s` on, `s` the one index word. -/
abbrev rowDims (wf : ScatterDims.WF ⟨2, ![N, C]⟩ ⟨1, ![1]⟩ ⟨2, ![B, D]⟩ [0, 1] [] [0] 0) :
    ScatterDims ⟨2, ![N, C]⟩ ⟨1, ![1]⟩ ⟨2, ![B, D]⟩ where
  updateWindowDims := [0, 1]
  insertedWindowDims := []
  scatterDimsToOperandDims := [0]
  indexVectorDim := 0
  wf := wf

/-- A window of `B` by `D` written from column `s` on. -/
abbrev colDims (wf : ScatterDims.WF ⟨2, ![N, C]⟩ ⟨1, ![1]⟩ ⟨2, ![B, D]⟩ [0, 1] [] [1] 0) :
    ScatterDims ⟨2, ![N, C]⟩ ⟨1, ![1]⟩ ⟨2, ![B, D]⟩ where
  updateWindowDims := [0, 1]
  insertedWindowDims := []
  scatterDimsToOperandDims := [1]
  indexVectorDim := 0
  wf := wf

theorem one_idx (i : (⟨1, ![1]⟩ : Shape).Idx) : i = ix1 (0 : Fin 1) := by
  funext a
  obtain rfl : a = 0 := Subsingleton.elim _ _
  exact Subsingleton.elim (α := Fin 1) _ _

/-- Where an update of a row window lands. -/
theorem row_lands (wf : ScatterDims.WF ⟨2, ![N, C]⟩ ⟨1, ![1]⟩ ⟨2, ![B, D]⟩ [0, 1] [] [0] 0) (idx : IVec ⟨1, ![1]⟩ w)
    (k : (⟨2, ![B, D]⟩ : Shape).Idx) (r : Fin N) (c : Fin C) :
    (rowDims wf).resultIdx? k idx = some (ix2 r c)
      ↔ (idx (ix1 (0 : Fin 1))).toInt + ((k 0).val : ℤ) = (r.val : ℤ) ∧ (k 1).val = c.val := by
  have e0 : (rowDims wf).start k idx 0 = (idx (ix1 (0 : Fin 1))).toInt := by
    unfold ScatterDims.start
    rw [dif_pos (List.mem_singleton.mpr rfl), one_idx (ScatterDims.siIdx _ _ _)]
  have e1 : (rowDims wf).start k idx 1 = 0 := by
    unfold ScatterDims.start
    exact dif_neg (fun h => absurd (congrArg Fin.val (List.mem_singleton.mp h)) Nat.one_ne_zero)
  have w0 : (rowDims wf).window k 0 = (k 0).val := rfl
  have w1 : (rowDims wf).window k 1 = (k 1).val := rfl
  refine (Routing.resultIdx?_ix2 (rowDims wf) k idx r c).trans ?_
  rw [e0, e1, w0, w1]
  omega

/-- Where an update of a column window lands. -/
theorem col_lands (wf : ScatterDims.WF ⟨2, ![N, C]⟩ ⟨1, ![1]⟩ ⟨2, ![B, D]⟩ [0, 1] [] [1] 0) (idx : IVec ⟨1, ![1]⟩ w)
    (k : (⟨2, ![B, D]⟩ : Shape).Idx) (r : Fin N) (c : Fin C) :
    (colDims wf).resultIdx? k idx = some (ix2 r c)
      ↔ (k 0).val = r.val ∧ (idx (ix1 (0 : Fin 1))).toInt + ((k 1).val : ℤ) = (c.val : ℤ) := by
  have e1 : (colDims wf).start k idx 1 = (idx (ix1 (0 : Fin 1))).toInt := by
    unfold ScatterDims.start
    rw [dif_pos (List.mem_singleton.mpr rfl), one_idx (ScatterDims.siIdx _ _ _)]
  have e0 : (colDims wf).start k idx 0 = 0 := by
    unfold ScatterDims.start
    exact dif_neg (fun h => absurd (congrArg Fin.val (List.mem_singleton.mp h)) Nat.zero_ne_one)
  have w0 : (colDims wf).window k 0 = (k 0).val := rfl
  have w1 : (colDims wf).window k 1 = (k 1).val := rfl
  refine (Routing.resultIdx?_ix2 (colDims wf) k idx r c).trans ?_
  rw [e0, e1, w0, w1]
  omega

/-- An index of a matrix is its two coordinates. -/
theorem idx2_eq (k : (⟨2, ![B, D]⟩ : Shape).Idx) (r : Fin B) (c : Fin D) (h0 : (k 0).val = r.val) (h1 : (k 1).val = c.val) :
    k = ix2 r c := by
  funext a
  match a with
  | ⟨0, _⟩ => exact Fin.ext h0
  | ⟨1, _⟩ => exact Fin.ext h1

/-- Rows `s` to `s + B - 1` become the written rows. -/
theorem set_hit (wf : ScatterDims.WF ⟨2, ![N, C]⟩ ⟨1, ![1]⟩ ⟨2, ![B, C]⟩ [0, 1] [] [0] 0)
    (x0 : (⟨2, ![N, C]⟩ : Shape).Idx → α) (idx : IVec ⟨1, ![1]⟩ w) (u : (⟨2, ![B, C]⟩ : Shape).Idx → α) (s : ℕ)
    (hs : (idx (ix1 (0 : Fin 1))).toInt = (s : ℤ)) (q : Fin N) (r : Fin B) (c : Fin C) (hq : q.val = s + r.val) :
    Host.scatter (rowDims wf) (fun _ b => b) x0 idx u (ix2 q c) = u (ix2 r c) := by
  refine Routing.scatter_set_hit (rowDims wf) x0 idx u (ix2 q c) _ (fun k hk => ?_) (ix2 r c) ?_
  · have h := (row_lands wf idx k q c).mp hk
    rw [hs] at h
    exact congrArg u (idx2_eq k r c (by omega) h.2)
  · refine (row_lands wf idx _ q c).mpr ⟨?_, rfl⟩
    rw [hs]
    show (s : ℤ) + (r.val : ℤ) = (q.val : ℤ)
    omega

/-- The other rows stay. -/
theorem set_miss (wf : ScatterDims.WF ⟨2, ![N, C]⟩ ⟨1, ![1]⟩ ⟨2, ![B, C]⟩ [0, 1] [] [0] 0)
    (x0 : (⟨2, ![N, C]⟩ : Shape).Idx → α) (idx : IVec ⟨1, ![1]⟩ w) (u : (⟨2, ![B, C]⟩ : Shape).Idx → α) (s : ℕ)
    (hs : (idx (ix1 (0 : Fin 1))).toInt = (s : ℤ)) (q : Fin N) (c : Fin C) (hq : q.val < s ∨ s + B ≤ q.val) :
    Host.scatter (rowDims wf) (fun _ b => b) x0 idx u (ix2 q c) = x0 (ix2 q c) := by
  refine Routing.scatter_set_miss (rowDims wf) x0 idx u (ix2 q c) (fun k hk => ?_)
  have h := (row_lands wf idx k q c).mp hk
  rw [hs] at h
  have hb : (k 0).val < B := (k 0).isLt
  omega

/-- A fold in which no element of the list acts. -/
theorem foldl_none {β : Type} (hit : β → Prop) [DecidablePred hit] (f : α → β → α) :
    ∀ (l : List β), (∀ n ∈ l, ¬ hit n) → ∀ a : α, l.foldl (fun a n => if hit n then f a n else a) a = a
  | [], _, _ => rfl
  | n :: l, h, a => by
    rw [List.foldl_cons, if_neg (h n List.mem_cons_self)]
    exact foldl_none hit f l (fun m hm => h m (List.mem_cons_of_mem _ hm)) a

/-- A fold in which one element of the list acts. -/
theorem foldl_once {β : Type} (hit : β → Prop) [DecidablePred hit] (f : α → β → α) (k : β) (hk : ∀ n, hit n ↔ n = k) :
    ∀ (l : List β), l.Nodup → k ∈ l → ∀ a : α, l.foldl (fun a n => if hit n then f a n else a) a = f a k
  | n :: l, hl, hm, a => by
    have hl' := List.nodup_cons.mp hl
    rw [List.foldl_cons]
    by_cases e : hit n
    · obtain rfl := (hk n).mp e
      rw [if_pos e]
      exact foldl_none hit f l (fun m hm' h => hl'.1 ((hk m).mp h ▸ hm')) _
    · rw [if_neg e]
      refine foldl_once hit f k hk l hl'.2 ?_ a
      exact (List.mem_cons.mp hm).resolve_left (fun h => e ((hk n).mpr h.symm))

/-- The first `D` columns take the added values. -/
theorem add_hit (wf : ScatterDims.WF ⟨2, ![B, C]⟩ ⟨1, ![1]⟩ ⟨2, ![B, D]⟩ [0, 1] [] [1] 0) (f : α → α → α)
    (x0 : (⟨2, ![B, C]⟩ : Shape).Idx → α) (idx : IVec ⟨1, ![1]⟩ w) (u : (⟨2, ![B, D]⟩ : Shape).Idx → α)
    (hs : (idx (ix1 (0 : Fin 1))).toInt = 0) (r : Fin B) (c : Fin C) (d : Fin D) (hd : c.val = d.val) :
    Host.scatter (colDims wf) f x0 idx u (ix2 r c) = f (x0 (ix2 r c)) (u (ix2 r d)) := by
  refine (Routing.scatter_at (colDims wf) f x0 idx u (ix2 r c)).trans ?_
  have hk : ∀ n : Fin (⟨2, ![B, D]⟩ : Shape).numel,
      (colDims wf).resultIdx? ((⟨2, ![B, D]⟩ : Shape).rowMajor.symm n) idx = some (ix2 r c)
        ↔ n = (⟨2, ![B, D]⟩ : Shape).rowMajor (ix2 r d) := fun n => by
    rw [col_lands, hs, ← Equiv.symm_apply_eq]
    constructor
    · intro h
      exact idx2_eq _ r d h.1 (by omega)
    · intro h
      rw [h]
      refine ⟨rfl, ?_⟩
      show (0 : ℤ) + (d.val : ℤ) = (c.val : ℤ)
      omega
  refine (foldl_once _ (fun a n => f a (u ((⟨2, ![B, D]⟩ : Shape).rowMajor.symm n))) _ hk _ (List.nodup_finRange _)
    (List.mem_finRange _) _).trans ?_
  rw [Equiv.symm_apply_apply]

/-- The columns from `D` on stay. -/
theorem add_miss (wf : ScatterDims.WF ⟨2, ![B, C]⟩ ⟨1, ![1]⟩ ⟨2, ![B, D]⟩ [0, 1] [] [1] 0) (f : α → α → α)
    (x0 : (⟨2, ![B, C]⟩ : Shape).Idx → α) (idx : IVec ⟨1, ![1]⟩ w) (u : (⟨2, ![B, D]⟩ : Shape).Idx → α)
    (hs : (idx (ix1 (0 : Fin 1))).toInt = 0) (r : Fin B) (c : Fin C) (hd : D ≤ c.val) :
    Host.scatter (colDims wf) f x0 idx u (ix2 r c) = x0 (ix2 r c) := by
  refine (Routing.scatter_at (colDims wf) f x0 idx u (ix2 r c)).trans ?_
  refine foldl_none _ (fun a n => f a (u ((⟨2, ![B, D]⟩ : Shape).rowMajor.symm n))) _ (fun n _ h => ?_) _
  have h := (col_lands wf idx _ r c).mp h
  rw [hs] at h
  have hb : (((⟨2, ![B, D]⟩ : Shape).rowMajor.symm n) 1).val < D := (((⟨2, ![B, D]⟩ : Shape).rowMajor.symm n) 1).isLt
  omega

/-- Rows taken by a table of row numbers. -/
abbrev takeDims (wf : GatherDims.WF ⟨2, ![N, C]⟩ ⟨3, ![R, B, 1]⟩ ⟨3, ![R, B, C]⟩ [2] [0] [] [0] [] 2 ![1, C]) :
    GatherDims ⟨2, ![N, C]⟩ ⟨3, ![R, B, 1]⟩ ⟨3, ![R, B, C]⟩ where
  offsetDims := [2]
  collapsedSliceDims := [0]
  operandBatchingDims := []
  startIndicesBatchingDims := []
  startIndexMap := [0]
  indexVectorDim := 2
  sliceSizes := ![1, C]
  wf := wf

/-- Where the table holds the row number `q`, row `q` is taken. -/
theorem take_read (wf : GatherDims.WF ⟨2, ![N, C]⟩ ⟨3, ![R, B, 1]⟩ ⟨3, ![R, B, C]⟩ [2] [0] [] [0] [] 2 ![1, C])
    (x : (⟨2, ![N, C]⟩ : Shape).Idx → α) (idx : IVec ⟨3, ![R, B, 1]⟩ w) (r : Fin R) (b : Fin B) (c : Fin C) (q : Fin N)
    (hq : (idx (ix3 r b (0 : Fin 1))).toInt = (q.val : ℤ)) :
    Host.gather (takeDims wf) x idx (ix3 r b c) = x (ix2 q c) := by
  unfold Host.gather
  congr 1
  have hb : ∀ a, (takeDims wf).batchCoord (ix3 r b c) a = 0 := fun a =>
    GatherDims.batchCoord_eq_zero _ _ _ List.not_mem_nil
  refine idx2_eq _ q c ?_ ?_
  · show (takeDims wf).start (ix3 r b c) idx 0 + (takeDims wf).batchCoord (ix3 r b c) 0 + (takeDims wf).offCoord (ix3 r b c) 0 = _
    rw [hb, GatherDims.offCoord_eq_zero _ _ _ (fun h => ((GatherDims.mem_sKept _ _).mp h).1 (List.mem_singleton.mpr rfl))]
    unfold GatherDims.start
    rw [dif_pos (List.mem_singleton.mpr rfl)]
    have hsi : (takeDims wf).siIdx (ix3 r b c) ⟨List.idxOf (0 : Fin 2) (takeDims wf).startIndexMap,
        List.idxOf_lt_length_iff.2 (List.mem_singleton.mpr rfl)⟩ = ix3 r b (0 : Fin 1) := by
      funext a; refine Fin.ext ?_
      match a with
      | ⟨0, _⟩ => rfl
      | ⟨1, _⟩ => rfl
      | ⟨2, _⟩ => rfl
    rw [hsi, hq]
    show min ((q.val : ℤ).toNat) (N - 1) + 0 + 0 = q.val
    omega
  · show (takeDims wf).start (ix3 r b c) idx 1 + (takeDims wf).batchCoord (ix3 r b c) 1 + (takeDims wf).offCoord (ix3 r b c) 1 = _
    have h1 : (takeDims wf).start (ix3 r b c) idx 1 = 0 := by
      unfold GatherDims.start
      exact dif_neg (fun h => absurd (congrArg Fin.val (List.mem_singleton.mp h)) Nat.one_ne_zero)
    have h2 : (takeDims wf).offCoord (ix3 r b c) 1 = c.val := rfl
    rw [hb, h1, h2]
    omega

end Cert.Windows
-- ==== Proof.ReferenceTree.lean ====
/-
  The array the reference leaves is the tree.

  The reference keeps one table of node rows. It writes the leaves, then level by level gathers the sixteen child rows of every
  node, computes the node's row and writes it back. Where row `0` of `edge_index` numbers the children in order (child `e` is row
  `e + 1`), the table ends as the tree.
-/
module

public import proofs.«01_k».proof.Proof.Gen.ReferenceIdeal.Run
public import proofs.«01_k».proof.Proof.Algebra
public import proofs.«01_k».proof.Proof.Windows
public import Idealize.ShloMosaic.Lib.Pointwise

@[expose] public section

set_option maxRecDepth 16384

noncomputable section

namespace Cert.ReferenceIdeal.Hand

open Cert.ReferenceIdeal Cert.ReferenceIdeal.Gen Cert.ReferenceIdeal.Value Cert.Tree Cert.Windows
open Idealize.ShloMosaic

variable (V : Valuation τ sig (Elt Ideal))

/-- The arguments, as arrays of their types. -/
abbrev argX : FVec Ideal S69905x256 .f32 := V (Proc.devRef .tc main_arg0)
abbrev argE : IVec S2x69904 32 := V (Proc.devRef .tc main_arg1)
abbrev argW : FVec Ideal S256x512 .f32 := V (Proc.devRef .tc main_arg2)
abbrev argB : FVec Ideal S512 .f32 := V (Proc.devRef .tc main_arg3)
abbrev argUh : FVec Ideal S256x256 .f32 := V (Proc.devRef .tc main_arg4)
abbrev argUf : FVec Ideal S256x256 .f32 := V (Proc.devRef .tc main_arg5)

/-- Each level's gathered child rows and forget products, as arrays of their types. -/
abbrev rows1 : FVec Ideal S4096x16x256 .f32 := res_main_v36 V
abbrev gate1 : FVec Ideal S4096x16x256 .f32 := res_main_v37 V
abbrev rows2 : FVec Ideal S256x16x256 .f32 := res_main_v72 V
abbrev gate2 : FVec Ideal S256x16x256 .f32 := res_main_v73 V
abbrev rows3 : FVec Ideal S16x16x256 .f32 := res_main_v108 V
abbrev gate3 : FVec Ideal S16x16x256 .f32 := res_main_v109 V
abbrev rows4 : FVec Ideal S1x16x256 .f32 := res_main_v144 V
abbrev gate4 : FVec Ideal S1x16x256 .f32 := res_main_v145 V

def uf (k j : Fin 256) : EReal := argUf V (ix2 k j)
def uh (k j : Fin 256) : EReal := argUh V (ix2 k j)
/-- Feature row `r`, zero past the last row. -/
def xrow (r : ℕ) (k : Fin 256) : EReal :=
  if h : r < 69905 then argX V (ix2 ⟨r, h⟩ k) else Scalar.ofBits (F := Ideal) .f32 0x00000000#32
/-- Row `r`'s pre-activation. -/
def wrow (r : ℕ) (c : Fin 512) : EReal := ∑ k, xrow V r k * argW V (ix2 k c) + argB V (ix1 c)
/-- Level `n` of the tree over the reference's arguments. -/
abbrev level (n r : ℕ) (j : Fin 256) : EReal := lvl (uf V) (uh V) (wrow V) n r j

/-- Row 0 of `edge_index` numbers the children in order. -/
def InOrder : Prop := ∀ e : Fin 69904, argE V (ix2 (0 : Fin 2) e) = BitVec.ofNat 32 (e.val + 1)

theorem pre_read (q : ℕ) (r : Fin 69905) (hq : r.val = q) (c c' : Fin 512) (hc : c = c') :
    res_main_v3 V (ix2 r c) = wrow V q c' := by
  subst hq hc
  have e : ∀ k, argX V (ix2 r k) = xrow V r.val k := fun k => by
    unfold xrow; rw [dif_pos r.isLt]
  pointwise [res_main_v3]
  exact congrArg (fun t : EReal => t + argB V (ix1 c)) (Finset.sum_congr rfl fun k _ => congrArg (fun t : EReal => t * argW V (ix2 k c)) (e k))

theorem child_read (r : Fin 4369) (b : Fin 16) :
    res_main_v7 V (ix2 r b) = argE V (ix2 (0 : Fin 2) ⟨r.val * 16 + b.val, by omega⟩) := by
  pointwise [res_main_v7]

/-- An index that is not negative is not wrapped. -/
theorem wrap_word (x a : BitVec 32) (n : ℕ) (hn : n < 2 ^ 31) (hx : x = BitVec.ofNat 32 n) :
    (Scalar.select (IntOp.cmpi .slt x 0#32) a x).toInt = (n : ℤ) := by
  subst hx
  rw [Routing.wrap_of_lt _ _ (by
    show (BitVec.ofNat 32 n).toNat < 2 ^ 31
    rw [BitVec.toNat_ofNat, Nat.mod_eq_of_lt (by omega)]; exact hn)]
  exact StableHlo.Predicate.toInt_ofNat_small _ hn

/-- A node's row, put together from its children's rows, its forget products and its pre-activations. -/
theorem node_put (n q : ℕ) (h f : Fin 16 → Fin 256 → EReal) (wf wc : EReal) (j : Fin 256)
    (hh : ∀ b k, h b k = level V n (16 * q + 1 + b.val) k) (hf : ∀ b k, f b k = ∑ l, h b l * uf V l k)
    (hwf : wf = wrow V q (hi j)) (hwc : wc = wrow V q (lo j) + ∑ b, ∑ k, f b k * h b k * uh V k j) :
    ∑ b, f b j * h b j + (1 - ∑ b, Ideal.div 1 (1 + Ideal.exp (-(f b j + wf)))) * Ideal.tanh wc = level V (n + 1) q j := by
  obtain rfl : h = fun b k => level V n (16 * q + 1 + b.val) k := funext fun b => funext fun k => hh b k
  obtain rfl : f = fun b k => ∑ l, level V n (16 * q + 1 + b.val) l * uf V l k := funext fun b => funext fun k => hf b k
  subst hwf hwc
  rfl

/-- A leaf's row, put together from its pre-activations. -/
theorem leaf_put (q : ℕ) (wf wc : EReal) (j : Fin 256) (hwf : wf = wrow V q (hi j)) (hwc : wc = wrow V q (lo j)) :
    (1 - ∑ _ : Fin 1, Ideal.div 1 (1 + Ideal.exp (-wf))) * Ideal.tanh wc = level V 0 q j := by
  subst hwf hwc
  rw [Finset.univ_unique, Finset.sum_singleton]
  rfl

theorem add_put (a b a' b' : EReal) (ha : a = a') (hb : b = b') : FloatOps.addf (F := Ideal) (φ := .f32) a b = a' + b' := by
  subst ha hb
  rfl

/-! ## The leaves -/

theorem leaf_read (q : Fin 69905) (j : Fin 256) (hq : 4369 ≤ q.val) : res_main_v28 V (ix2 q j) = level V 0 q.val j := by
  obtain ⟨r, hr⟩ : ∃ r : Fin 65536, q.val = 4369 + r.val := ⟨⟨q.val - 4369, by omega⟩, by show _ = 4369 + (q.val - 4369); omega⟩
  unfold res_main_v28
  refine (set_hit (N := 69905) (C := 256) (B := 65536) scatter_S69905x256_S1_S65536x256_01_n_0_0_wf _ _ _ 4369 rfl q r j hr).trans ?_
  pointwise [res_main_v9]
  exact leaf_put V q.val _ _ j (pre_read V q.val _ hr.symm _ _ rfl) (pre_read V q.val _ hr.symm _ _ rfl)

variable {V}
variable (hE : InOrder V)

/-! ## Rows 273 to 4368 -/

include hE in
theorem l1_child (r : Fin 4096) (b : Fin 16) (k : Fin 256) :
    rows1 V (ix3 r b k) = level V 0 (16 * (273 + r.val) + 1 + b.val) k := by
  unfold rows1 res_main_v36
  refine (take_read (N := 69905) (C := 256) (R := 4096) (B := 16) gather_S69905x256_S4096x16x1_S4096x16x256_2_0_n_n_0_2_1256_wf _ _ r b k
    ⟨(273 + r.val) * 16 + b.val + 1, by omega⟩ ?_).trans ?_
  · pointwise [res_main_v29]
    exact wrap_word _ _ _ (by omega) ((child_read V _ b).trans (hE _))
  · refine (leaf_read V _ k (by show 4369 ≤ (273 + r.val) * 16 + b.val + 1; omega)).trans (congrArg (fun i => level V 0 i k) ?_)
    show (273 + r.val) * 16 + b.val + 1 = 16 * (273 + r.val) + 1 + b.val
    omega

theorem l1_gate (r : Fin 4096) (b : Fin 16) (k : Fin 256) :
    gate1 V (ix3 r b k) = ∑ i, rows1 V (ix3 r b i) * uf V i k := by
  unfold gate1 rows1
  pointwise [res_main_v37]
  rfl

theorem l1_forget (r : Fin 4096) (j : Fin 256) : res_main_v43 V (ix2 r (hi j)) = wrow V (273 + r.val) (hi j) := by
  unfold res_main_v43
  refine (add_miss (B := 4096) (C := 512) (D := 256) scatter_S4096x512_S1_S4096x256_01_n_1_0_wf _ _ _ _ rfl r (hi j)
    (by show 256 ≤ 256 + j.val; omega)).trans ?_
  pointwise []
  exact pre_read V _ _ rfl _ _ rfl

theorem l1_sum (x : FVec Ideal S4096x16x256 .f32) (r : Fin 4096) (j : Fin 256) :
    Host.reduceAdd x (constant (F := Ideal) S_ .f32 0x00000000#32) reducesTo_S4096x16x256_S4096x256_d1 h_S_ (ix2 r j)
      = ∑ b, x (ix3 r b j) := by
  pointwise []

theorem l1_prod (f h : FVec Ideal S4096x16x256 .f32) (U : FVec Ideal S256x256 .f32) (r : Fin 4096) (b : Fin 16) (j : Fin 256) :
    Host.dotGeneral (F := Ideal) dot_S4096x16x256_S256x256_S4096x16x256_2_0_01_1_n_n none (mulf f h) U (ix3 r b j)
      = ∑ k, f (ix3 r b k) * h (ix3 r b k) * U (ix2 k j) := by
  pointwise []

theorem l1_cand (r : Fin 4096) (j : Fin 256) :
    res_main_v43 V (ix2 r (lo j))
      = wrow V (273 + r.val) (lo j) + ∑ b, ∑ k, gate1 V (ix3 r b k) * rows1 V (ix3 r b k) * uh V k j := by
  unfold res_main_v43
  refine (add_hit (B := 4096) (C := 512) (D := 256) scatter_S4096x512_S1_S4096x256_01_n_1_0_wf _ _ _ _ rfl r (lo j) j rfl).trans
    (add_put _ _ _ _ ?_ ?_)
  · pointwise []
    exact pre_read V _ _ rfl _ _ rfl
  · exact (l1_sum _ r j).trans (Finset.sum_congr rfl fun b _ => l1_prod _ _ _ r b j)

/-- The update of these rows at one element, from the child rows, the forget products and the pre-activations. -/
theorem l1_upd (h f : FVec Ideal S4096x16x256 .f32) (wx : FVec Ideal S4096x512 .f32) (r : Fin 4096) (j : Fin 256) :
    (addf (Host.reduceAdd (mulf f h) (constant (F := Ideal) S_ .f32 0x00000000#32) reducesTo_S4096x16x256_S4096x256_d1 h_S_)
      (mulf (subf (broadcastInDim S4096x256 ![] bcast_S_S4096x256 (constant (F := Ideal) S_ .f32 0x3F800000#32))
        (Host.reduceAdd (Host.divf (broadcastInDim S4096x16x256 ![] bcast_S_S4096x16x256 (constant (F := Ideal) S_ .f32 0x3F800000#32)) (addf (broadcastInDim S4096x16x256 ![] bcast_S_S4096x16x256 (constant (F := Ideal) S_ .f32 0x3F800000#32)) (Host.exp (Host.negf (addf f (broadcastInDim S4096x16x256 ![0, 1, 2] bcast_S4096x1x256_S4096x16x256_0_1_2 (broadcastInDim S4096x1x256 ![0, 2] bcast_S4096x256_S4096x1x256_0_2 (extractStridedSlice S4096x256 ![0, 256] wx slices_S4096x512_S4096x256_0_256)))))))) (constant (F := Ideal) S_ .f32 0x00000000#32) reducesTo_S4096x16x256_S4096x256_d1 h_S_))
        (Host.tanh (extractStridedSlice S4096x256 ![0, 0] wx slices_S4096x512_S4096x256_0_0)))) (ix2 r j)
      = ∑ b, f (ix3 r b j) * h (ix3 r b j)
        + (1 - ∑ b, Ideal.div 1 (1 + Ideal.exp (-(f (ix3 r b j) + wx (ix2 r (hi j)))))) * Ideal.tanh (wx (ix2 r (lo j))) := by
  pointwise []
  rfl

include hE in
theorem l1_read (q : Fin 69905) (j : Fin 256) (h0 : 273 ≤ q.val) (h1 : q.val < 4369) :
    res_main_v64 V (ix2 q j) = level V 1 q.val j := by
  obtain ⟨r, hr⟩ : ∃ r : Fin 4096, q.val = 273 + r.val := ⟨⟨q.val - 273, by omega⟩, by show _ = 273 + (q.val - 273); omega⟩
  unfold res_main_v64
  refine (set_hit (N := 69905) (C := 256) (B := 4096) scatter_S69905x256_S1_S4096x256_01_n_0_0_wf _ _ _ 273 rfl q r j hr).trans ((l1_upd _ _ _ r j).trans ?_)
  refine (node_put V 0 (273 + r.val) (fun b k => rows1 V (ix3 r b k)) (fun b k => gate1 V (ix3 r b k))
    (res_main_v43 V (ix2 r (hi j))) (res_main_v43 V (ix2 r (lo j))) j (l1_child hE r) (l1_gate r)
    (l1_forget r j) (l1_cand r j)).trans ?_
  rw [hr]

theorem l1_keep (q : Fin 69905) (j : Fin 256) (h : 4369 ≤ q.val) : res_main_v64 V (ix2 q j) = res_main_v28 V (ix2 q j) := by
  unfold res_main_v64
  exact set_miss (N := 69905) (C := 256) (B := 4096) scatter_S69905x256_S1_S4096x256_01_n_0_0_wf _ _ _ 273 rfl q j (by omega)

/-! ## Rows 17 to 272 -/

include hE in
theorem l2_child (r : Fin 256) (b : Fin 16) (k : Fin 256) :
    rows2 V (ix3 r b k) = level V 1 (16 * (17 + r.val) + 1 + b.val) k := by
  unfold rows2 res_main_v72
  refine (take_read (N := 69905) (C := 256) (R := 256) (B := 16) gather_S69905x256_S256x16x1_S256x16x256_2_0_n_n_0_2_1256_wf _ _ r b k
    ⟨(17 + r.val) * 16 + b.val + 1, by omega⟩ ?_).trans ?_
  · pointwise [res_main_v65]
    exact wrap_word _ _ _ (by omega) ((child_read V _ b).trans (hE _))
  · refine (l1_read hE _ k (by show 273 ≤ (17 + r.val) * 16 + b.val + 1; omega) (by show (17 + r.val) * 16 + b.val + 1 < 4369; omega)).trans (congrArg (fun i => level V 1 i k) ?_)
    show (17 + r.val) * 16 + b.val + 1 = 16 * (17 + r.val) + 1 + b.val
    omega

theorem l2_gate (r : Fin 256) (b : Fin 16) (k : Fin 256) :
    gate2 V (ix3 r b k) = ∑ i, rows2 V (ix3 r b i) * uf V i k := by
  unfold gate2 rows2
  pointwise [res_main_v73]
  rfl

theorem l2_forget (r : Fin 256) (j : Fin 256) : res_main_v79 V (ix2 r (hi j)) = wrow V (17 + r.val) (hi j) := by
  unfold res_main_v79
  refine (add_miss (B := 256) (C := 512) (D := 256) scatter_S256x512_S1_S256x256_01_n_1_0_wf _ _ _ _ rfl r (hi j)
    (by show 256 ≤ 256 + j.val; omega)).trans ?_
  pointwise []
  exact pre_read V _ _ rfl _ _ rfl

theorem l2_sum (x : FVec Ideal S256x16x256 .f32) (r : Fin 256) (j : Fin 256) :
    Host.reduceAdd x (constant (F := Ideal) S_ .f32 0x00000000#32) reducesTo_S256x16x256_S256x256_d1 h_S_ (ix2 r j)
      = ∑ b, x (ix3 r b j) := by
  pointwise []

theorem l2_prod (f h : FVec Ideal S256x16x256 .f32) (U : FVec Ideal S256x256 .f32) (r : Fin 256) (b : Fin 16) (j : Fin 256) :
    Host.dotGeneral (F := Ideal) dot_S256x16x256_S256x256_S256x16x256_2_0_01_1_n_n none (mulf f h) U (ix3 r b j)
      = ∑ k, f (ix3 r b k) * h (ix3 r b k) * U (ix2 k j) := by
  pointwise []

theorem l2_cand (r : Fin 256) (j : Fin 256) :
    res_main_v79 V (ix2 r (lo j))
      = wrow V (17 + r.val) (lo j) + ∑ b, ∑ k, gate2 V (ix3 r b k) * rows2 V (ix3 r b k) * uh V k j := by
  unfold res_main_v79
  refine (add_hit (B := 256) (C := 512) (D := 256) scatter_S256x512_S1_S256x256_01_n_1_0_wf _ _ _ _ rfl r (lo j) j rfl).trans
    (add_put _ _ _ _ ?_ ?_)
  · pointwise []
    exact pre_read V _ _ rfl _ _ rfl
  · exact (l2_sum _ r j).trans (Finset.sum_congr rfl fun b _ => l2_prod _ _ _ r b j)

/-- The update of these rows at one element, from the child rows, the forget products and the pre-activations. -/
theorem l2_upd (h f : FVec Ideal S256x16x256 .f32) (wx : FVec Ideal S256x512 .f32) (r : Fin 256) (j : Fin 256) :
    (addf (Host.reduceAdd (mulf f h) (constant (F := Ideal) S_ .f32 0x00000000#32) reducesTo_S256x16x256_S256x256_d1 h_S_)
      (mulf (subf (broadcastInDim S256x256 ![] bcast_S_S256x256 (constant (F := Ideal) S_ .f32 0x3F800000#32))
        (Host.reduceAdd (Host.divf (broadcastInDim S256x16x256 ![] bcast_S_S256x16x256 (constant (F := Ideal) S_ .f32 0x3F800000#32)) (addf (broadcastInDim S256x16x256 ![] bcast_S_S256x16x256 (constant (F := Ideal) S_ .f32 0x3F800000#32)) (Host.exp (Host.negf (addf f (broadcastInDim S256x16x256 ![0, 1, 2] bcast_S256x1x256_S256x16x256_0_1_2 (broadcastInDim S256x1x256 ![0, 2] bcast_S256x256_S256x1x256_0_2 (extractStridedSlice S256x256 ![0, 256] wx slices_S256x512_S256x256_0_256)))))))) (constant (F := Ideal) S_ .f32 0x00000000#32) reducesTo_S256x16x256_S256x256_d1 h_S_))
        (Host.tanh (extractStridedSlice S256x256 ![0, 0] wx slices_S256x512_S256x256_0_0)))) (ix2 r j)
      = ∑ b, f (ix3 r b j) * h (ix3 r b j)
        + (1 - ∑ b, Ideal.div 1 (1 + Ideal.exp (-(f (ix3 r b j) + wx (ix2 r (hi j)))))) * Ideal.tanh (wx (ix2 r (lo j))) := by
  pointwise []
  rfl

include hE in
theorem l2_read (q : Fin 69905) (j : Fin 256) (h0 : 17 ≤ q.val) (h1 : q.val < 273) :
    res_main_v100 V (ix2 q j) = level V 2 q.val j := by
  obtain ⟨r, hr⟩ : ∃ r : Fin 256, q.val = 17 + r.val := ⟨⟨q.val - 17, by omega⟩, by show _ = 17 + (q.val - 17); omega⟩
  unfold res_main_v100
  refine (set_hit (N := 69905) (C := 256) (B := 256) scatter_S69905x256_S1_S256x256_01_n_0_0_wf _ _ _ 17 rfl q r j hr).trans ((l2_upd _ _ _ r j).trans ?_)
  refine (node_put V 1 (17 + r.val) (fun b k => rows2 V (ix3 r b k)) (fun b k => gate2 V (ix3 r b k))
    (res_main_v79 V (ix2 r (hi j))) (res_main_v79 V (ix2 r (lo j))) j (l2_child hE r) (l2_gate r)
    (l2_forget r j) (l2_cand r j)).trans ?_
  rw [hr]

theorem l2_keep (q : Fin 69905) (j : Fin 256) (h : 273 ≤ q.val) : res_main_v100 V (ix2 q j) = res_main_v64 V (ix2 q j) := by
  unfold res_main_v100
  exact set_miss (N := 69905) (C := 256) (B := 256) scatter_S69905x256_S1_S256x256_01_n_0_0_wf _ _ _ 17 rfl q j (by omega)

/-! ## Rows 1 to 16 -/

include hE in
theorem l3_child (r : Fin 16) (b : Fin 16) (k : Fin 256) :
    rows3 V (ix3 r b k) = level V 2 (16 * (1 + r.val) + 1 + b.val) k := by
  unfold rows3 res_main_v108
  refine (take_read (N := 69905) (C := 256) (R := 16) (B := 16) gather_S69905x256_S16x16x1_S16x16x256_2_0_n_n_0_2_1256_wf _ _ r b k
    ⟨(1 + r.val) * 16 + b.val + 1, by omega⟩ ?_).trans ?_
  · pointwise [res_main_v101]
    exact wrap_word _ _ _ (by omega) ((child_read V _ b).trans (hE _))
  · refine (l2_read hE _ k (by show 17 ≤ (1 + r.val) * 16 + b.val + 1; omega) (by show (1 + r.val) * 16 + b.val + 1 < 273; omega)).trans (congrArg (fun i => level V 2 i k) ?_)
    show (1 + r.val) * 16 + b.val + 1 = 16 * (1 + r.val) + 1 + b.val
    omega

theorem l3_gate (r : Fin 16) (b : Fin 16) (k : Fin 256) :
    gate3 V (ix3 r b k) = ∑ i, rows3 V (ix3 r b i) * uf V i k := by
  unfold gate3 rows3
  pointwise [res_main_v109]
  rfl

theorem l3_forget (r : Fin 16) (j : Fin 256) : res_main_v115 V (ix2 r (hi j)) = wrow V (1 + r.val) (hi j) := by
  unfold res_main_v115
  refine (add_miss (B := 16) (C := 512) (D := 256) scatter_S16x512_S1_S16x256_01_n_1_0_wf _ _ _ _ rfl r (hi j)
    (by show 256 ≤ 256 + j.val; omega)).trans ?_
  pointwise []
  exact pre_read V _ _ rfl _ _ rfl

theorem l3_sum (x : FVec Ideal S16x16x256 .f32) (r : Fin 16) (j : Fin 256) :
    Host.reduceAdd x (constant (F := Ideal) S_ .f32 0x00000000#32) reducesTo_S16x16x256_S16x256_d1 h_S_ (ix2 r j)
      = ∑ b, x (ix3 r b j) := by
  pointwise []

theorem l3_prod (f h : FVec Ideal S16x16x256 .f32) (U : FVec Ideal S256x256 .f32) (r : Fin 16) (b : Fin 16) (j : Fin 256) :
    Host.dotGeneral (F := Ideal) dot_S16x16x256_S256x256_S16x16x256_2_0_01_1_n_n none (mulf f h) U (ix3 r b j)
      = ∑ k, f (ix3 r b k) * h (ix3 r b k) * U (ix2 k j) := by
  pointwise []

theorem l3_cand (r : Fin 16) (j : Fin 256) :
    res_main_v115 V (ix2 r (lo j))
      = wrow V (1 + r.val) (lo j) + ∑ b, ∑ k, gate3 V (ix3 r b k) * rows3 V (ix3 r b k) * uh V k j := by
  unfold res_main_v115
  refine (add_hit (B := 16) (C := 512) (D := 256) scatter_S16x512_S1_S16x256_01_n_1_0_wf _ _ _ _ rfl r (lo j) j rfl).trans
    (add_put _ _ _ _ ?_ ?_)
  · pointwise []
    exact pre_read V _ _ rfl _ _ rfl
  · exact (l3_sum _ r j).trans (Finset.sum_congr rfl fun b _ => l3_prod _ _ _ r b j)

/-- The update of these rows at one element, from the child rows, the forget products and the pre-activations. -/
theorem l3_upd (h f : FVec Ideal S16x16x256 .f32) (wx : FVec Ideal S16x512 .f32) (r : Fin 16) (j : Fin 256) :
    (addf (Host.reduceAdd (mulf f h) (constant (F := Ideal) S_ .f32 0x00000000#32) reducesTo_S16x16x256_S16x256_d1 h_S_)
      (mulf (subf (broadcastInDim S16x256 ![] bcast_S_S16x256 (constant (F := Ideal) S_ .f32 0x3F800000#32))
        (Host.reduceAdd (Host.divf (broadcastInDim S16x16x256 ![] bcast_S_S16x16x256 (constant (F := Ideal) S_ .f32 0x3F800000#32)) (addf (broadcastInDim S16x16x256 ![] bcast_S_S16x16x256 (constant (F := Ideal) S_ .f32 0x3F800000#32)) (Host.exp (Host.negf (addf f (broadcastInDim S16x16x256 ![0, 1, 2] bcast_S16x1x256_S16x16x256_0_1_2 (broadcastInDim S16x1x256 ![0, 2] bcast_S16x256_S16x1x256_0_2 (extractStridedSlice S16x256 ![0, 256] wx slices_S16x512_S16x256_0_256)))))))) (constant (F := Ideal) S_ .f32 0x00000000#32) reducesTo_S16x16x256_S16x256_d1 h_S_))
        (Host.tanh (extractStridedSlice S16x256 ![0, 0] wx slices_S16x512_S16x256_0_0)))) (ix2 r j)
      = ∑ b, f (ix3 r b j) * h (ix3 r b j)
        + (1 - ∑ b, Ideal.div 1 (1 + Ideal.exp (-(f (ix3 r b j) + wx (ix2 r (hi j)))))) * Ideal.tanh (wx (ix2 r (lo j))) := by
  pointwise []
  rfl

include hE in
theorem l3_read (q : Fin 69905) (j : Fin 256) (h0 : 1 ≤ q.val) (h1 : q.val < 17) :
    res_main_v136 V (ix2 q j) = level V 3 q.val j := by
  obtain ⟨r, hr⟩ : ∃ r : Fin 16, q.val = 1 + r.val := ⟨⟨q.val - 1, by omega⟩, by show _ = 1 + (q.val - 1); omega⟩
  unfold res_main_v136
  refine (set_hit (N := 69905) (C := 256) (B := 16) scatter_S69905x256_S1_S16x256_01_n_0_0_wf _ _ _ 1 rfl q r j hr).trans ((l3_upd _ _ _ r j).trans ?_)
  refine (node_put V 2 (1 + r.val) (fun b k => rows3 V (ix3 r b k)) (fun b k => gate3 V (ix3 r b k))
    (res_main_v115 V (ix2 r (hi j))) (res_main_v115 V (ix2 r (lo j))) j (l3_child hE r) (l3_gate r)
    (l3_forget r j) (l3_cand r j)).trans ?_
  rw [hr]

theorem l3_keep (q : Fin 69905) (j : Fin 256) (h : 17 ≤ q.val) : res_main_v136 V (ix2 q j) = res_main_v100 V (ix2 q j) := by
  unfold res_main_v136
  exact set_miss (N := 69905) (C := 256) (B := 16) scatter_S69905x256_S1_S16x256_01_n_0_0_wf _ _ _ 1 rfl q j (by omega)

/-! ## Rows 0 to 0 -/

include hE in
theorem l4_child (r : Fin 1) (b : Fin 16) (k : Fin 256) :
    rows4 V (ix3 r b k) = level V 3 (16 * (r.val) + 1 + b.val) k := by
  unfold rows4 res_main_v144
  refine (take_read (N := 69905) (C := 256) (R := 1) (B := 16) gather_S69905x256_S1x16x1_S1x16x256_2_0_n_n_0_2_1256_wf _ _ r b k
    ⟨r.val * 16 + b.val + 1, by omega⟩ ?_).trans ?_
  · pointwise [res_main_v137]
    exact wrap_word _ _ _ (by omega) ((child_read V _ b).trans ((hE _).trans (congrArg (BitVec.ofNat 32)
      (by show 0 * 16 + b.val + 1 = b.val + 1; omega))))
  · refine (l3_read hE _ k (by show 1 ≤ r.val * 16 + b.val + 1; omega) (by show r.val * 16 + b.val + 1 < 17; omega)).trans (congrArg (fun i => level V 3 i k) ?_)
    show r.val * 16 + b.val + 1 = 16 * (r.val) + 1 + b.val
    omega

theorem l4_gate (r : Fin 1) (b : Fin 16) (k : Fin 256) :
    gate4 V (ix3 r b k) = ∑ i, rows4 V (ix3 r b i) * uf V i k := by
  unfold gate4 rows4
  pointwise [res_main_v145]
  rfl

theorem l4_forget (r : Fin 1) (j : Fin 256) : res_main_v151 V (ix2 r (hi j)) = wrow V (r.val) (hi j) := by
  unfold res_main_v151
  refine (add_miss (B := 1) (C := 512) (D := 256) scatter_S1x512_S1_S1x256_01_n_1_0_wf _ _ _ _ rfl r (hi j)
    (by show 256 ≤ 256 + j.val; omega)).trans ?_
  pointwise []
  exact pre_read V _ _ rfl _ _ rfl

theorem l4_sum (x : FVec Ideal S1x16x256 .f32) (r : Fin 1) (j : Fin 256) :
    Host.reduceAdd x (constant (F := Ideal) S_ .f32 0x00000000#32) reducesTo_S1x16x256_S1x256_d1 h_S_ (ix2 r j)
      = ∑ b, x (ix3 r b j) := by
  obtain rfl : r = 0 := Subsingleton.elim _ _
  pointwise []

theorem l4_prod (f h : FVec Ideal S1x16x256 .f32) (U : FVec Ideal S256x256 .f32) (r : Fin 1) (b : Fin 16) (j : Fin 256) :
    Host.dotGeneral (F := Ideal) dot_S1x16x256_S256x256_S1x16x256_2_0_01_1_n_n none (mulf f h) U (ix3 r b j)
      = ∑ k, f (ix3 r b k) * h (ix3 r b k) * U (ix2 k j) := by
  obtain rfl : r = 0 := Subsingleton.elim _ _
  pointwise []

theorem l4_cand (r : Fin 1) (j : Fin 256) :
    res_main_v151 V (ix2 r (lo j))
      = wrow V (r.val) (lo j) + ∑ b, ∑ k, gate4 V (ix3 r b k) * rows4 V (ix3 r b k) * uh V k j := by
  unfold res_main_v151
  refine (add_hit (B := 1) (C := 512) (D := 256) scatter_S1x512_S1_S1x256_01_n_1_0_wf _ _ _ _ rfl r (lo j) j rfl).trans
    (add_put _ _ _ _ ?_ ?_)
  · pointwise []
    exact pre_read V _ _ rfl _ _ rfl
  · exact (l4_sum _ r j).trans (Finset.sum_congr rfl fun b _ => l4_prod _ _ _ r b j)

/-- The update of these rows at one element, from the child rows, the forget products and the pre-activations. -/
theorem l4_upd (h f : FVec Ideal S1x16x256 .f32) (wx : FVec Ideal S1x512 .f32) (r : Fin 1) (j : Fin 256) :
    (addf (Host.reduceAdd (mulf f h) (constant (F := Ideal) S_ .f32 0x00000000#32) reducesTo_S1x16x256_S1x256_d1 h_S_)
      (mulf (subf (broadcastInDim S1x256 ![] bcast_S_S1x256 (constant (F := Ideal) S_ .f32 0x3F800000#32))
        (Host.reduceAdd (Host.divf (broadcastInDim S1x16x256 ![] bcast_S_S1x16x256 (constant (F := Ideal) S_ .f32 0x3F800000#32)) (addf (broadcastInDim S1x16x256 ![] bcast_S_S1x16x256 (constant (F := Ideal) S_ .f32 0x3F800000#32)) (Host.exp (Host.negf (addf f (broadcastInDim S1x16x256 ![0, 1, 2] bcast_S1x1x256_S1x16x256_0_1_2 (broadcastInDim S1x1x256 ![0, 2] bcast_S1x256_S1x1x256_0_2 (extractStridedSlice S1x256 ![0, 256] wx slices_S1x512_S1x256_0_256)))))))) (constant (F := Ideal) S_ .f32 0x00000000#32) reducesTo_S1x16x256_S1x256_d1 h_S_))
        (Host.tanh (extractStridedSlice S1x256 ![0, 0] wx slices_S1x512_S1x256_0_0)))) (ix2 r j)
      = ∑ b, f (ix3 r b j) * h (ix3 r b j)
        + (1 - ∑ b, Ideal.div 1 (1 + Ideal.exp (-(f (ix3 r b j) + wx (ix2 r (hi j)))))) * Ideal.tanh (wx (ix2 r (lo j))) := by
  obtain rfl : r = 0 := Subsingleton.elim _ _
  pointwise []
  rfl

/-! ## The whole table -/

/-- The tree over the reference's arguments. -/
abbrev treeR (V : Valuation τ sig (Elt Ideal)) (r : ℕ) (j : Fin 256) : EReal := tree (uf V) (uh V) (wrow V) r j

include hE in
/-- The reference's result is the tree. -/
theorem result_tree (q : Fin 69905) (j : Fin 256) :
    (Host.scatter scatter_S69905x256_S1_S1x256_01_n_0_0 (fun _ b => b) (res_main_v136 V) (broadcastInDim S1 ![] bcast_S_S1 (constantI S_ 32 0#32)) (addf (Host.reduceAdd (mulf (res_main_v145 V) (res_main_v144 V)) (constant (F := Ideal) S_ .f32 0x00000000#32) reducesTo_S1x16x256_S1x256_d1 h_S_) (mulf (subf (broadcastInDim S1x256 ![] bcast_S_S1x256 (constant (F := Ideal) S_ .f32 0x3F800000#32)) (Host.reduceAdd (Host.divf (broadcastInDim S1x16x256 ![] bcast_S_S1x16x256 (constant (F := Ideal) S_ .f32 0x3F800000#32)) (addf (broadcastInDim S1x16x256 ![] bcast_S_S1x16x256 (constant (F := Ideal) S_ .f32 0x3F800000#32)) (Host.exp (Host.negf (addf (res_main_v145 V) (broadcastInDim S1x16x256 ![0, 1, 2] bcast_S1x1x256_S1x16x256_0_1_2 (broadcastInDim S1x1x256 ![0, 2] bcast_S1x256_S1x1x256_0_2 (extractStridedSlice S1x256 ![0, 256] (res_main_v151 V) slices_S1x512_S1x256_0_256)))))))) (constant (F := Ideal) S_ .f32 0x00000000#32) reducesTo_S1x16x256_S1x256_d1 h_S_)) (Host.tanh (extractStridedSlice S1x256 ![0, 0] (res_main_v151 V) slices_S1x512_S1x256_0_0))))) (ix2 q j) = treeR V q.val j := by
  unfold treeR tree
  split
  · next h0 =>
    have hr : q.val = 0 := by omega
    refine (set_hit (N := 69905) (C := 256) (B := 1) scatter_S69905x256_S1_S1x256_01_n_0_0_wf _ _ _ 0 rfl q (0 : Fin 1) j
      (by show q.val = 0 + 0; omega)).trans ((l4_upd _ _ _ 0 j).trans ?_)
    refine (node_put V 3 0 (fun b k => rows4 V (ix3 0 b k)) (fun b k => gate4 V (ix3 0 b k))
      (res_main_v151 V (ix2 0 (hi j))) (res_main_v151 V (ix2 0 (lo j))) j (l4_child hE 0) (l4_gate 0) (l4_forget 0 j) (l4_cand 0 j)).trans ?_
    rw [hr]
  · next h0 =>
    refine (set_miss (N := 69905) (C := 256) (B := 1) scatter_S69905x256_S1_S1x256_01_n_0_0_wf _ _ _ 0 rfl q j (by omega)).trans ?_
    split
    · next h1 => exact l3_read hE q j (by omega) h1
    · next h1 =>
      rw [l3_keep q j (by omega)]
      split
      · next h2 => exact l2_read hE q j (by omega) h2
      · next h2 =>
        rw [l2_keep q j (by omega)]
        split
        · next h3 => exact l1_read hE q j (by omega) h3
        · next h3 =>
          rw [l1_keep q j (by omega)]
          exact leaf_read V q j (by omega)

end Cert.ReferenceIdeal.Hand
-- ==== Proof.Equation.lean ====
/-
  The equation: over arguments that satisfy `tree_inputs`, the reference's tree is the kernel's tree.

  Both trees are the one function `tree` of the two recurrent matrices and of the rows' pre-activations, so it is enough that the
  two programs read those alike. The kernel's bias is a row of a reshaped array; the reference reads the argument itself.
-/
module

public import proofs.«01_k».proof.Proof.Launch
public import proofs.«01_k».proof.Proof.KernelTree
public import proofs.«01_k».proof.Proof.ReferenceTree
public import proofs.«01_k».proof.Proof.Inputs
public import Idealize.ShloMosaic.Lib.StableHlo.ReadAt

@[expose] public section

set_option maxRecDepth 16384

noncomputable section

namespace Cert.Equation

open Idealize.ShloMosaic Idealize.ShloMosaic.TcCoe Cert.Tree

section Trees

variable (V : Valuation Cert.ReferenceIdeal.τ Cert.ReferenceIdeal.sig (Elt Ideal)) (I : Cert.KernelIdeal.Hand.Ins Ideal)
  (hX : Cert.ReferenceIdeal.Hand.argX V = I.X) (hW : Cert.ReferenceIdeal.Hand.argW V = I.W)
  (hB : ∀ j : Fin 512, Cert.ReferenceIdeal.Hand.argB V (ix1 j) = I.wb (ix2 (0 : Fin 1) j))
  (hUf : Cert.ReferenceIdeal.Hand.argUf V = I.Uf) (hUh : Cert.ReferenceIdeal.Hand.argUh V = I.Uh)

include hX in
/-- The same feature rows. -/
theorem xrow_eq (r : ℕ) (k : Fin 256) : Cert.ReferenceIdeal.Hand.xrow V r k = Cert.KernelIdeal.Hand.xrow I r k := by
  unfold Cert.ReferenceIdeal.Hand.xrow Cert.KernelIdeal.Hand.xrow
  rw [hX]
  rfl

include hX hW hB in
/-- The same pre-activations. -/
theorem wrow_eq (r : ℕ) (j : Fin 512) : Cert.ReferenceIdeal.Hand.wrow V r j = Cert.KernelIdeal.Hand.wrow I r j := by
  unfold Cert.ReferenceIdeal.Hand.wrow Cert.KernelIdeal.Hand.wrow Cert.KernelIdeal.Hand.pre
  rw [hB j, hW]
  simp only [xrow_eq V I hX]

include hX hW hB hUf hUh in
/-- The same tree. -/
theorem tree_eq (r : ℕ) (j : Fin 256) : Cert.ReferenceIdeal.Hand.treeR V r j = Cert.KernelIdeal.Hand.treeK I r j := by
  have ef : Cert.ReferenceIdeal.Hand.uf V = Cert.KernelIdeal.Hand.mat I.Uf := by
    funext k j; unfold Cert.ReferenceIdeal.Hand.uf Cert.KernelIdeal.Hand.mat; rw [hUf]
  have eh : Cert.ReferenceIdeal.Hand.uh V = Cert.KernelIdeal.Hand.mat I.Uh := by
    funext k j; unfold Cert.ReferenceIdeal.Hand.uh Cert.KernelIdeal.Hand.mat; rw [hUh]
  have ew : Cert.ReferenceIdeal.Hand.wrow V = Cert.KernelIdeal.Hand.wrow I := by
    funext r j; exact wrow_eq V I hX hW hB r j
  unfold Cert.ReferenceIdeal.Hand.treeR Cert.KernelIdeal.Hand.treeK
  rw [ef, eh, ew]

end Trees

/-- The bias as the kernel finds it: one row, holding the argument's entries. -/
theorem bias_row (m : (ℓ : Loc Cert.KernelIdeal.nD Cert.KernelIdeal.τ Cert.KernelIdeal.sig) → Buf (Elt Ideal) ℓ)
    (c : Dev Cert.KernelIdeal.nD) (j : Fin 512) :
    (Cert.KernelIdeal.Hand.ins m c).wb (ix2 (0 : Fin 1) j)
      = m ((c : Thread Cert.KernelIdeal.nD Cert.KernelIdeal.τ).loc Cert.KernelIdeal.main_arg3) (ix1 j) := by
  unfold Cert.KernelIdeal.Hand.ins
  show Cert.KernelIdeal.Gen.V m c Cert.KernelIdeal.main_v0 (ix2 (0 : Fin 1) j) = _
  unfold Cert.KernelIdeal.Gen.V
  after_reads_at

variable [Cert.Pre_tree_inputs.Facts]

/-- What `tree_inputs` says of core `c`'s arguments. -/
abbrev Holds (m : (ℓ : Loc Cert.KernelIdeal.nD Cert.KernelIdeal.τ Cert.KernelIdeal.sig) → Buf (Elt Ideal) ℓ)
    (c : Dev Cert.KernelIdeal.nD) : Prop :=
  let bits := Cert.Pre_tree_inputs.fn (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
  bits.1 = (fun _ => 1#1) ∧ bits.2.1 = (fun _ => 1#1) ∧ bits.2.2 = (fun _ => 1#1)

/-- The two programs hold the same arguments on core `c`. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

open Cert.ReferenceIdeal Cert.ReferenceIdeal.Gen Cert.ReferenceIdeal.Value StableHlo in
/-- At a launch of the two programs on the same arguments, satisfying `tree_inputs`: what the reference leaves is what the kernel
    leaves. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hp : Holds m c) (ha : Agree m m' c) :
    (Host.scatter scatter_S69905x256_S1_S1x256_01_n_0_0 (fun _ b => b) (res_main_v136 (launchContents m' c)) (broadcastInDim S1 ![] bcast_S_S1 (constantI S_ 32 0#32)) (addf (Host.reduceAdd (mulf (res_main_v145 (launchContents m' c)) (res_main_v144 (launchContents m' c))) (constant (F := Ideal) S_ .f32 0x00000000#32) reducesTo_S1x16x256_S1x256_d1 h_S_) (mulf (subf (broadcastInDim S1x256 ![] bcast_S_S1x256 (constant (F := Ideal) S_ .f32 0x3F800000#32)) (Host.reduceAdd (Host.divf (broadcastInDim S1x16x256 ![] bcast_S_S1x16x256 (constant (F := Ideal) S_ .f32 0x3F800000#32)) (addf (broadcastInDim S1x16x256 ![] bcast_S_S1x16x256 (constant (F := Ideal) S_ .f32 0x3F800000#32)) (Host.exp (Host.negf (addf (res_main_v145 (launchContents m' c)) (broadcastInDim S1x16x256 ![0, 1, 2] bcast_S1x1x256_S1x16x256_0_1_2 (broadcastInDim S1x1x256 ![0, 2] bcast_S1x256_S1x1x256_0_2 (extractStridedSlice S1x256 ![0, 256] (res_main_v151 (launchContents m' c)) slices_S1x512_S1x256_0_256)))))))) (constant (F := Ideal) S_ .f32 0x00000000#32) reducesTo_S1x16x256_S1x256_d1 h_S_)) (Host.tanh (extractStridedSlice S1x256 ![0, 0] (res_main_v151 (launchContents m' c)) slices_S1x512_S1x256_0_0))))) = Cert.KernelIdeal.Hand.G (Cert.KernelIdeal.Hand.ins m c) := by
  obtain ⟨a0, a1, a2, a3, a4, a5⟩ := ha
  obtain ⟨p0, p1, p2⟩ := hp
  have hE : Cert.ReferenceIdeal.Hand.InOrder (launchContents m' c) := fun e =>
    (congrFun a1 (ix2 (0 : Fin 2) e)).trans (Cert.Pre_tree_inputs.in_order _ _ _ _ _ _ p0 e)
  have hI : Cert.KernelIdeal.Hand.RealMats (Cert.KernelIdeal.Hand.ins m c) := by
    refine ⟨fun k j => ?_, fun k j => ?_⟩
    · show IsReal (Cert.KernelIdeal.Gen.V m c Cert.KernelIdeal.main_arg5 (ix2 k j))
      rw [Cert.KernelIdeal.Gen.V_main_arg5]
      exact Cert.Pre_tree_inputs.real_uf _ _ _ _ _ _ p2 k j
    · show IsReal (Cert.KernelIdeal.Gen.V m c Cert.KernelIdeal.main_arg4 (ix2 k j))
      rw [Cert.KernelIdeal.Gen.V_main_arg4]
      exact Cert.Pre_tree_inputs.real_uh _ _ _ _ _ _ p1 k j
  funext i
  obtain ⟨q, j, rfl⟩ : ∃ (q : Fin 69905) (j : Fin 256), i = ix2 q j := ⟨i 0, i 1, by
    funext a
    match a with
    | 0 => rfl
    | 1 => rfl⟩
  refine (Cert.ReferenceIdeal.Hand.result_tree (V := launchContents m' c) hE q j).trans (Eq.trans ?_
    (Cert.KernelIdeal.Hand.G_tree hI q j).symm)
  exact tree_eq (launchContents m' c) (Cert.KernelIdeal.Hand.ins m c)
    (a0.trans (Cert.KernelIdeal.Gen.V_main_arg0 m c).symm) (a2.trans (Cert.KernelIdeal.Gen.V_main_arg2 m c).symm)
    (fun j => (congrFun a3 (ix1 j)).trans (bias_row m c j).symm)
    (a5.trans (Cert.KernelIdeal.Gen.V_main_arg5 m c).symm) (a4.trans (Cert.KernelIdeal.Gen.V_main_arg4 m c).symm) q.val j

end Cert.Equation

end
-- ==== Proof.lean ====
/-
  The certificate: the frames of the kernel, of its reading over the extended reals and of the reference; and the equation of the two
  results over arguments that satisfy `tree_inputs`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Twin
public import proofs.«01_k».proof.Proof.Inputs
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel at machine words terminates, keeps its arguments and leaves every counter at zero. -/
theorem frame_Kernel : Cert.quiescent_Kernel := fun m g _ => Cert.Kernel.Hand.run m g

/-- So does the kernel read over the extended reals. -/
theorem frame_KernelIdeal : Cert.quiescent_KernelIdeal := fun m g _ =>
  θ_run_mono (Cert.KernelIdeal.Hand.run (F := Ideal) m g) fun _ h => h.1

/-- So does the reference, which declares no semaphore. -/
theorem frame_ReferenceIdeal : Cert.quiescent_ReferenceIdeal := fun m g _ =>
  θ_run_mono (Cert.ReferenceIdeal.Value.run (F := Ideal) m g) fun r h =>
    ⟨fun c => (h c).2, sem_eq_zero_of_no_sems (by decide) r.2⟩

/-- The same two frames at the launches the equation speaks of. -/
theorem frame_KernelIdeal_pre :
    Cert.quiescent_KernelIdeal_pre_tree_inputs (hPre_tree_inputs := Cert.Pre_tree_inputs.facts) := fun m g _ =>
  θ_run_mono (Cert.KernelIdeal.Hand.run (F := Ideal) m g) fun _ h => h.1

theorem frame_ReferenceIdeal_pre :
    Cert.quiescent_ReferenceIdeal_pre_tree_inputs (hPre_tree_inputs := Cert.Pre_tree_inputs.facts) := fun m g _ =>
  θ_run_mono (Cert.ReferenceIdeal.Value.run (F := Ideal) m g) fun r h =>
    ⟨fun c => (h c).2, sem_eq_zero_of_no_sems (by decide) r.2⟩

/-- Over the extended reals the kernel and the reference leave the same array: the tree, of the same arguments. -/
theorem algebraic :
    Cert.algebraic_KernelIdeal_ReferenceIdeal_pre_tree_inputs (hPre_tree_inputs := Cert.Pre_tree_inputs.facts) :=
  fun m g m' g' hp ha =>
    ⟨fun c => Cert.KernelIdeal.Hand.G (Cert.KernelIdeal.Hand.ins m c),
      θ_run_mono (Cert.KernelIdeal.Hand.run (F := Ideal) m g) fun _ h c => ⟨h.2 c, h.1.1 c⟩,
      θ_run_mono (Cert.ReferenceIdeal.Value.run (F := Ideal) m' g') fun _ h c =>
        ⟨(h c).1.trans (haveI := Cert.Pre_tree_inputs.facts; Cert.Equation.result_eq m m' c (hp c) (ha c)), (h c).2⟩⟩

theorem claim : Cert.Claim := ⟨Cert.Kernel.Gen.facts, Cert.KernelIdeal.Gen.facts, Cert.ReferenceIdeal.Gen.facts,
  Cert.Pre_tree_inputs.facts, frame_Kernel, frame_KernelIdeal, frame_KernelIdeal_pre, frame_ReferenceIdeal, frame_ReferenceIdeal_pre,
  trivial, algebraic⟩

end Cert.Proof

end
